-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "scale" .f32 0x3E38AA3B#32 ((8⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v48_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v48_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "unit" .f32 0x3DB504F3#32 (((Real.sqrt 128)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_exist.lean ====
abbrev S139264x8x128 : Shape := ⟨3, ![139264, 8, 128]⟩
abbrev S136 : Shape := ⟨1, ![136]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S139264x8x128 .f32) (main_arg1 : IVec S136 32) (main_arg2 : FVec F S8x1024x3584 .f32) (main_arg3 : FVec F S8x1024x3584 .f32) (main_arg4 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 1 := constantI S_ 1 1#1
  let main_v2 : IVec S_ 1 := (fun x v => Host.reduce IntOp.andi x v reducesTo_S136_S_d0 h_S_) main_v1 main_c_0
  main_v2
-- ==== Kernel.lean ====
abbrev S65536x512 : Shape := ⟨2, ![65536, 512]⟩
abbrev S65536x128 : Shape := ⟨2, ![65536, 128]⟩
abbrev S65536x8192 : Shape := ⟨2, ![65536, 8192]⟩
abbrev S128 : Shape := ⟨1, ![128]⟩
abbrev S16x4096x512 : Shape := ⟨3, ![16, 4096, 512]⟩
abbrev S16x4096x128 : Shape := ⟨3, ![16, 4096, 128]⟩
abbrev S16x4096x8192 : Shape := ⟨3, ![16, 4096, 8192]⟩
abbrev S1x128 : Shape := ⟨2, ![1, 128]⟩
abbrev S4x512x512 : Shape := ⟨3, ![4, 512, 512]⟩
abbrev S4x512x128 : Shape := ⟨3, ![4, 512, 128]⟩
abbrev S16x128x128 : Shape := ⟨3, ![16, 128, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S1x1x128 : Shape := ⟨3, ![1, 1, 128]⟩
abbrev S1 : Shape := ⟨1, ![1]⟩
abbrev S1x1 : Shape := ⟨2, ![1, 1]⟩
abbrev S64x64 : Shape := ⟨2, ![64, 64]⟩
abbrev S64 : Shape := ⟨1, ![64]⟩
abbrev S64x1 : Shape := ⟨2, ![64, 1]⟩

abbrev nBuf : Space → Nat
  | .hbm => 17
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x128, .f32⟩
  | .hbm, ⟨6, _⟩ => ⟨S65536x8192, .bf16⟩
  | .hbm, ⟨7, _⟩ => ⟨S128, .f32⟩
  | .hbm, ⟨8, _⟩ => ⟨S16x4096x512, .f32⟩
  | .hbm, ⟨9, _⟩ => ⟨S16x4096x512, .bf16⟩
  | .hbm, ⟨10, _⟩ => ⟨S16x4096x512, .bf16⟩
  | .hbm, ⟨11, _⟩ => ⟨S16x4096x512, .bf16⟩
  | .hbm, ⟨12, _⟩ => ⟨S16x4096x512, .bf16⟩
  | .hbm, ⟨13, _⟩ => ⟨S16x4096x128, .f32⟩
  | .hbm, ⟨14, _⟩ => ⟨S16x4096x8192, .bf16⟩
  | .hbm, ⟨15, _⟩ => ⟨S1x128, .f32⟩
  | .hbm, ⟨16, _⟩ => ⟨S16x4096x512, .bf16⟩
  | .local _ .vmem, ⟨0, _⟩ => ⟨S4x512x512, .f32⟩
  | .local _ .vmem, ⟨1, _⟩ => ⟨S4x512x512, .f32⟩
  | .local _ .vmem, ⟨2, _⟩ => ⟨S4x512x512, .bf16⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x512, .bf16⟩
  | .local _ .vmem, ⟨7, _⟩ => ⟨S4x512x512, .bf16⟩
  | .local _ .vmem, ⟨8, _⟩ => ⟨S4x512x512, .bf16⟩
  | .local _ .vmem, ⟨9, _⟩ => ⟨S4x512x512, .bf16⟩
  | .local _ .vmem, ⟨10, _⟩ => ⟨S4x512x128, .f32⟩
  | .local _ .vmem, ⟨11, _⟩ => ⟨S4x512x128, .f32⟩
  | .local _ .vmem, ⟨12, _⟩ => ⟨S4x512x512, .bf16⟩
  | .local _ .vmem, ⟨13, _⟩ => ⟨S4x512x512, .bf16⟩
  | .local _ .vmem, ⟨14, _⟩ => ⟨S1x128, .f32⟩
  | .local _ .vmem, ⟨15, _⟩ => ⟨S4x512x512, .bf16⟩
  | .local _ .vmem, ⟨16, _⟩ => ⟨S4x512x512, .bf16⟩
  | .local _ .vmem, ⟨17, _⟩ => ⟨S16x128x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  v6
def k0_off1 (k0_t1 : Fin k0_t1_loop.trips) : Fin 3 → Nat :=
  let c0_37 : Index := 0#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v56 : Index := Scalar.indexCast v7
  let c0_38 : Index := 0#32
  ![0, v56.toNat, 0]
def k0_off2 (k0_t1 : Fin k0_t1_loop.trips) : Fin 3 → Nat :=
  let c0_41 : Index := 0#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v64 : Index := Scalar.indexCast v7
  let c128 : Index := 128#32
  ![0, v64.toNat, 128]
def k0_off3 (k0_t1 : Fin k0_t1_loop.trips) : Fin 3 → Nat :=
  let c0_45 : Index := 0#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v72 : Index := Scalar.indexCast v7
  let c256 : Index := 256#32
  ![0, v72.toNat, 256]
def k0_off4 (k0_t1 : Fin k0_t1_loop.trips) : Fin 3 → Nat :=
  let c0_49 : Index := 0#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v80 : Index := Scalar.indexCast v7
  let c384 : Index := 384#32
  ![0, v80.toNat, 384]
def k0_off5 (k0_t1 : Fin k0_t1_loop.trips) : Fin 3 → Nat :=
  let c1_53 : Index := 1#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v88 : Index := Scalar.indexCast v7
  let c0_54 : Index := 0#32
  ![1, v88.toNat, 0]
def k0_off6 (k0_t1 : Fin k0_t1_loop.trips) : Fin 3 → Nat :=
  let c1_58 : Index := 1#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v96 : Index := Scalar.indexCast v7
  let c128_59 : Index := 128#32
  ![1, v96.toNat, 128]
def k0_off7 (k0_t1 : Fin k0_t1_loop.trips) : Fin 3 → Nat :=
  let c1_63 : Index := 1#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v104 : Index := Scalar.indexCast v7
  let c256_64 : Index := 256#32
  ![1, v104.toNat, 256]
def k0_off8 (k0_t1 : Fin k0_t1_loop.trips) : Fin 3 → Nat :=
  let c1_68 : Index := 1#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v112 : Index := Scalar.indexCast v7
  let c384_69 : Index := 384#32
  ![1, v112.toNat, 384]
def k0_off9 (k0_t1 : Fin k0_t1_loop.trips) : Fin 3 → Nat :=
  let c2_73 : Index := 2#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v120 : Index := Scalar.indexCast v7
  let c0_74 : Index := 0#32
  ![2, v120.toNat, 0]
def k0_off10 (k0_t1 : Fin k0_t1_loop.trips) : Fin 3 → Nat :=
  let c2_78 : Index := 2#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v128 : Index := Scalar.indexCast v7
  let c128_79 : Index := 128#32
  ![2, v128.toNat, 128]
def k0_off11 (k0_t1 : Fin k0_t1_loop.trips) : Fin 3 → Nat :=
  let c2_83 : Index := 2#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v136 : Index := Scalar.indexCast v7
  let c256_84 : Index := 256#32
  ![2, v136.toNat, 256]
def k0_off12 (k0_t1 : Fin k0_t1_loop.trips) : Fin 3 → Nat :=
  let c2_88 : Index := 2#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v144 : Index := Scalar.indexCast v7
  let c384_89 : Index := 384#32
  ![2, v144.toNat, 384]
def k0_off13 (k0_t1 : Fin k0_t1_loop.trips) : Fin 3 → Nat :=
  let c3_93 : Index := 3#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v152 : Index := Scalar.indexCast v7
  let c0_94 : Index := 0#32
  ![3, v152.toNat, 0]
def k0_off14 (k0_t1 : Fin k0_t1_loop.trips) : Fin 3 → Nat :=
  let c3_98 : Index := 3#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v160 : Index := Scalar.indexCast v7
  let c128_99 : Index := 128#32
  ![3, v160.toNat, 128]
def k0_off15 (k0_t1 : Fin k0_t1_loop.trips) : Fin 3 → Nat :=
  let c3_103 : Index := 3#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v168 : Index := Scalar.indexCast v7
  let c256_104 : Index := 256#32
  ![3, v168.toNat, 256]
def k0_off16 (k0_t1 : Fin k0_t1_loop.trips) : Fin 3 → Nat :=
  let c3_108 : Index := 3#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let v176 : Index := Scalar.indexCast v7
  let c384_109 : Index := 384#32
  ![3, v176.toNat, 384]
def k0_off17 (k0_t1 : Fin k0_t1_loop.trips) : Fin 3 → Nat :=
  let c0_147 : Index := 0#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let c64_i32_145 : BitVec 32 := 64#32
  let v280 : BitVec 32 := Scalar.addi v7 c64_i32_145
  let c1_i32_146 : BitVec 32 := 1#32
  let v281 : BitVec 32 := Scalar.subi v280 c1_i32_146
  let v282 : Index := Scalar.indexCast v281
  let c0_148 : Index := 0#32
  ![0, v282.toNat, 0]
def k0_off18 (k0_t1 : Fin k0_t1_loop.trips) : Fin 3 → Nat :=
  let c1_151 : Index := 1#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let c64_i32_149 : BitVec 32 := 64#32
  let v286 : BitVec 32 := Scalar.addi v7 c64_i32_149
  let c1_i32_150 : BitVec 32 := 1#32
  let v287 : BitVec 32 := Scalar.subi v286 c1_i32_150
  let v288 : Index := Scalar.indexCast v287
  let c0_152 : Index := 0#32
  ![1, v288.toNat, 0]
def k0_off19 (k0_t1 : Fin k0_t1_loop.trips) : Fin 3 → Nat :=
  let c2_155 : Index := 2#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let c64_i32_153 : BitVec 32 := 64#32
  let v292 : BitVec 32 := Scalar.addi v7 c64_i32_153
  let c1_i32_154 : BitVec 32 := 1#32
  let v293 : BitVec 32 := Scalar.subi v292 c1_i32_154
  let v294 : Index := Scalar.indexCast v293
  let c0_156 : Index := 0#32
  ![2, v294.toNat, 0]
def k0_off20 (k0_t1 : Fin k0_t1_loop.trips) : Fin 3 → Nat :=
  let c3_159 : Index := 3#32
  let c0_i32_2 : BitVec 32 := 0#32
  let c1_i32 : BitVec 32 := 1#32
  let arg12 : BitVec 32 := Scf.iv c0_i32_2 c1_i32 k0_t1
  let c64_i32 : BitVec 32 := 64#32
  let v6 : BitVec 32 := Scalar.muli arg12 c64_i32
  let v7 : BitVec 32 := v6
  let c64_i32_157 : BitVec 32 := 64#32
  let v298 : BitVec 32 := Scalar.addi v7 c64_i32_157
  let c1_i32_158 : BitVec 32 := 1#32
  let v299 : BitVec 32 := Scalar.subi v298 c1_i32_158
  let v300 : Index := Scalar.indexCast v299
  let c0_160 : Index := 0#32
  ![3, v300.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S65536x512 : Shape := ⟨2, ![65536, 512]⟩
abbrev S65536x128 : Shape := ⟨2, ![65536, 128]⟩
abbrev S65536x8192 : Shape := ⟨2, ![65536, 8192]⟩
abbrev S128 : Shape := ⟨1, ![128]⟩
abbrev S16x64x64x4x128 : Shape := ⟨5, ![16, 64, 64, 4, 128]⟩
abbrev S64x16x4x64x128 : Shape := ⟨5, ![64, 16, 4, 64, 128]⟩
abbrev S65536x4 : Shape := ⟨2, ![65536, 4]⟩
abbrev S16x64x64x4x1 : Shape := ⟨5, ![16, 64, 64, 4, 1]⟩
abbrev S64x16x4x64x1 : Shape := ⟨5, ![64, 16, 4, 64, 1]⟩
abbrev S64x16x4x64 : Shape := ⟨4, ![64, 16, 4, 64]⟩
abbrev S_ : Shape := ⟨0, ![]⟩
abbrev S16x4x128x128 : Shape := ⟨4, ![16, 4, 128, 128]⟩
abbrev S1x16x4x64x128 : Shape := ⟨5, ![1, 16, 4, 64, 128]⟩
abbrev S16x4x64x128 : Shape := ⟨4, ![16, 4, 64, 128]⟩
abbrev S1x16x4x64 : Shape := ⟨4, ![1, 16, 4, 64]⟩
abbrev S16x4x64 : Shape := ⟨3, ![16, 4, 64]⟩
abbrev S16x4x64x64 : Shape := ⟨4, ![16, 4, 64, 64]⟩
abbrev S16x4x1 : Shape := ⟨3, ![16, 4, 1]⟩
abbrev S16x4 : Shape := ⟨2, ![16, 4]⟩
abbrev S16x4x1x1 : Shape := ⟨4, ![16, 4, 1, 1]⟩
abbrev S16x4x64x64x128 : Shape := ⟨5, ![16, 4, 64, 64, 128]⟩
abbrev S16x4x4096x128 : Shape := ⟨4, ![16, 4, 4096, 128]⟩
abbrev S16x4096x4x128 : Shape := ⟨4, ![16, 4096, 4, 128]⟩
abbrev S16x4x4096 : Shape := ⟨3, ![16, 4, 4096]⟩
abbrev S16x4x4096x1 : Shape := ⟨4, ![16, 4, 4096, 1]⟩
abbrev S1x1x1x128 : Shape := ⟨4, ![1, 1, 1, 128]⟩
abbrev S16x4096x512 : Shape := ⟨3, ![16, 4096, 512]⟩

abbrev nBuf : Space → Nat
  | .hbm => 134
  | .vmem => 0
  | .smem => 0
  | _ => 0

abbrev hbmTy0_0 (i : Nat) : BufTy := match i % 128 with
  | 0 => ⟨S65536x512, .f32⟩
  | 1 => ⟨S65536x512, .bf16⟩
  | 2 => ⟨S65536x512, .bf16⟩
  | 3 => ⟨S65536x512, .bf16⟩
  | 4 => ⟨S65536x512, .bf16⟩
  | 5 => ⟨S65536x128, .f32⟩
  | 6 => ⟨S65536x8192, .bf16⟩
  | 7 => ⟨S128, .f32⟩
  | 8 => ⟨S16x64x64x4x128, .f32⟩
  | 9 => ⟨S64x16x4x64x128, .f32⟩
  | 10 => ⟨S65536x512, .f32⟩
  | 11 => ⟨S16x64x64x4x128, .f32⟩
  | 12 => ⟨S64x16x4x64x128, .f32⟩
  | 13 => ⟨S65536x512, .f32⟩
  | 14 => ⟨S16x64x64x4x128, .f32⟩
  | 15 => ⟨S64x16x4x64x128, .f32⟩
  | 16 => ⟨S65536x512, .f32⟩
  | 17 => ⟨S16x64x64x4x128, .f32⟩
  | 18 => ⟨S64x16x4x64x128, .f32⟩
  | 19 => ⟨S65536x512, .f32⟩
  | 20 => ⟨S16x64x64x4x128, .f32⟩
  | 21 => ⟨S64x16x4x64x128, .f32⟩
  | 22 => ⟨S65536x4, .f32⟩
  | 23 => ⟨S16x64x64x4x1, .f32⟩
  | 24 => ⟨S64x16x4x64x1, .f32⟩
  | 25 => ⟨S64x16x4x64, .f32⟩
  | 26 => ⟨S_, .f32⟩
  | 27 => ⟨S16x4x128x128, .f32⟩
  | 28 => ⟨S_, .f32⟩
  | 29 => ⟨S64x16x4x64x128, .f32⟩
  | 30 => ⟨S_, .i32⟩
  | 31 => ⟨S64x16x4x64x128, .f32⟩
  | 32 => ⟨S64x16x4x64x128, .f32⟩
  | 33 => ⟨S64x16x4x64x128, .f32⟩
  | 34 => ⟨S64x16x4x64x128, .f32⟩
  | 35 => ⟨S64x16x4x64x128, .f32⟩
  | 36 => ⟨S64x16x4x64, .f32⟩
  | 37 => ⟨S_, .i32⟩
  | 38 => ⟨S16x4x128x128, .f32⟩
  | 39 => ⟨S64x16x4x64x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1x16x4x64x128, .f32⟩
  | 47 => ⟨S16x4x64x128, .f32⟩
  | 48 => ⟨S_, .i32⟩
  | 49 => ⟨S_, .i32⟩
  | 50 => ⟨S_, .i32⟩
  | 51 => ⟨S_, .i32⟩
  | 52 => ⟨S1x16x4x64x128, .f32⟩
  | 53 => ⟨S16x4x64x128, .f32⟩
  | 54 => ⟨S_, .i32⟩
  | 55 => ⟨S_, .i32⟩
  | 56 => ⟨S_, .i32⟩
  | 57 => ⟨S_, .i32⟩
  | 58 => ⟨S1x16x4x64x128, .f32⟩
  | 59 => ⟨S16x4x64x128, .f32⟩
  | 60 => ⟨S_, .i32⟩
  | 61 => ⟨S_, .i32⟩
  | 62 => ⟨S_, .i32⟩
  | 63 => ⟨S_, .i32⟩
  | 64 => ⟨S1x16x4x64x128, .f32⟩
  | 65 => ⟨S16x4x64x128, .f32⟩
  | 66 => ⟨S_, .i32⟩
  | 67 => ⟨S_, .i32⟩
  | 68 => ⟨S_, .i32⟩
  | 69 => ⟨S_, .i32⟩
  | 70 => ⟨S1x16x4x64x128, .f32⟩
  | 71 => ⟨S16x4x64x128, .f32⟩
  | 72 => ⟨S_, .i32⟩
  | 73 => ⟨S_, .i32⟩
  | 74 => ⟨S_, .i32⟩
  | 75 => ⟨S1x16x4x64, .f32⟩
  | 76 => ⟨S16x4x64, .f32⟩
  | 77 => ⟨S16x4x64x128, .f32⟩
  | 78 => ⟨S16x4x64x128, .f32⟩
  | 79 => ⟨S16x4x64x128, .f32⟩
  | 80 => ⟨S16x4x64x64, .f32⟩
  | 81 => ⟨S16x4x64x128, .f32⟩
  | 82 => ⟨S16x4x64x128, .f32⟩
  | 83 => ⟨S16x4x1, .f32⟩
  | 84 => ⟨S16x4, .f32⟩
  | 85 => ⟨S16x4, .f32⟩
  | 86 => ⟨S16x4x1x1, .f32⟩
  | 87 => ⟨S16x4x128x128, .f32⟩
  | 88 => ⟨S16x4x128x128, .f32⟩
  | 89 => ⟨S16x4x128x128, .f32⟩
  | 90 => ⟨S16x4x128x128, .f32⟩
  | 91 => ⟨S1x16x4x64x128, .f32⟩
  | 92 => ⟨S_, .i32⟩
  | 93 => ⟨S_, .i32⟩
  | 94 => ⟨S_, .i32⟩
  | 95 => ⟨S_, .i32⟩
  | 96 => ⟨S64x16x4x64x128, .f32⟩
  | 97 => ⟨S_, .i32⟩
  | 98 => ⟨S_, .i32⟩
  | 99 => ⟨S16x4x64x64x128, .f32⟩
  | 100 => ⟨S16x4x4096x128, .f32⟩
  | 101 => ⟨S65536x512, .bf16⟩
  | 102 => ⟨S65536x512, .f32⟩
  | 103 => ⟨S16x4096x4x128, .f32⟩
  | 104 => ⟨S16x4x4096x128, .f32⟩
  | 105 => ⟨S16x4x4096x128, .f32⟩
  | 106 => ⟨S_, .f32⟩
  | 107 => ⟨S16x4x4096, .f32⟩
  | 108 => ⟨S16x4x4096x1, .f32⟩
  | 109 => ⟨S_, .f32⟩
  | 110 => ⟨S16x4x4096x1, .f32⟩
  | 111 => ⟨S16x4x4096x1, .f32⟩
  | 112 => ⟨S_, .f32⟩
  | 113 => ⟨S16x4x4096x1, .f32⟩
  | 114 => ⟨S16x4x4096x1, .f32⟩
  | 115 => ⟨S16x4x4096x1, .f32⟩
  | 116 => ⟨S16x4x4096x128, .f32⟩
  | 117 => ⟨S16x4x4096x128, .f32⟩
  | 118 => ⟨S1x1x1x128, .f32⟩
  | 119 => ⟨S16x4x4096x128, .f32⟩
  | 120 => ⟨S16x4x4096x128, .f32⟩
  | 121 => ⟨S16x4x4096x128, .f32⟩
  | 122 => ⟨S16x4x4096x128, .f32⟩
  | 123 => ⟨S_, .f32⟩
  | 124 => ⟨S16x4x4096x128, .f32⟩
  | 125 => ⟨S16x4x4096x128, .f32⟩
  | 126 => ⟨S_, .f32⟩
  | 127 => ⟨S16x4x4096x128, .f32⟩
  | _ => ⟨S65536x512, .f32⟩

abbrev hbmTy0_1 (i : Nat) : BufTy := match i % 128 with
  | 0 => ⟨S16x4x4096x128, .f32⟩
  | 1 => ⟨S16x4x4096x128, .f32⟩
  | 2 => ⟨S16x4x4096x128, .f32⟩
  | 3 => ⟨S16x4096x4x128, .f32⟩
  | 4 => ⟨S16x4096x512, .f32⟩
  | 5 => ⟨S16x4096x512, .bf16⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_c : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev main_v20_8 : Ref sig .tc := ⟨.hbm, 39, rfl⟩
abbrev main_while0c_c_14 : Ref sig .tc := ⟨.hbm, 40, rfl⟩
abbrev main_while0c_v51 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_c_2 : Ref sig .tc := ⟨.hbm, 45, rfl⟩
abbrev main_while0b_call0_v0 : Ref sig .tc := ⟨.hbm, 46, rfl⟩
abbrev main_while0b_v51 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_v0 : Ref sig .tc := ⟨.hbm, 52, rfl⟩
abbrev main_while0b_v52 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v0 : Ref sig .tc := ⟨.hbm, 58, rfl⟩
abbrev main_while0b_v53 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_c_2 : Ref sig .tc := ⟨.hbm, 63, rfl⟩
abbrev main_while0b_call3_v0 : Ref sig .tc := ⟨.hbm, 64, rfl⟩
abbrev main_while0b_v54 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_c_2 : Ref sig .tc := ⟨.hbm, 69, rfl⟩
abbrev main_while0b_call4_v0 : Ref sig .tc := ⟨.hbm, 70, rfl⟩
abbrev main_while0b_v55 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_call5_v0 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_call6_v0 : Ref sig .tc := ⟨.hbm, 91, rfl⟩
abbrev main_while0b_call6_c : Ref sig .tc := ⟨.hbm, 92, rfl⟩
abbrev main_while0b_call6_c_0 : Ref sig .tc := ⟨.hbm, 93, rfl⟩
abbrev main_while0b_call6_c_1 : Ref sig .tc := ⟨.hbm, 94, rfl⟩
abbrev main_while0b_call6_c_2 : Ref sig .tc := ⟨.hbm, 95, rfl⟩
abbrev main_while0b_v71 : Ref sig .tc := ⟨.hbm, 96, rfl⟩
abbrev main_while0b_c_14 : Ref sig .tc := ⟨.hbm, 97, rfl⟩
abbrev main_while0b_v72 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_cst_1 : Ref sig .tc := ⟨.hbm, 106, rfl⟩
abbrev main_v28 : Ref sig .tc := ⟨.hbm, 107, rfl⟩
abbrev main_v29 : Ref sig .tc := ⟨.hbm, 108, rfl⟩
abbrev main_cst_2 : Ref sig .tc := ⟨.hbm, 109, rfl⟩
abbrev main_v30 : Ref sig .tc := ⟨.hbm, 110, rfl⟩
abbrev main_v31 : Ref sig .tc := ⟨.hbm, 111, rfl⟩
abbrev main_cst_3 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_4 : Ref sig .tc := ⟨.hbm, 123, rfl⟩
abbrev main_v42 : Ref sig .tc := ⟨.hbm, 124, rfl⟩
abbrev main_v43 : Ref sig .tc := ⟨.hbm, 125, rfl⟩
abbrev main_cst_5 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S139264x8x128 : Shape := ⟨3, ![139264, 8, 128]⟩
abbrev S136 : Shape := ⟨1, ![136]⟩
abbrev S8x1024x3584 : Shape := ⟨3, ![8, 1024, 3584]⟩
abbrev S8x3584x1024 : Shape := ⟨3, ![8, 3584, 1024]⟩
abbrev S1024x8x128 : Shape := ⟨3, ![1024, 8, 128]⟩
abbrev S1x1024x512 : Shape := ⟨3, ![1, 1024, 512]⟩
abbrev S1 : Shape := ⟨1, ![1]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 12
  | .smem => 1
  | _ => 0

abbrev bufTy : (tb : Table) → Fin (tcTables nBuf tb) → BufTy
  | .hbm, ⟨0, _⟩ => ⟨S139264x8x128, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S139264x8x128, .f32⟩
  | .local _ .vmem, ⟨0, _⟩ => ⟨S1024x8x128, .f32⟩
  | .local _ .vmem, ⟨1, _⟩ => ⟨S1024x8x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x8x128, .f32⟩
  | .local _ .vmem, ⟨9, _⟩ => ⟨S1024x8x128, .f32⟩
  | .local _ .vmem, ⟨10, _⟩ => ⟨S1024x1024, .bf16⟩
  | .local _ .vmem, ⟨11, _⟩ => ⟨S1024x1024, .f32⟩
  | .local _ .smem, ⟨0, _⟩ => ⟨S136, .i32⟩
  | _, _ => ⟨S139264x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c6_i32 : BitVec 32 := 6#32
  let v15 : BitVec 1 := Scalar.cmpi .eq arg1 c6_i32
  let v16 : BitVec 32 := Scalar.extui v15
  let c0_i32_4 : BitVec 32 := 0#32
  let v17 : BitVec 1 := Scalar.cmpi .ne v16 c0_i32_4
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  ![v2.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  ![v2.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c7_i32 : BitVec 32 := 7#32
  let v2 : BitVec 32 := Scalar.minsi v1 c7_i32
  let c0_i32 : BitVec 32 := 0#32
  let c0_i32_0 : BitVec 32 := 0#32
  ![v2.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S139264x8x128 : Shape := ⟨3, ![139264, 8, 128]⟩
abbrev S136 : Shape := ⟨1, ![136]⟩
abbrev S8x1024x3584 : Shape := ⟨3, ![8, 1024, 3584]⟩
abbrev S8x3584x1024 : Shape := ⟨3, ![8, 3584, 1024]⟩
abbrev S136x1024x1024 : Shape := ⟨3, ![136, 1024, 1024]⟩
abbrev S136x1 : Shape := ⟨2, ![136, 1]⟩
abbrev S1x8 : Shape := ⟨2, ![1, 8]⟩
abbrev S136x8 : Shape := ⟨2, ![136, 8]⟩
abbrev S_ : Shape := ⟨0, ![]⟩
abbrev S136x1x1 : Shape := ⟨3, ![136, 1, 1]⟩
abbrev S1x1024x3584 : Shape := ⟨3, ![1, 1024, 3584]⟩
abbrev S1024x3584 : Shape := ⟨2, ![1024, 3584]⟩
abbrev S136x1024x3584 : Shape := ⟨3, ![136, 1024, 3584]⟩
abbrev S1x3584x1024 : Shape := ⟨3, ![1, 3584, 1024]⟩
abbrev S3584x1024 : Shape := ⟨2, ![3584, 1024]⟩

abbrev nBuf : Space → Nat
  | .hbm => 215
  | .vmem => 0
  | .smem => 0
  | _ => 0

abbrev hbmTy0_0 (i : Nat) : BufTy := match i % 128 with
  | 0 => ⟨S139264x8x128, .f32⟩
  | 1 => ⟨S136, .i32⟩
  | 2 => ⟨S8x1024x3584, .f32⟩
  | 3 => ⟨S8x1024x3584, .f32⟩
  | 4 => ⟨S8x3584x1024, .f32⟩
  | 5 => ⟨S136x1024x1024, .f32⟩
  | 6 => ⟨S136x1, .i32⟩
  | 7 => ⟨S1x8, .i32⟩
  | 8 => ⟨S136x8, .i32⟩
  | 9 => ⟨S136x8, .i32⟩
  | 10 => ⟨S136x8, .i1⟩
  | 11 => ⟨S136x8, .f32⟩
  | 12 => ⟨S_, .f32⟩
  | 13 => ⟨S136x1024x1024, .f32⟩
  | 14 => ⟨S136x1, .f32⟩
  | 15 => ⟨S136, .f32⟩
  | 16 => ⟨S136x1x1, .f32⟩
  | 17 => ⟨S1x1024x3584, .f32⟩
  | 18 => ⟨S1024x3584, .f32⟩
  | 19 => ⟨S136x1024x3584, .f32⟩
  | 20 => ⟨S136x1024x3584, .f32⟩
  | 21 => ⟨S136x1024x3584, .f32⟩
  | 22 => ⟨S_, .f32⟩
  | 23 => ⟨S136x1024x3584, .f32⟩
  | 24 => ⟨S136x1024x3584, .f32⟩
  | 25 => ⟨S_, .f32⟩
  | 26 => ⟨S136x1024x3584, .f32⟩
  | 27 => ⟨S136x1024x3584, .f32⟩
  | 28 => ⟨S136x1024x3584, .f32⟩
  | 29 => ⟨S1x1024x3584, .f32⟩
  | 30 => ⟨S1024x3584, .f32⟩
  | 31 => ⟨S136x1024x3584, .f32⟩
  | 32 => ⟨S136x1024x3584, .f32⟩
  | 33 => ⟨S1x3584x1024, .f32⟩
  | 34 => ⟨S3584x1024, .f32⟩
  | 35 => ⟨S136x1024x1024, .f32⟩
  | 36 => ⟨S136x1024x1024, .f32⟩
  | 37 => ⟨S136x1024x1024, .f32⟩
  | 38 => ⟨S136x1024x1024, .f32⟩
  | 39 => ⟨S136x1, .f32⟩
  | 40 => ⟨S136, .f32⟩
  | 41 => ⟨S136x1x1, .f32⟩
  | 42 => ⟨S1x1024x3584, .f32⟩
  | 43 => ⟨S1024x3584, .f32⟩
  | 44 => ⟨S136x1024x3584, .f32⟩
  | 45 => ⟨S136x1024x3584, .f32⟩
  | 46 => ⟨S136x1024x3584, .f32⟩
  | 47 => ⟨S_, .f32⟩
  | 48 => ⟨S136x1024x3584, .f32⟩
  | 49 => ⟨S136x1024x3584, .f32⟩
  | 50 => ⟨S_, .f32⟩
  | 51 => ⟨S136x1024x3584, .f32⟩
  | 52 => ⟨S136x1024x3584, .f32⟩
  | 53 => ⟨S136x1024x3584, .f32⟩
  | 54 => ⟨S1x1024x3584, .f32⟩
  | 55 => ⟨S1024x3584, .f32⟩
  | 56 => ⟨S136x1024x3584, .f32⟩
  | 57 => ⟨S136x1024x3584, .f32⟩
  | 58 => ⟨S1x3584x1024, .f32⟩
  | 59 => ⟨S3584x1024, .f32⟩
  | 60 => ⟨S136x1024x1024, .f32⟩
  | 61 => ⟨S136x1024x1024, .f32⟩
  | 62 => ⟨S136x1024x1024, .f32⟩
  | 63 => ⟨S136x1024x1024, .f32⟩
  | 64 => ⟨S136x1, .f32⟩
  | 65 => ⟨S136, .f32⟩
  | 66 => ⟨S136x1x1, .f32⟩
  | 67 => ⟨S1x1024x3584, .f32⟩
  | 68 => ⟨S1024x3584, .f32⟩
  | 69 => ⟨S136x1024x3584, .f32⟩
  | 70 => ⟨S136x1024x3584, .f32⟩
  | 71 => ⟨S136x1024x3584, .f32⟩
  | 72 => ⟨S_, .f32⟩
  | 73 => ⟨S136x1024x3584, .f32⟩
  | 74 => ⟨S136x1024x3584, .f32⟩
  | 75 => ⟨S_, .f32⟩
  | 76 => ⟨S136x1024x3584, .f32⟩
  | 77 => ⟨S136x1024x3584, .f32⟩
  | 78 => ⟨S136x1024x3584, .f32⟩
  | 79 => ⟨S1x1024x3584, .f32⟩
  | 80 => ⟨S1024x3584, .f32⟩
  | 81 => ⟨S136x1024x3584, .f32⟩
  | 82 => ⟨S136x1024x3584, .f32⟩
  | 83 => ⟨S1x3584x1024, .f32⟩
  | 84 => ⟨S3584x1024, .f32⟩
  | 85 => ⟨S136x1024x1024, .f32⟩
  | 86 => ⟨S136x1024x1024, .f32⟩
  | 87 => ⟨S136x1024x1024, .f32⟩
  | 88 => ⟨S136x1024x1024, .f32⟩
  | 89 => ⟨S136x1, .f32⟩
  | 90 => ⟨S136, .f32⟩
  | 91 => ⟨S136x1x1, .f32⟩
  | 92 => ⟨S1x1024x3584, .f32⟩
  | 93 => ⟨S1024x3584, .f32⟩
  | 94 => ⟨S136x1024x3584, .f32⟩
  | 95 => ⟨S136x1024x3584, .f32⟩
  | 96 => ⟨S136x1024x3584, .f32⟩
  | 97 => ⟨S_, .f32⟩
  | 98 => ⟨S136x1024x3584, .f32⟩
  | 99 => ⟨S136x1024x3584, .f32⟩
  | 100 => ⟨S_, .f32⟩
  | 101 => ⟨S136x1024x3584, .f32⟩
  | 102 => ⟨S136x1024x3584, .f32⟩
  | 103 => ⟨S136x1024x3584, .f32⟩
  | 104 => ⟨S1x1024x3584, .f32⟩
  | 105 => ⟨S1024x3584, .f32⟩
  | 106 => ⟨S136x1024x3584, .f32⟩
  | 107 => ⟨S136x1024x3584, .f32⟩
  | 108 => ⟨S1x3584x1024, .f32⟩
  | 109 => ⟨S3584x1024, .f32⟩
  | 110 => ⟨S136x1024x1024, .f32⟩
  | 111 => ⟨S136x1024x1024, .f32⟩
  | 112 => ⟨S136x1024x1024, .f32⟩
  | 113 => ⟨S136x1024x1024, .f32⟩
  | 114 => ⟨S136x1, .f32⟩
  | 115 => ⟨S136, .f32⟩
  | 116 => ⟨S136x1x1, .f32⟩
  | 117 => ⟨S1x1024x3584, .f32⟩
  | 118 => ⟨S1024x3584, .f32⟩
  | 119 => ⟨S136x1024x3584, .f32⟩
  | 120 => ⟨S136x1024x3584, .f32⟩
  | 121 => ⟨S136x1024x3584, .f32⟩
  | 122 => ⟨S_, .f32⟩
  | 123 => ⟨S136x1024x3584, .f32⟩
  | 124 => ⟨S136x1024x3584, .f32⟩
  | 125 => ⟨S_, .f32⟩
  | 126 => ⟨S136x1024x3584, .f32⟩
  | 127 => ⟨S136x1024x3584, .f32⟩
  | _ => ⟨S139264x8x128, .f32⟩

abbrev hbmTy0_1 (i : Nat) : BufTy := match i % 128 with
  | 0 => ⟨S136x1024x3584, .f32⟩
  | 1 => ⟨S1x1024x3584, .f32⟩
  | 2 => ⟨S1024x3584, .f32⟩
  | 3 => ⟨S136x1024x3584, .f32⟩
  | 4 => ⟨S136x1024x3584, .f32⟩
  | 5 => ⟨S1x3584x1024, .f32⟩
  | 6 => ⟨S3584x1024, .f32⟩
  | 7 => ⟨S136x1024x1024, .f32⟩
  | 8 => ⟨S136x1024x1024, .f32⟩
  | 9 => ⟨S136x1024x1024, .f32⟩
  | 10 => ⟨S136x1024x1024, .f32⟩
  | 11 => ⟨S136x1, .f32⟩
  | 12 => ⟨S136, .f32⟩
  | 13 => ⟨S136x1x1, .f32⟩
  | 14 => ⟨S1x1024x3584, .f32⟩
  | 15 => ⟨S1024x3584, .f32⟩
  | 16 => ⟨S136x1024x3584, .f32⟩
  | 17 => ⟨S136x1024x3584, .f32⟩
  | 18 => ⟨S136x1024x3584, .f32⟩
  | 19 => ⟨S_, .f32⟩
  | 20 => ⟨S136x1024x3584, .f32⟩
  | 21 => ⟨S136x1024x3584, .f32⟩
  | 22 => ⟨S_, .f32⟩
  | 23 => ⟨S136x1024x3584, .f32⟩
  | 24 => ⟨S136x1024x3584, .f32⟩
  | 25 => ⟨S136x1024x3584, .f32⟩
  | 26 => ⟨S1x1024x3584, .f32⟩
  | 27 => ⟨S1024x3584, .f32⟩
  | 28 => ⟨S136x1024x3584, .f32⟩
  | 29 => ⟨S136x1024x3584, .f32⟩
  | 30 => ⟨S1x3584x1024, .f32⟩
  | 31 => ⟨S3584x1024, .f32⟩
  | 32 => ⟨S136x1024x1024, .f32⟩
  | 33 => ⟨S136x1024x1024, .f32⟩
  | 34 => ⟨S136x1024x1024, .f32⟩
  | 35 => ⟨S136x1024x1024, .f32⟩
  | 36 => ⟨S136x1, .f32⟩
  | 37 => ⟨S136, .f32⟩
  | 38 => ⟨S136x1x1, .f32⟩
  | 39 => ⟨S1x1024x3584, .f32⟩
  | 40 => ⟨S1024x3584, .f32⟩
  | 41 => ⟨S136x1024x3584, .f32⟩
  | 42 => ⟨S136x1024x3584, .f32⟩
  | 43 => ⟨S136x1024x3584, .f32⟩
  | 44 => ⟨S_, .f32⟩
  | 45 => ⟨S136x1024x3584, .f32⟩
  | 46 => ⟨S136x1024x3584, .f32⟩
  | 47 => ⟨S_, .f32⟩
  | 48 => ⟨S136x1024x3584, .f32⟩
  | 49 => ⟨S136x1024x3584, .f32⟩
  | 50 => ⟨S136x1024x3584, .f32⟩
  | 51 => ⟨S1x1024x3584, .f32⟩
  | 52 => ⟨S1024x3584, .f32⟩
  | 53 => ⟨S136x1024x3584, .f32⟩
  | 54 => ⟨S136x1024x3584, .f32⟩
  | 55 => ⟨S1x3584x1024, .f32⟩
  | 56 => ⟨S3584x1024, .f32⟩
  | 57 => ⟨S136x1024x1024, .f32⟩
  | 58 => ⟨S136x1024x1024, .f32⟩
  | 59 => ⟨S136x1024x1024, .f32⟩
  | 60 => ⟨S136x1024x1024, .f32⟩
  | 61 => ⟨S136x1, .f32⟩
  | 62 => ⟨S136, .f32⟩
  | 63 => ⟨S136x1x1, .f32⟩
  | 64 => ⟨S1x1024x3584, .f32⟩
  | 65 => ⟨S1024x3584, .f32⟩
  | 66 => ⟨S136x1024x3584, .f32⟩
  | 67 => ⟨S136x1024x3584, .f32⟩
  | 68 => ⟨S136x1024x3584, .f32⟩
  | 69 => ⟨S_, .f32⟩
  | 70 => ⟨S136x1024x3584, .f32⟩
  | 71 => ⟨S136x1024x3584, .f32⟩
  | 72 => ⟨S_, .f32⟩
  | 73 => ⟨S136x1024x3584, .f32⟩
  | 74 => ⟨S136x1024x3584, .f32⟩
  | 75 => ⟨S136x1024x3584, .f32⟩
  | 76 => ⟨S1x1024x3584, .f32⟩
  | 77 => ⟨S1024x3584, .f32⟩
  | 78 => ⟨S136x1024x3584, .f32⟩
  | 79 => ⟨S136x1024x3584, .f32⟩
  | 80 => ⟨S1x3584x1024, .f32⟩
  | 81 => ⟨S3584x1024, .f32⟩
  | 82 => ⟨S136x1024x1024, .f32⟩
  | 83 => ⟨S136x1024x1024, .f32⟩
  | 84 => ⟨S136x1024x1024, .f32⟩
  | 85 => ⟨S136x1024x1024, .f32⟩
  | 86 => ⟨S139264x8x128, .f32⟩
  | _ => ⟨S139264x8x128, .f32⟩

abbrev hbmTy (i : Nat) : BufTy := match i / 128 with
  | 0 => hbmTy0_0 i
  | 1 => hbmTy0_1 i
  | _ => ⟨S139264x8x128, .f32⟩

abbrev bufTy : (tb : Table) → Fin (tcTables nBuf tb) → BufTy
  | .hbm, ⟨i, _⟩ => hbmTy i
  | _, _ => ⟨S139264x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call5_v0 : Ref sig .tc := ⟨.hbm, 120, rfl⟩
abbrev main_call5_v1 : Ref sig .tc := ⟨.hbm, 121, rfl⟩
abbrev main_call5_cst : Ref sig .tc := ⟨.hbm, 122, rfl⟩
abbrev main_call5_v2 : Ref sig .tc := ⟨.hbm, 123, rfl⟩
abbrev main_call5_v3 : Ref sig .tc := ⟨.hbm, 124, rfl⟩
abbrev main_call5_cst_0 : Ref sig .tc := ⟨.hbm, 125, rfl⟩
abbrev main_call5_v4 : Ref sig .tc := ⟨.hbm, 126, rfl⟩
abbrev main_call5_v5 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call6_v0 : Ref sig .tc := ⟨.hbm, 145, rfl⟩
abbrev main_call6_v1 : Ref sig .tc := ⟨.hbm, 146, rfl⟩
abbrev main_call6_cst : Ref sig .tc := ⟨.hbm, 147, rfl⟩
abbrev main_call6_v2 : Ref sig .tc := ⟨.hbm, 148, rfl⟩
abbrev main_call6_v3 : Ref sig .tc := ⟨.hbm, 149, rfl⟩
abbrev main_call6_cst_0 : Ref sig .tc := ⟨.hbm, 150, rfl⟩
abbrev main_call6_v4 : Ref sig .tc := ⟨.hbm, 151, rfl⟩
abbrev main_call6_v5 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel4.lean ====
abbrev S65536x1024 : Shape := ⟨2, ![65536, 1024]⟩
abbrev S65536x512 : Shape := ⟨2, ![65536, 512]⟩
abbrev S65536x8192 : Shape := ⟨2, ![65536, 8192]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x8192, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S65536x1024 : Shape := ⟨2, ![65536, 1024]⟩
abbrev S65536x512 : Shape := ⟨2, ![65536, 512]⟩
abbrev S65536x8192 : Shape := ⟨2, ![65536, 8192]⟩
abbrev S512x1024 : Shape := ⟨2, ![512, 1024]⟩
abbrev S1024x1024 : Shape := ⟨2, ![1024, 1024]⟩
abbrev S65536x3072 : Shape := ⟨2, ![65536, 3072]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x8192, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S65536x3072, .bf16⟩
  | .hbm, ⟨10, _⟩ => ⟨S65536x3072, .f32⟩
  | .hbm, ⟨11, _⟩ => ⟨S65536x3072, .f32⟩
  | .hbm, ⟨12, _⟩ => ⟨S65536x3072, .f32⟩
  | .hbm, ⟨13, _⟩ => ⟨S_, .f32⟩
  | .hbm, ⟨14, _⟩ => ⟨S65536x3072, .f32⟩
  | .hbm, ⟨15, _⟩ => ⟨S65536x3072, .f32⟩
  | .hbm, ⟨16, _⟩ => ⟨S_, .f32⟩
  | .hbm, ⟨17, _⟩ => ⟨S65536x3072, .f32⟩
  | .hbm, ⟨18, _⟩ => ⟨S65536x3072, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x512, .f32⟩
  | .hbm, ⟨23, _⟩ => ⟨S65536x1024, .f32⟩
  | .hbm, ⟨24, _⟩ => ⟨S65536x1024, .f32⟩
  | .hbm, ⟨25, _⟩ => ⟨S65536x512, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x512, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x8200 : Shape := ⟨2, ![1024, 8200]⟩
abbrev S4 : Shape := ⟨1, ![4]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x128 : Shape := ⟨2, ![1, 128]⟩
abbrev S1024x5120 : Shape := ⟨2, ![1024, 5120]⟩
abbrev S1024x3072 : Shape := ⟨2, ![1024, 3072]⟩
abbrev S1024x8192 : Shape := ⟨2, ![1024, 8192]⟩
abbrev S1024x8 : Shape := ⟨2, ![1024, 8]⟩
abbrev S1024x128 : Shape := ⟨2, ![1024, 128]⟩
abbrev S124 : Shape := ⟨1, ![124]⟩
abbrev S1x1024 : Shape := ⟨2, ![1, 1024]⟩
abbrev S65536x8192 : Shape := ⟨2, ![65536, 8192]⟩
abbrev S65536x128 : Shape := ⟨2, ![65536, 128]⟩
abbrev S1024x1024 : Shape := ⟨2, ![1024, 1024]⟩
abbrev S1024x1 : Shape := ⟨2, ![1024, 1]⟩
abbrev S64x128 : Shape := ⟨2, ![64, 128]⟩
abbrev S64x64 : Shape := ⟨2, ![64, 64]⟩

abbrev nBuf : Space → Nat
  | .hbm => 65
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8200, .f32⟩
  | .hbm, ⟨3, _⟩ => ⟨S4, .f32⟩
  | .hbm, ⟨4, _⟩ => ⟨S4, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S64, .f32⟩
  | .hbm, ⟨35, _⟩ => ⟨S1x64, .f32⟩
  | .hbm, ⟨36, _⟩ => ⟨S2x64, .f32⟩
  | .hbm, ⟨37, _⟩ => ⟨S128, .f32⟩
  | .hbm, ⟨38, _⟩ => ⟨S1x4096x1x32, .f32⟩
  | .hbm, ⟨39, _⟩ => ⟨S1x4096x4x32, .f32⟩
  | .hbm, ⟨40, _⟩ => ⟨S4096x128, .f32⟩
  | .hbm, ⟨41, _⟩ => ⟨S1x4096x1x32, .f32⟩
  | .hbm, ⟨42, _⟩ => ⟨S1x4096x4x32, .f32⟩
  | .hbm, ⟨43, _⟩ => ⟨S4096x128, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S1024x5120, .f32⟩
  | .hbm, ⟨48, _⟩ => ⟨S1024x3072, .f32⟩
  | .hbm, ⟨49, _⟩ => ⟨S1024x8192, .f32⟩
  | .hbm, ⟨50, _⟩ => ⟨S1024x8192, .bf16⟩
  | .hbm, ⟨51, _⟩ => ⟨S1024x8, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S1024x128, .bf16⟩
  | .hbm, ⟨56, _⟩ => ⟨S_, .f32⟩
  | .hbm, ⟨57, _⟩ => ⟨S124, .f32⟩
  | .hbm, ⟨58, _⟩ => ⟨S128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x1024, .f32⟩
  | .hbm, ⟨63, _⟩ => ⟨S65536x8192, .bf16⟩
  | .hbm, ⟨64, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![64, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel5Ideal.lean ====
variable {F : FTy → Type} [FloatOps F] [Named F]
def κ : String → Option EReal := fun
  | "scale" => some ((8⁻¹ * (Real.log 2)⁻¹ : ℝ) : EReal)
  | _ => none
-- ==== Reference5Ideal.lean ====
abbrev S65536x1024 : Shape := ⟨2, ![65536, 1024]⟩
abbrev S1024 : Shape := ⟨1, ![1024]⟩
abbrev S1024x8200 : Shape := ⟨2, ![1024, 8200]⟩
abbrev S4 : Shape := ⟨1, ![4]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8200 : Shape := ⟨2, ![65536, 8200]⟩
abbrev S65536x512 : Shape := ⟨2, ![65536, 512]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S16x4096x8x64 : Shape := ⟨4, ![16, 4096, 8, 64]⟩
abbrev S16x4096x8x32 : Shape := ⟨4, ![16, 4096, 8, 32]⟩
abbrev S65536x4096 : Shape := ⟨2, ![65536, 4096]⟩
abbrev S65536x3072 : Shape := ⟨2, ![65536, 3072]⟩
abbrev S65536x8192 : Shape := ⟨2, ![65536, 8192]⟩

abbrev nBuf : Space → Nat
  | .hbm => 117
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8200, .f32⟩
  | .hbm, ⟨3, _⟩ => ⟨S4, .f32⟩
  | .hbm, ⟨4, _⟩ => ⟨S4, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x8200, .f32⟩
  | .hbm, ⟨22, _⟩ => ⟨S65536x512, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096, .f32⟩
  | .hbm, ⟨40, _⟩ => ⟨S4096x1, .f32⟩
  | .hbm, ⟨41, _⟩ => ⟨S1x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S1x4096x1x32, .f32⟩
  | .hbm, ⟨47, _⟩ => ⟨S4096x32, .f32⟩
  | .hbm, ⟨48, _⟩ => ⟨S1x4096x1x32, .f32⟩
  | .hbm, ⟨49, _⟩ => ⟨S16x4096x8x64, .f32⟩
  | .hbm, ⟨50, _⟩ => ⟨S16x4096x8x32, .f32⟩
  | .hbm, ⟨51, _⟩ => ⟨S16x4096x8x32, .f32⟩
  | .hbm, ⟨52, _⟩ => ⟨S16x4096x8x32, .f32⟩
  | .hbm, ⟨53, _⟩ => ⟨S16x4096x8x32, .f32⟩
  | .hbm, ⟨54, _⟩ => ⟨S16x4096x8x32, .f32⟩
  | .hbm, ⟨55, _⟩ => ⟨S16x4096x8x32, .f32⟩
  | .hbm, ⟨56, _⟩ => ⟨S16x4096x8x32, .f32⟩
  | .hbm, ⟨57, _⟩ => ⟨S16x4096x8x32, .f32⟩
  | .hbm, ⟨58, _⟩ => ⟨S16x4096x8x32, .f32⟩
  | .hbm, ⟨59, _⟩ => ⟨S16x4096x8x32, .f32⟩
  | .hbm, ⟨60, _⟩ => ⟨S16x4096x8x32, .f32⟩
  | .hbm, ⟨61, _⟩ => ⟨S16x4096x8x32, .f32⟩
  | .hbm, ⟨62, _⟩ => ⟨S16x4096x8x64, .f32⟩
  | .hbm, ⟨63, _⟩ => ⟨S65536x512, .f32⟩
  | .hbm, ⟨64, _⟩ => ⟨S_, .f32⟩
  | .hbm, ⟨65, _⟩ => ⟨S65536x512, .f32⟩
  | .hbm, ⟨66, _⟩ => ⟨S65536x512, .f32⟩
  | .hbm, ⟨67, _⟩ => ⟨S_, .f32⟩
  | .hbm, ⟨68, _⟩ => ⟨S_, .f32⟩
  | .hbm, ⟨69, _⟩ => ⟨S65536x512, .f32⟩
  | .hbm, ⟨70, _⟩ => ⟨S65536x512, .f32⟩
  | .hbm, ⟨71, _⟩ => ⟨S65536x512, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S4096, .f32⟩
  | .hbm, ⟨89, _⟩ => ⟨S4096x1, .f32⟩
  | .hbm, ⟨90, _⟩ => ⟨S1x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S1x4096x1x32, .f32⟩
  | .hbm, ⟨96, _⟩ => ⟨S4096x32, .f32⟩
  | .hbm, ⟨97, _⟩ => ⟨S1x4096x1x32, .f32⟩
  | .hbm, ⟨98, _⟩ => ⟨S16x4096x8x64, .f32⟩
  | .hbm, ⟨99, _⟩ => ⟨S16x4096x8x32, .f32⟩
  | .hbm, ⟨100, _⟩ => ⟨S16x4096x8x32, .f32⟩
  | .hbm, ⟨101, _⟩ => ⟨S16x4096x8x32, .f32⟩
  | .hbm, ⟨102, _⟩ => ⟨S16x4096x8x32, .f32⟩
  | .hbm, ⟨103, _⟩ => ⟨S16x4096x8x32, .f32⟩
  | .hbm, ⟨104, _⟩ => ⟨S16x4096x8x32, .f32⟩
  | .hbm, ⟨105, _⟩ => ⟨S16x4096x8x32, .f32⟩
  | .hbm, ⟨106, _⟩ => ⟨S16x4096x8x32, .f32⟩
  | .hbm, ⟨107, _⟩ => ⟨S16x4096x8x32, .f32⟩
  | .hbm, ⟨108, _⟩ => ⟨S16x4096x8x32, .f32⟩
  | .hbm, ⟨109, _⟩ => ⟨S16x4096x8x32, .f32⟩
  | .hbm, ⟨110, _⟩ => ⟨S16x4096x8x32, .f32⟩
  | .hbm, ⟨111, _⟩ => ⟨S16x4096x8x64, .f32⟩
  | .hbm, ⟨112, _⟩ => ⟨S65536x512, .f32⟩
  | .hbm, ⟨113, _⟩ => ⟨S65536x4096, .f32⟩
  | .hbm, ⟨114, _⟩ => ⟨S65536x3072, .f32⟩
  | .hbm, ⟨115, _⟩ => ⟨S65536x8192, .f32⟩
  | .hbm, ⟨116, _⟩ => ⟨S65536x8192, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]
-- ==== Kernel6.lean ====
abbrev S65536x8192 : Shape := ⟨2, ![65536, 8192]⟩
abbrev S4x1536 : Shape := ⟨2, ![4, 1536]⟩
abbrev S65536x1536 : Shape := ⟨2, ![65536, 1536]⟩
abbrev S4096x128 : Shape := ⟨2, ![4096, 128]⟩
abbrev S4x128 : Shape := ⟨2, ![4, 128]⟩
abbrev S1x128 : Shape := ⟨2, ![1, 128]⟩
abbrev S4096 : Shape := ⟨1, ![4096]⟩
abbrev S4096x1 : Shape := ⟨2, ![4096, 1]⟩
abbrev S16x128 : Shape := ⟨2, ![16, 128]⟩
abbrev S16 : Shape := ⟨1, ![16]⟩
abbrev S16x1 : Shape := ⟨2, ![16, 1]⟩

abbrev nBuf : Space → Nat
  | .hbm => 3
  | .vmem => 6
  | .smem => 0
  | _ => 0

abbrev bufTy : (tb : Table) → Fin (tcTables nBuf tb) → BufTy
  | .hbm, ⟨0, _⟩ => ⟨S65536x8192, .bf16⟩
  | .hbm, ⟨1, _⟩ => ⟨S4x1536, .f32⟩
  | .hbm, ⟨2, _⟩ => ⟨S65536x1536, .f32⟩
  | .local _ .vmem, ⟨0, _⟩ => ⟨S4096x128, .bf16⟩
  | .local _ .vmem, ⟨1, _⟩ => ⟨S4096x128, .bf16⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | _, _ => ⟨S65536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
variable {F : FTy → Type} [FloatOps F] [Named F]
def κ : String → Option EReal := fun
  | "unit" => some (((Real.sqrt 128)⁻¹ : ℝ) : EReal)
  | _ => none
-- ==== Reference6Ideal.lean ====
abbrev S65536x8192 : Shape := ⟨2, ![65536, 8192]⟩
abbrev S4x1536 : Shape := ⟨2, ![4, 1536]⟩
abbrev S65536x1536 : Shape := ⟨2, ![65536, 1536]⟩
abbrev S16x4096x1536 : Shape := ⟨3, ![16, 4096, 1536]⟩
abbrev S_ : Shape := ⟨0, ![]⟩
abbrev S16x3x1536 : Shape := ⟨3, ![16, 3, 1536]⟩
abbrev S16x4099x1536 : Shape := ⟨3, ![16, 4099, 1536]⟩
abbrev S1x1536 : Shape := ⟨2, ![1, 1536]⟩
abbrev S1536 : Shape := ⟨1, ![1536]⟩
abbrev S1x1x1536 : Shape := ⟨3, ![1, 1, 1536]⟩
abbrev S16x4096x512 : Shape := ⟨3, ![16, 4096, 512]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S65536x8192, .bf16⟩
  | .hbm, ⟨1, _⟩ => ⟨S4x1536, .f32⟩
  | .hbm, ⟨2, _⟩ => ⟨S65536x1536, .bf16⟩
  | .hbm, ⟨3, _⟩ => ⟨S65536x1536, .f32⟩
  | .hbm, ⟨4, _⟩ => ⟨S16x4096x1536, .f32⟩
  | .hbm, ⟨5, _⟩ => ⟨S_, .f32⟩
  | .hbm, ⟨6, _⟩ => ⟨S16x3x1536, .f32⟩
  | .hbm, ⟨7, _⟩ => ⟨S16x4099x1536, .f32⟩
  | .hbm, ⟨8, _⟩ => ⟨S16x4096x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S16x4096x1536, .f32⟩
  | .hbm, ⟨13, _⟩ => ⟨S16x4096x1536, .f32⟩
  | .hbm, ⟨14, _⟩ => ⟨S16x4096x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S16x4096x1536, .f32⟩
  | .hbm, ⟨19, _⟩ => ⟨S16x4096x1536, .f32⟩
  | .hbm, ⟨20, _⟩ => ⟨S16x4096x1536, .f32⟩
  | .hbm, ⟨21, _⟩ => ⟨S16x4096x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S16x4096x1536, .f32⟩
  | .hbm, ⟨26, _⟩ => ⟨S16x4096x1536, .f32⟩
  | .hbm, ⟨27, _⟩ => ⟨S16x4096x1536, .f32⟩
  | .hbm, ⟨28, _⟩ => ⟨S16x4096x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S16x4096x1536, .f32⟩
  | .hbm, ⟨33, _⟩ => ⟨S16x4096x1536, .f32⟩
  | .hbm, ⟨34, _⟩ => ⟨S16x4096x1536, .f32⟩
  | .hbm, ⟨35, _⟩ => ⟨S16x4096x1536, .f32⟩
  | .hbm, ⟨36, _⟩ => ⟨S16x4096x1536, .f32⟩
  | .hbm, ⟨37, _⟩ => ⟨S_, .f32⟩
  | .hbm, ⟨38, _⟩ => ⟨S16x4096x1536, .f32⟩
  | .hbm, ⟨39, _⟩ => ⟨S16x4096x1536, .f32⟩
  | .hbm, ⟨40, _⟩ => ⟨S_, .f32⟩
  | .hbm, ⟨41, _⟩ => ⟨S16x4096x1536, .f32⟩
  | .hbm, ⟨42, _⟩ => ⟨S16x4096x1536, .f32⟩
  | .hbm, ⟨43, _⟩ => ⟨S16x4096x1536, .f32⟩
  | .hbm, ⟨44, _⟩ => ⟨S16x4096x512, .f32⟩
  | .hbm, ⟨45, _⟩ => ⟨S16x4096x512, .f32⟩
  | .hbm, ⟨46, _⟩ => ⟨S16x4096x512, .f32⟩
  | .hbm, ⟨47, _⟩ => ⟨S16x4096x4x128, .f32⟩
  | .hbm, ⟨48, _⟩ => ⟨S16x4096x4x128, .f32⟩
  | .hbm, ⟨49, _⟩ => ⟨S_, .f32⟩
  | .hbm, ⟨50, _⟩ => ⟨S16x4096x4, .f32⟩
  | .hbm, ⟨51, _⟩ => ⟨S16x4096x4x1, .f32⟩
  | .hbm, ⟨52, _⟩ => ⟨S_, .f32⟩
  | .hbm, ⟨53, _⟩ => ⟨S16x4096x4x1, .f32⟩
  | .hbm, ⟨54, _⟩ => ⟨S16x4096x4x1, .f32⟩
  | .hbm, ⟨55, _⟩ => ⟨S16x4096x4x1, .f32⟩
  | .hbm, ⟨56, _⟩ => ⟨S16x4096x4x128, .f32⟩
  | .hbm, ⟨57, _⟩ => ⟨S16x4096x4x128, .f32⟩
  | .hbm, ⟨58, _⟩ => ⟨S_, .f32⟩
  | .hbm, ⟨59, _⟩ => ⟨S_, .f32⟩
  | .hbm, ⟨60, _⟩ => ⟨S16x4096x4x128, .f32⟩
  | .hbm, ⟨61, _⟩ => ⟨S16x4096x4x128, .f32⟩
  | .hbm, ⟨62, _⟩ => ⟨S16x4096x4x128, .f32⟩
  | .hbm, ⟨63, _⟩ => ⟨S16x4096x4x128, .f32⟩
  | .hbm, ⟨64, _⟩ => ⟨S_, .f32⟩
  | .hbm, ⟨65, _⟩ => ⟨S16x4096x4, .f32⟩
  | .hbm, ⟨66, _⟩ => ⟨S16x4096x4x1, .f32⟩
  | .hbm, ⟨67, _⟩ => ⟨S_, .f32⟩
  | .hbm, ⟨68, _⟩ => ⟨S16x4096x4x1, .f32⟩
  | .hbm, ⟨69, _⟩ => ⟨S16x4096x4x1, .f32⟩
  | .hbm, ⟨70, _⟩ => ⟨S16x4096x4x1, .f32⟩
  | .hbm, ⟨71, _⟩ => ⟨S16x4096x4x128, .f32⟩
  | .hbm, ⟨72, _⟩ => ⟨S16x4096x4x128, .f32⟩
  | .hbm, ⟨73, _⟩ => ⟨S16x4096x512, .f32⟩
  | .hbm, ⟨74, _⟩ => ⟨S16x4096x512, .f32⟩
  | .hbm, ⟨75, _⟩ => ⟨S16x4096x1536, .f32⟩
  | .hbm, ⟨76, _⟩ => ⟨S65536x1536, .f32⟩
  | _, _ => ⟨S65536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_5 : Ref sig .tc := ⟨.hbm, 64, rfl⟩
abbrev main_v56 : Ref sig .tc := ⟨.hbm, 65, rfl⟩
abbrev main_v57 : Ref sig .tc := ⟨.hbm, 66, rfl⟩
abbrev main_cst_6 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== Proof.ScanDefs.lean ====
module

public import proofs.«01_k».proof.Proof.Gen.KernelIdeal.Loops

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- One chain's rows of `w` over its rows of `q`, times the chain's state. -/
def both (w q : Vec F S1x64x128 .bf16) (s : Vec F S1x128x128 .f32) : FVec F S128x128 .f32 := k0_pay35 (k0_pay4 s) w q

/-- The chain's new values: `u` minus the `w` half of the product. -/
def newV (w q : Vec F S1x64x128 .bf16) (u : Vec F S1x64x128 .f32) (s : Vec F S1x128x128 .f32) : FVec F S64x128 .bf16 :=
  k0_pay55 (both w q s) u

/-- The decay of head `h`, picked from the row of a chunk's last cumulative gates. -/
def decayOf (h : BitVec 32) (g : Vec F S1x1x128 .f32) : FVec F S1x1 .f32 :=
  shapeCast S1x1 (multiReduction .add [1] S1
    (select (cmpi .eq (iota .tc S1x128 32 [1] iota_S1x128_d1_w32) (broadcast S1x128 h)) (k0_pay71 g)
      (broadcast S1x128 (Scalar.ofBits .f32 0x00000000#32 : F .f32))) 0x00000000#32 reduces_S1x128_S1 (.inl rfl) rfl) shapeCasts_S1_S1x1

/-- The chain's next state. -/
def newS (h : BitVec 32) (w q : Vec F S1x64x128 .bf16) (u : Vec F S1x64x128 .f32) (kd : Vec F S1x64x128 .bf16) (g : Vec F S1x1x128 .f32)
    (s : Vec F S1x128x128 .f32) : FVec F S1x128x128 .f32 :=
  shapeCast S1x128x128
    (addf (mulf (k0_pay4 s) (broadcastTo S128x128 (decayOf h g) broadcasts_S1x1_S128x128))
      (matmul dot_S64x128_S64x128_S128x128_0_0_1_1_n_n none (shapeCast S64x128 kd shapeCasts_S1x64x128_S64x128) (newV w q u s)
        (constant S128x128 .f32 0x00000000#32))) shapeCasts_S128x128_S1x128x128

/-- The chain's rows of the recurrence's output, normed and gated. -/
def newO (gain : Vec F S1x128 .f32) (w q : Vec F S1x64x128 .bf16) (u : Vec F S1x64x128 .f32) (a z : Vec F S1x64x128 .bf16)
    (s : Vec F S1x128x128 .f32) : FVec F S1x64x128 .bf16 :=
  k0_pay119 (k0_pay2 gain) (k0_pay100 (both w q s) (newV w q u s) a) z

end Cert.KernelIdeal.Scan

end
-- ==== Proof.ScanTrip.lean ====
module

public import Idealize.ShloMosaic.Lib.Pointwise.Index
public import proofs.«01_k».proof.Proof.ScanDefs
public import Idealize.ShloMosaic.Lib.Pipeline.FrameBody

@[expose] public section

set_option maxRecDepth 16384

noncomputable section

namespace Cert.KernelIdeal.Scan

open Idealize.ShloMosaic Idealize.ShloMosaic.TcCoe Idealize.ShloMosaic.Tactic
open Cert.KernelIdeal.Gen

variable {F : FTy → Type} [FloatOps F]

/-- Batch `b`, head `h`, chunk `k` of a block of rows. -/
def rows {e : EltTy} (x : Vec F S4x512x512 e) (b h k : ℕ) : Vec F S1x64x128 e :=
  fun y => x (ix3 ⟨b % 4, Nat.mod_lt _ (by decide)⟩ ⟨(64 * k + (y 1).val) % 512, Nat.mod_lt _ (by decide)⟩
    ⟨(128 * h + (y 2).val) % 512, Nat.mod_lt _ (by decide)⟩)

/-- The last row of batch `b`'s chunk `k` in the block of gates. -/
def lastRow (x : Vec F S4x512x128 .f32) (b k : ℕ) : Vec F S1x1x128 .f32 :=
  fun y => x (ix3 ⟨b % 4, Nat.mod_lt _ (by decide)⟩ ⟨(64 * k + 63) % 512, Nat.mod_lt _ (by decide)⟩ (y 2))

/-- The state of chain `ch`. -/
def stOf (S : Vec F S16x128x128 .f32) (ch : ℕ) : Vec F S1x128x128 .f32 :=
  fun y => S (ix3 ⟨ch % 16, Nat.mod_lt _ (by decide)⟩ (y 1) (y 2))

/-- The states after chunk `k`, from those before it. -/
def stT (x2 : Vec F S4x512x512 .f32) (x3 x4 x5 : Vec F S4x512x512 .bf16) (x7 : Vec F S4x512x128 .f32) (k : ℕ) (S : Vec F S16x128x128 .f32) :
    Vec F S16x128x128 .f32 := fun y =>
  newS (BitVec.ofNat 32 ((y 0).val % 4)) (rows x3 ((y 0).val / 4) ((y 0).val % 4) k) (rows x4 ((y 0).val / 4) ((y 0).val % 4) k)
    (rows x2 ((y 0).val / 4) ((y 0).val % 4) k) (rows x5 ((y 0).val / 4) ((y 0).val % 4) k) (lastRow x7 ((y 0).val / 4) k)
    (stOf S (y 0).val) (ix3 0 (y 1) (y 2))

/-- The states before chunk `k` of a block, from those at its start. -/
def scanS (x2 : Vec F S4x512x512 .f32) (x3 x4 x5 : Vec F S4x512x512 .bf16) (x7 : Vec F S4x512x128 .f32) (S : Vec F S16x128x128 .f32) :
    ℕ → Vec F S16x128x128 .f32
  | 0 => S
  | k + 1 => stT x2 x3 x4 x5 x7 k (scanS x2 x3 x4 x5 x7 S k)

/-- The rows that chunk `k` leaves in the output block, from the states before it, at any place of the block (its own rows matter). -/
def outT (x2 : Vec F S4x512x512 .f32) (x3 x4 x6 x8 : Vec F S4x512x512 .bf16) (x9 : Vec F S1x128 .f32) (k : ℕ) (S : Vec F S16x128x128 .f32) :
    Vec F S4x512x512 .bf16 := fun y =>
  newO x9 (rows x3 (y 0).val ((y 2).val / 128) k) (rows x4 (y 0).val ((y 2).val / 128) k)
    (rows x2 (y 0).val ((y 2).val / 128) k) (rows x6 (y 0).val ((y 2).val / 128) k) (rows x8 (y 0).val ((y 2).val / 128) k)
    (stOf S (4 * (y 0).val + (y 2).val / 128)) (ix3 0 ⟨(y 1).val % 64, Nat.mod_lt _ (by decide)⟩ ⟨(y 2).val % 128, Nat.mod_lt _ (by decide)⟩)

/-- The output block. -/
def scanO (x2 : Vec F S4x512x512 .f32) (x3 x4 x5 x6 : Vec F S4x512x512 .bf16) (x7 : Vec F S4x512x128 .f32) (x8 : Vec F S4x512x512 .bf16)
    (x9 : Vec F S1x128 .f32) (S : Vec F S16x128x128 .f32) : Vec F S4x512x512 .bf16 := fun y =>
  outT x2 x3 x4 x6 x8 x9 ((y 1).val / 64) (scanS x2 x3 x4 x5 x7 S ((y 1).val / 64)) y

theorem trips_le (k : Fin k0_t1_loop.trips) : k.val < 8 := Nat.lt_of_lt_of_le k.isLt k0_t1_abs.2.1

theorem ld_rows {e : EltTy} (x : Vec F S4x512x512 e) (b h k : ℕ) (hb : b < 4) (hh : h < 4) (hk : k < 8) (off : Fin 3 → ℕ)
    (inb : ∀ a, off a + S1x64x128.size a ≤ S4x512x512.size a) (ho : off = ![b, 64 * k, 128 * h]) :
    View.ld (Val := Elt F) x (Rect.unit (s := S4x512x512) off S1x64x128.size inb) = rows x b h k := by
  subst ho
  funext y
  refine congrArg x (funext fun a => Fin.ext ?_)
  fin_cases a
  · have h0 : (y 0).val < 1 := (y 0).isLt
    show b + 1 * (y 0).val = b % 4
    omega
  · have h0 : (y 1).val < 64 := (y 1).isLt
    show 64 * k + 1 * (y 1).val = (64 * k + (y 1).val) % 512
    omega
  · have h0 : (y 2).val < 128 := (y 2).isLt
    show 128 * h + 1 * (y 2).val = (128 * h + (y 2).val) % 512
    omega

theorem ld_lastRow (x : Vec F S4x512x128 .f32) (b k : ℕ) (hb : b < 4) (hk : k < 8) (off : Fin 3 → ℕ)
    (inb : ∀ a, off a + S1x1x128.size a ≤ S4x512x128.size a) (ho : off = ![b, 64 * k + 63, 0]) :
    View.ld (Val := Elt F) x (Rect.unit (s := S4x512x128) off S1x1x128.size inb) = lastRow x b k := by
  subst ho
  funext y
  refine congrArg x (funext fun a => Fin.ext ?_)
  fin_cases a
  · have h0 : (y 0).val < 1 := (y 0).isLt
    show b + 1 * (y 0).val = b % 4
    omega
  · have h0 : (y 1).val < 1 := (y 1).isLt
    show 64 * k + 63 + 1 * (y 1).val = (64 * k + 63) % 512
    omega
  · show 0 + 1 * (y 2).val = (y 2).val
    omega

theorem ld_stOf (S : Vec F S16x128x128 .f32) (ch : ℕ) (hc : ch < 16)
    (inb : ∀ a, (![ch, 0, 0] : Fin 3 → ℕ) a + S1x128x128.size a ≤ S16x128x128.size a) :
    View.ld (Val := Elt F) S (Rect.unit (s := S16x128x128) ![ch, 0, 0] S1x128x128.size inb) = stOf S ch := by
  funext y
  refine congrArg S (funext fun a => Fin.ext ?_)
  fin_cases a
  · have h0 : (y 0).val < 1 := (y 0).isLt
    show ch + 1 * (y 0).val = ch % 16
    omega
  · show 0 + 1 * (y 1).val = (y 1).val
    omega
  · show 0 + 1 * (y 2).val = (y 2).val
    omega

/-- A chain's next state, in the words the trip loads, is `stT` on that chain's part of the buffer. -/
theorem state_piece (x2 : Vec F S4x512x512 .f32) (x3 x4 x5 : Vec F S4x512x512 .bf16) (x7 : Vec F S4x512x128 .f32) (S : Vec F S16x128x128 .f32)
    (ch k : ℕ) (hc : ch < 16) (hk : k < 8) (off offg : Fin 3 → ℕ) (inb : ∀ a, off a + S1x64x128.size a ≤ S4x512x512.size a)
    (inbg : ∀ a, offg a + S1x1x128.size a ≤ S4x512x128.size a) (inbs : ∀ a, (![ch, 0, 0] : Fin 3 → ℕ) a + S1x128x128.size a ≤ S16x128x128.size a)
    (ho : off = ![ch / 4, 64 * k, 128 * (ch % 4)]) (hg : offg = ![ch / 4, 64 * k + 63, 0]) (x : S1x128x128.Idx) :
    newS (BitVec.ofNat 32 (ch % 4)) (View.ld (Val := Elt F) x3 (Rect.unit (s := S4x512x512) off S1x64x128.size inb))
      (View.ld (Val := Elt F) x4 (Rect.unit (s := S4x512x512) off S1x64x128.size inb))
      (View.ld (Val := Elt F) x2 (Rect.unit (s := S4x512x512) off S1x64x128.size inb))
      (View.ld (Val := Elt F) x5 (Rect.unit (s := S4x512x512) off S1x64x128.size inb))
      (View.ld (Val := Elt F) x7 (Rect.unit (s := S4x512x128) offg S1x1x128.size inbg))
      (View.ld (Val := Elt F) S (Rect.unit (s := S16x128x128) ![ch, 0, 0] S1x128x128.size inbs)) x
      = stT x2 x3 x4 x5 x7 k S ((Rect.unit (s := S16x128x128) ![ch, 0, 0] S1x128x128.size inbs).emb x) := by
  rw [ld_rows x3 (ch / 4) (ch % 4) k (by omega) (by omega) hk off inb ho, ld_rows x4 (ch / 4) (ch % 4) k (by omega) (by omega) hk off inb ho,
    ld_rows x2 (ch / 4) (ch % 4) k (by omega) (by omega) hk off inb ho, ld_rows x5 (ch / 4) (ch % 4) k (by omega) (by omega) hk off inb ho,
    ld_lastRow x7 (ch / 4) k (by omega) hk offg inbg hg, ld_stOf S ch hc inbs]
  have h0 : (x 0).val < 1 := (x 0).isLt
  have e0 : ((Rect.unit (s := S16x128x128) ![ch, 0, 0] S1x128x128.size inbs).emb x 0).val = ch := by
    show ch + 1 * (x 0).val = ch
    omega
  have e1 : (ix3 0 ((Rect.unit (s := S16x128x128) ![ch, 0, 0] S1x128x128.size inbs).emb x 1)
      ((Rect.unit (s := S16x128x128) ![ch, 0, 0] S1x128x128.size inbs).emb x 2) : S1x128x128.Idx) = x := by
    funext a
    refine Fin.ext ?_
    fin_cases a
    · show 0 = (x 0).val
      omega
    · show 0 + 1 * (x 1).val = (x 1).val
      omega
    · show 0 + 1 * (x 2).val = (x 2).val
      omega
  unfold stT
  rw [e0, e1]

/-- A chain's output rows, in the words the trip loads, are `outT` on that chain's part of the block. -/
theorem out_piece (x2 : Vec F S4x512x512 .f32) (x3 x4 x6 x8 : Vec F S4x512x512 .bf16) (x9 : Vec F S1x128 .f32) (S : Vec F S16x128x128 .f32)
    (ch k : ℕ) (hc : ch < 16) (hk : k < 8) (off : Fin 3 → ℕ) (inb : ∀ a, off a + S1x64x128.size a ≤ S4x512x512.size a)
    (inbs : ∀ a, (![ch, 0, 0] : Fin 3 → ℕ) a + S1x128x128.size a ≤ S16x128x128.size a)
    (ho : off = ![ch / 4, 64 * k, 128 * (ch % 4)]) (x : S1x64x128.Idx) :
    newO x9 (View.ld (Val := Elt F) x3 (Rect.unit (s := S4x512x512) off S1x64x128.size inb))
      (View.ld (Val := Elt F) x4 (Rect.unit (s := S4x512x512) off S1x64x128.size inb))
      (View.ld (Val := Elt F) x2 (Rect.unit (s := S4x512x512) off S1x64x128.size inb))
      (View.ld (Val := Elt F) x6 (Rect.unit (s := S4x512x512) off S1x64x128.size inb))
      (View.ld (Val := Elt F) x8 (Rect.unit (s := S4x512x512) off S1x64x128.size inb))
      (View.ld (Val := Elt F) S (Rect.unit (s := S16x128x128) ![ch, 0, 0] S1x128x128.size inbs)) x
      = outT x2 x3 x4 x6 x8 x9 k S ((Rect.unit (s := S4x512x512) off S1x64x128.size inb).emb x) := by
  rw [ld_rows x3 (ch / 4) (ch % 4) k (by omega) (by omega) hk off inb ho, ld_rows x4 (ch / 4) (ch % 4) k (by omega) (by omega) hk off inb ho,
    ld_rows x2 (ch / 4) (ch % 4) k (by omega) (by omega) hk off inb ho, ld_rows x6 (ch / 4) (ch % 4) k (by omega) (by omega) hk off inb ho,
    ld_rows x8 (ch / 4) (ch % 4) k (by omega) (by omega) hk off inb ho, ld_stOf S ch hc inbs]
  subst ho
  have h0 : (x 0).val < 1 := (x 0).isLt
  have h1 : (x 1).val < 64 := (x 1).isLt
  have h2 : (x 2).val < 128 := (x 2).isLt
  set y := (Rect.unit (s := S4x512x512) ![ch / 4, 64 * k, 128 * (ch % 4)] S1x64x128.size inb).emb x with hy
  have e0 : (y 0).val = ch / 4 := by
    show ch / 4 + 1 * (x 0).val = ch / 4
    omega
  have y1 : (y 1).val = 64 * k + (x 1).val := by
    show 64 * k + 1 * (x 1).val = 64 * k + (x 1).val
    omega
  have y2 : (y 2).val = 128 * (ch % 4) + (x 2).val := by
    show 128 * (ch % 4) + 1 * (x 2).val = 128 * (ch % 4) + (x 2).val
    omega
  have e2 : (y 2).val / 128 = ch % 4 := by omega
  have e3 : 4 * (ch / 4) + ch % 4 = ch := by omega
  have e1 : (ix3 0 ⟨(y 1).val % 64, Nat.mod_lt _ (by decide)⟩ ⟨(y 2).val % 128, Nat.mod_lt _ (by decide)⟩ : S1x64x128.Idx) = x := by
    funext a
    refine Fin.ext ?_
    fin_cases a
    · show 0 = (x 0).val
      omega
    · show (y 1).val % 64 = (x 1).val
      omega
    · show (y 2).val % 128 = (x 2).val
      omega
  unfold outT
  rw [e0, e2, e3, e1]

/-- The store of chain `ch`'s next state. -/
def spiece (x2 : Vec F S4x512x512 .f32) (x3 x4 x5 : Vec F S4x512x512 .bf16) (x7 : Vec F S4x512x128 .f32) (S : Vec F S16x128x128 .f32) (ch h : ℕ) (off offg : Fin 3 → ℕ) (inb : ∀ a, off a + S1x64x128.size a ≤ S4x512x512.size a)
    (inbg : ∀ a, offg a + S1x1x128.size a ≤ S4x512x128.size a) (inbs : ∀ a, (![ch, 0, 0] : Fin 3 → ℕ) a + S1x128x128.size a ≤ S16x128x128.size a) :
    View.Piece (Elt F) S16x128x128 .f32 :=
  ⟨Rect.unit (s := S16x128x128) ![ch, 0, 0] S1x128x128.size inbs,
    newS (BitVec.ofNat 32 h) (View.ld (Val := Elt F) x3 (Rect.unit (s := S4x512x512) off S1x64x128.size inb))
      (View.ld (Val := Elt F) x4 (Rect.unit (s := S4x512x512) off S1x64x128.size inb))
      (View.ld (Val := Elt F) x2 (Rect.unit (s := S4x512x512) off S1x64x128.size inb))
      (View.ld (Val := Elt F) x5 (Rect.unit (s := S4x512x512) off S1x64x128.size inb))
      (View.ld (Val := Elt F) x7 (Rect.unit (s := S4x512x128) offg S1x1x128.size inbg))
      (View.ld (Val := Elt F) S (Rect.unit (s := S16x128x128) ![ch, 0, 0] S1x128x128.size inbs))⟩

/-- The store of chain `ch`'s output rows. -/
def opiece (x2 : Vec F S4x512x512 .f32) (x3 x4 x6 x8 : Vec F S4x512x512 .bf16) (x9 : Vec F S1x128 .f32) (S : Vec F S16x128x128 .f32) (ch : ℕ) (off : Fin 3 → ℕ) (inb : ∀ a, off a + S1x64x128.size a ≤ S4x512x512.size a)
    (inbs : ∀ a, (![ch, 0, 0] : Fin 3 → ℕ) a + S1x128x128.size a ≤ S16x128x128.size a) :
    View.Piece (Elt F) S4x512x512 .bf16 :=
  ⟨Rect.unit (s := S4x512x512) off S1x64x128.size inb,
    newO x9 (View.ld (Val := Elt F) x3 (Rect.unit (s := S4x512x512) off S1x64x128.size inb))
      (View.ld (Val := Elt F) x4 (Rect.unit (s := S4x512x512) off S1x64x128.size inb))
      (View.ld (Val := Elt F) x2 (Rect.unit (s := S4x512x512) off S1x64x128.size inb))
      (View.ld (Val := Elt F) x6 (Rect.unit (s := S4x512x512) off S1x64x128.size inb))
      (View.ld (Val := Elt F) x8 (Rect.unit (s := S4x512x512) off S1x64x128.size inb))
      (View.ld (Val := Elt F) S (Rect.unit (s := S16x128x128) ![ch, 0, 0] S1x128x128.size inbs))⟩

/-- The state stores of a trip, newest first. -/
def sList (x2 : Vec F S4x512x512 .f32) (x3 x4 x5 : Vec F S4x512x512 .bf16) (x7 : Vec F S4x512x128 .f32) (S : Vec F S16x128x128 .f32) (k : Fin k0_t1_loop.trips) : List (View.Piece (Elt F) S16x128x128 .f32) :=
  [spiece x2 x3 x4 x5 x7 S 15 3 (k0_off16 k) (k0_off20 k) (k0_off16_inb k) (k0_off20_inb k) inb_S16x128x128_S1x128x128_15_0_0,
   spiece x2 x3 x4 x5 x7 S 14 2 (k0_off15 k) (k0_off20 k) (k0_off15_inb k) (k0_off20_inb k) inb_S16x128x128_S1x128x128_14_0_0,
   spiece x2 x3 x4 x5 x7 S 13 1 (k0_off14 k) (k0_off20 k) (k0_off14_inb k) (k0_off20_inb k) inb_S16x128x128_S1x128x128_13_0_0,
   spiece x2 x3 x4 x5 x7 S 12 0 (k0_off13 k) (k0_off20 k) (k0_off13_inb k) (k0_off20_inb k) inb_S16x128x128_S1x128x128_12_0_0,
   spiece x2 x3 x4 x5 x7 S 11 3 (k0_off12 k) (k0_off19 k) (k0_off12_inb k) (k0_off19_inb k) inb_S16x128x128_S1x128x128_11_0_0,
   spiece x2 x3 x4 x5 x7 S 10 2 (k0_off11 k) (k0_off19 k) (k0_off11_inb k) (k0_off19_inb k) inb_S16x128x128_S1x128x128_10_0_0,
   spiece x2 x3 x4 x5 x7 S 9 1 (k0_off10 k) (k0_off19 k) (k0_off10_inb k) (k0_off19_inb k) inb_S16x128x128_S1x128x128_9_0_0,
   spiece x2 x3 x4 x5 x7 S 8 0 (k0_off9 k) (k0_off19 k) (k0_off9_inb k) (k0_off19_inb k) inb_S16x128x128_S1x128x128_8_0_0,
   spiece x2 x3 x4 x5 x7 S 7 3 (k0_off8 k) (k0_off18 k) (k0_off8_inb k) (k0_off18_inb k) inb_S16x128x128_S1x128x128_7_0_0,
   spiece x2 x3 x4 x5 x7 S 6 2 (k0_off7 k) (k0_off18 k) (k0_off7_inb k) (k0_off18_inb k) inb_S16x128x128_S1x128x128_6_0_0,
   spiece x2 x3 x4 x5 x7 S 5 1 (k0_off6 k) (k0_off18 k) (k0_off6_inb k) (k0_off18_inb k) inb_S16x128x128_S1x128x128_5_0_0,
   spiece x2 x3 x4 x5 x7 S 4 0 (k0_off5 k) (k0_off18 k) (k0_off5_inb k) (k0_off18_inb k) inb_S16x128x128_S1x128x128_4_0_0,
   spiece x2 x3 x4 x5 x7 S 3 3 (k0_off4 k) (k0_off17 k) (k0_off4_inb k) (k0_off17_inb k) inb_S16x128x128_S1x128x128_3_0_0,
   spiece x2 x3 x4 x5 x7 S 2 2 (k0_off3 k) (k0_off17 k) (k0_off3_inb k) (k0_off17_inb k) inb_S16x128x128_S1x128x128_2_0_0,
   spiece x2 x3 x4 x5 x7 S 1 1 (k0_off2 k) (k0_off17 k) (k0_off2_inb k) (k0_off17_inb k) inb_S16x128x128_S1x128x128_1_0_0,
   spiece x2 x3 x4 x5 x7 S 0 0 (k0_off1 k) (k0_off17 k) (k0_off1_inb k) (k0_off17_inb k) inb_S16x128x128_S1x128x128_0_0_0]

/-- The output stores of a trip, newest first. -/
def oList (x2 : Vec F S4x512x512 .f32) (x3 x4 x6 x8 : Vec F S4x512x512 .bf16) (x9 : Vec F S1x128 .f32) (S : Vec F S16x128x128 .f32) (k : Fin k0_t1_loop.trips) : List (View.Piece (Elt F) S4x512x512 .bf16) :=
  [opiece x2 x3 x4 x6 x8 x9 S 15 (k0_off16 k) (k0_off16_inb k) inb_S16x128x128_S1x128x128_15_0_0,
   opiece x2 x3 x4 x6 x8 x9 S 14 (k0_off15 k) (k0_off15_inb k) inb_S16x128x128_S1x128x128_14_0_0,
   opiece x2 x3 x4 x6 x8 x9 S 13 (k0_off14 k) (k0_off14_inb k) inb_S16x128x128_S1x128x128_13_0_0,
   opiece x2 x3 x4 x6 x8 x9 S 12 (k0_off13 k) (k0_off13_inb k) inb_S16x128x128_S1x128x128_12_0_0,
   opiece x2 x3 x4 x6 x8 x9 S 11 (k0_off12 k) (k0_off12_inb k) inb_S16x128x128_S1x128x128_11_0_0,
   opiece x2 x3 x4 x6 x8 x9 S 10 (k0_off11 k) (k0_off11_inb k) inb_S16x128x128_S1x128x128_10_0_0,
   opiece x2 x3 x4 x6 x8 x9 S 9 (k0_off10 k) (k0_off10_inb k) inb_S16x128x128_S1x128x128_9_0_0,
   opiece x2 x3 x4 x6 x8 x9 S 8 (k0_off9 k) (k0_off9_inb k) inb_S16x128x128_S1x128x128_8_0_0,
   opiece x2 x3 x4 x6 x8 x9 S 7 (k0_off8 k) (k0_off8_inb k) inb_S16x128x128_S1x128x128_7_0_0,
   opiece x2 x3 x4 x6 x8 x9 S 6 (k0_off7 k) (k0_off7_inb k) inb_S16x128x128_S1x128x128_6_0_0,
   opiece x2 x3 x4 x6 x8 x9 S 5 (k0_off6 k) (k0_off6_inb k) inb_S16x128x128_S1x128x128_5_0_0,
   opiece x2 x3 x4 x6 x8 x9 S 4 (k0_off5 k) (k0_off5_inb k) inb_S16x128x128_S1x128x128_4_0_0,
   opiece x2 x3 x4 x6 x8 x9 S 3 (k0_off4 k) (k0_off4_inb k) inb_S16x128x128_S1x128x128_3_0_0,
   opiece x2 x3 x4 x6 x8 x9 S 2 (k0_off3 k) (k0_off3_inb k) inb_S16x128x128_S1x128x128_2_0_0,
   opiece x2 x3 x4 x6 x8 x9 S 1 (k0_off2 k) (k0_off2_inb k) inb_S16x128x128_S1x128x128_1_0_0,
   opiece x2 x3 x4 x6 x8 x9 S 0 (k0_off1 k) (k0_off1_inb k) inb_S16x128x128_S1x128x128_0_0_0]

theorem forall_mem_cons' {α : Type*} {p : α → Prop} {a : α} {l : List α} (h : p a) (hl : ∀ x ∈ l, p x) : ∀ x ∈ a :: l, p x :=
  List.forall_mem_cons.mpr ⟨h, hl⟩

theorem spiece_val (x2 : Vec F S4x512x512 .f32) (x3 x4 x5 : Vec F S4x512x512 .bf16) (x7 : Vec F S4x512x128 .f32) (S : Vec F S16x128x128 .f32) (ch k : ℕ) (hc : ch < 16) (hk : k < 8) (off offg inb inbg inbs)
    (ho : off = ![ch / 4, 64 * k, 128 * (ch % 4)]) (hg : offg = ![ch / 4, 64 * k + 63, 0]) :
    ∀ x : (spiece x2 x3 x4 x5 x7 S ch (ch % 4) off offg inb inbg inbs).1.shape.Idx,
      (spiece x2 x3 x4 x5 x7 S ch (ch % 4) off offg inb inbg inbs).2 x
        = stT x2 x3 x4 x5 x7 k S ((spiece x2 x3 x4 x5 x7 S ch (ch % 4) off offg inb inbg inbs).1.emb x) :=
  state_piece x2 x3 x4 x5 x7 S ch k hc hk off offg inb inbg inbs ho hg

theorem opiece_val (x2 : Vec F S4x512x512 .f32) (x3 x4 x6 x8 : Vec F S4x512x512 .bf16) (x9 : Vec F S1x128 .f32) (S : Vec F S16x128x128 .f32) (ch k : ℕ) (hc : ch < 16) (hk : k < 8) (off inb inbs)
    (ho : off = ![ch / 4, 64 * k, 128 * (ch % 4)]) :
    ∀ x : (opiece x2 x3 x4 x6 x8 x9 S ch off inb inbs).1.shape.Idx,
      (opiece x2 x3 x4 x6 x8 x9 S ch off inb inbs).2 x = outT x2 x3 x4 x6 x8 x9 k S ((opiece x2 x3 x4 x6 x8 x9 S ch off inb inbs).1.emb x) :=
  out_piece x2 x3 x4 x6 x8 x9 S ch k hc hk off inb inbs ho

theorem spiece_mem (x2 : Vec F S4x512x512 .f32) (x3 x4 x5 : Vec F S4x512x512 .bf16) (x7 : Vec F S4x512x128 .f32) (S : Vec F S16x128x128 .f32) (ch h : ℕ) (off offg inb inbg inbs) (y : S16x128x128.Idx) (hy : (y 0).val = ch) :
    y ∈ (spiece x2 x3 x4 x5 x7 S ch h off offg inb inbg inbs).1.set := by
  have h1 : (y 1).val < 128 := (y 1).isLt
  have h2 : (y 2).val < 128 := (y 2).isLt
  show y ∈ (Rect.unit (s := S16x128x128) ![ch, 0, 0] S1x128x128.size inbs).set
  rw [Rect.mem_set_unit]
  intro a
  fin_cases a
  · show ch ≤ (y 0).val ∧ (y 0).val < ch + 1
    omega
  · show 0 ≤ (y 1).val ∧ (y 1).val < 0 + 128
    omega
  · show 0 ≤ (y 2).val ∧ (y 2).val < 0 + 128
    omega

theorem opiece_mem (x2 : Vec F S4x512x512 .f32) (x3 x4 x6 x8 : Vec F S4x512x512 .bf16) (x9 : Vec F S1x128 .f32) (S : Vec F S16x128x128 .f32) (ch k : ℕ) (off inb inbs) (ho : off = ![ch / 4, 64 * k, 128 * (ch % 4)]) (y : S4x512x512.Idx)
    (hy : (y 1).val / 64 = k) (hc : 4 * (y 0).val + (y 2).val / 128 = ch) : y ∈ (opiece x2 x3 x4 x6 x8 x9 S ch off inb inbs).1.set := by
  have h0 : (y 0).val < 4 := (y 0).isLt
  have h2 : (y 2).val < 512 := (y 2).isLt
  show y ∈ (Rect.unit (s := S4x512x512) off S1x64x128.size inb).set
  subst ho
  rw [Rect.mem_set_unit]
  intro a
  fin_cases a
  · show ch / 4 ≤ (y 0).val ∧ (y 0).val < ch / 4 + 1
    omega
  · show 64 * k ≤ (y 1).val ∧ (y 1).val < 64 * k + 64
    omega
  · show 128 * (ch % 4) ≤ (y 2).val ∧ (y 2).val < 128 * (ch % 4) + 128
    omega

theorem opiece_not_mem (x2 : Vec F S4x512x512 .f32) (x3 x4 x6 x8 : Vec F S4x512x512 .bf16) (x9 : Vec F S1x128 .f32) (S : Vec F S16x128x128 .f32) (ch k b c : ℕ) (off inb inbs) (ho : off = ![b, 64 * k, c]) (y : S4x512x512.Idx)
    (hy : (y 1).val / 64 ≠ k) : y ∉ (opiece x2 x3 x4 x6 x8 x9 S ch off inb inbs).1.set := by
  show y ∉ (Rect.unit (s := S4x512x512) off S1x64x128.size inb).set
  subst ho
  rw [Rect.mem_set_unit]
  intro h
  have h1 : 64 * k ≤ (y 1).val ∧ (y 1).val < 64 * k + 64 := h 1
  omega

theorem sList_val (x2 : Vec F S4x512x512 .f32) (x3 x4 x5 : Vec F S4x512x512 .bf16) (x7 : Vec F S4x512x128 .f32) (S : Vec F S16x128x128 .f32) (k : Fin k0_t1_loop.trips) : ∀ p ∈ sList x2 x3 x4 x5 x7 S k, ∀ x : p.1.shape.Idx, p.2 x = stT x2 x3 x4 x5 x7 k.val S (p.1.emb x) := by
  have hk := trips_le k
  unfold sList
  refine forall_mem_cons' (spiece_val x2 x3 x4 x5 x7 S 15 k.val (by decide) hk _ _ _ _ _ (k0_off16_eq k) (k0_off20_eq k)) ?_
  refine forall_mem_cons' (spiece_val x2 x3 x4 x5 x7 S 14 k.val (by decide) hk _ _ _ _ _ (k0_off15_eq k) (k0_off20_eq k)) ?_
  refine forall_mem_cons' (spiece_val x2 x3 x4 x5 x7 S 13 k.val (by decide) hk _ _ _ _ _ (k0_off14_eq k) (k0_off20_eq k)) ?_
  refine forall_mem_cons' (spiece_val x2 x3 x4 x5 x7 S 12 k.val (by decide) hk _ _ _ _ _ (k0_off13_eq k) (k0_off20_eq k)) ?_
  refine forall_mem_cons' (spiece_val x2 x3 x4 x5 x7 S 11 k.val (by decide) hk _ _ _ _ _ (k0_off12_eq k) (k0_off19_eq k)) ?_
  refine forall_mem_cons' (spiece_val x2 x3 x4 x5 x7 S 10 k.val (by decide) hk _ _ _ _ _ (k0_off11_eq k) (k0_off19_eq k)) ?_
  refine forall_mem_cons' (spiece_val x2 x3 x4 x5 x7 S 9 k.val (by decide) hk _ _ _ _ _ (k0_off10_eq k) (k0_off19_eq k)) ?_
  refine forall_mem_cons' (spiece_val x2 x3 x4 x5 x7 S 8 k.val (by decide) hk _ _ _ _ _ (k0_off9_eq k) (k0_off19_eq k)) ?_
  refine forall_mem_cons' (spiece_val x2 x3 x4 x5 x7 S 7 k.val (by decide) hk _ _ _ _ _ (k0_off8_eq k) (k0_off18_eq k)) ?_
  refine forall_mem_cons' (spiece_val x2 x3 x4 x5 x7 S 6 k.val (by decide) hk _ _ _ _ _ (k0_off7_eq k) (k0_off18_eq k)) ?_
  refine forall_mem_cons' (spiece_val x2 x3 x4 x5 x7 S 5 k.val (by decide) hk _ _ _ _ _ (k0_off6_eq k) (k0_off18_eq k)) ?_
  refine forall_mem_cons' (spiece_val x2 x3 x4 x5 x7 S 4 k.val (by decide) hk _ _ _ _ _ (k0_off5_eq k) (k0_off18_eq k)) ?_
  refine forall_mem_cons' (spiece_val x2 x3 x4 x5 x7 S 3 k.val (by decide) hk _ _ _ _ _ (k0_off4_eq k) (k0_off17_eq k)) ?_
  refine forall_mem_cons' (spiece_val x2 x3 x4 x5 x7 S 2 k.val (by decide) hk _ _ _ _ _ (k0_off3_eq k) (k0_off17_eq k)) ?_
  refine forall_mem_cons' (spiece_val x2 x3 x4 x5 x7 S 1 k.val (by decide) hk _ _ _ _ _ (k0_off2_eq k) (k0_off17_eq k)) ?_
  refine forall_mem_cons' (spiece_val x2 x3 x4 x5 x7 S 0 k.val (by decide) hk _ _ _ _ _ (k0_off1_eq k) (k0_off17_eq k)) ?_
  exact fun _ h => absurd h List.not_mem_nil

theorem oList_val (x2 : Vec F S4x512x512 .f32) (x3 x4 x6 x8 : Vec F S4x512x512 .bf16) (x9 : Vec F S1x128 .f32) (S : Vec F S16x128x128 .f32) (k : Fin k0_t1_loop.trips) : ∀ p ∈ oList x2 x3 x4 x6 x8 x9 S k, ∀ x : p.1.shape.Idx, p.2 x = outT x2 x3 x4 x6 x8 x9 k.val S (p.1.emb x) := by
  have hk := trips_le k
  unfold oList
  refine forall_mem_cons' (opiece_val x2 x3 x4 x6 x8 x9 S 15 k.val (by decide) hk _ _ _ (k0_off16_eq k)) ?_
  refine forall_mem_cons' (opiece_val x2 x3 x4 x6 x8 x9 S 14 k.val (by decide) hk _ _ _ (k0_off15_eq k)) ?_
  refine forall_mem_cons' (opiece_val x2 x3 x4 x6 x8 x9 S 13 k.val (by decide) hk _ _ _ (k0_off14_eq k)) ?_
  refine forall_mem_cons' (opiece_val x2 x3 x4 x6 x8 x9 S 12 k.val (by decide) hk _ _ _ (k0_off13_eq k)) ?_
  refine forall_mem_cons' (opiece_val x2 x3 x4 x6 x8 x9 S 11 k.val (by decide) hk _ _ _ (k0_off12_eq k)) ?_
  refine forall_mem_cons' (opiece_val x2 x3 x4 x6 x8 x9 S 10 k.val (by decide) hk _ _ _ (k0_off11_eq k)) ?_
  refine forall_mem_cons' (opiece_val x2 x3 x4 x6 x8 x9 S 9 k.val (by decide) hk _ _ _ (k0_off10_eq k)) ?_
  refine forall_mem_cons' (opiece_val x2 x3 x4 x6 x8 x9 S 8 k.val (by decide) hk _ _ _ (k0_off9_eq k)) ?_
  refine forall_mem_cons' (opiece_val x2 x3 x4 x6 x8 x9 S 7 k.val (by decide) hk _ _ _ (k0_off8_eq k)) ?_
  refine forall_mem_cons' (opiece_val x2 x3 x4 x6 x8 x9 S 6 k.val (by decide) hk _ _ _ (k0_off7_eq k)) ?_
  refine forall_mem_cons' (opiece_val x2 x3 x4 x6 x8 x9 S 5 k.val (by decide) hk _ _ _ (k0_off6_eq k)) ?_
  refine forall_mem_cons' (opiece_val x2 x3 x4 x6 x8 x9 S 4 k.val (by decide) hk _ _ _ (k0_off5_eq k)) ?_
  refine forall_mem_cons' (opiece_val x2 x3 x4 x6 x8 x9 S 3 k.val (by decide) hk _ _ _ (k0_off4_eq k)) ?_
  refine forall_mem_cons' (opiece_val x2 x3 x4 x6 x8 x9 S 2 k.val (by decide) hk _ _ _ (k0_off3_eq k)) ?_
  refine forall_mem_cons' (opiece_val x2 x3 x4 x6 x8 x9 S 1 k.val (by decide) hk _ _ _ (k0_off2_eq k)) ?_
  refine forall_mem_cons' (opiece_val x2 x3 x4 x6 x8 x9 S 0 k.val (by decide) hk _ _ _ (k0_off1_eq k)) ?_
  exact fun _ h => absurd h List.not_mem_nil

theorem sList_cover (x2 : Vec F S4x512x512 .f32) (x3 x4 x5 : Vec F S4x512x512 .bf16) (x7 : Vec F S4x512x128 .f32) (S : Vec F S16x128x128 .f32) (k : Fin k0_t1_loop.trips) (y : S16x128x128.Idx) : ∃ p ∈ sList x2 x3 x4 x5 x7 S k, y ∈ p.1.set := by
  have h0 : (y 0).val < 16 := (y 0).isLt
  have hor : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
  unfold sList
  rcases hor with h | h | h | h | h | h | h | h | h | h | h | h | h | h | h | h
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), spiece_mem x2 x3 x4 x5 x7 S 0 0 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), spiece_mem x2 x3 x4 x5 x7 S 1 1 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), spiece_mem x2 x3 x4 x5 x7 S 2 2 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), spiece_mem x2 x3 x4 x5 x7 S 3 3 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), spiece_mem x2 x3 x4 x5 x7 S 4 0 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), spiece_mem x2 x3 x4 x5 x7 S 5 1 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), spiece_mem x2 x3 x4 x5 x7 S 6 2 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), spiece_mem x2 x3 x4 x5 x7 S 7 3 _ _ _ _ _ y h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), spiece_mem x2 x3 x4 x5 x7 S 8 0 _ _ _ _ _ y h⟩
  · exact ⟨_, (List.mem_cons_of_mem _ (List.mem_cons_of_mem _ (List.mem_cons_of_mem _ (List.mem_cons_of_mem _ (List.mem_cons_of_mem _ (List.mem_cons_of_mem _ List.mem_cons_self)))))), spiece_mem x2 x3 x4 x5 x7 S 9 1 _ _ _ _ _ y h⟩
  · exact ⟨_, (List.mem_cons_of_mem _ (List.mem_cons_of_mem _ (List.mem_cons_of_mem _ (List.mem_cons_of_mem _ (List.mem_cons_of_mem _ List.mem_cons_self))))), spiece_mem x2 x3 x4 x5 x7 S 10 2 _ _ _ _ _ y h⟩
  · exact ⟨_, (List.mem_cons_of_mem _ (List.mem_cons_of_mem _ (List.mem_cons_of_mem _ (List.mem_cons_of_mem _ List.mem_cons_self)))), spiece_mem x2 x3 x4 x5 x7 S 11 3 _ _ _ _ _ y h⟩
  · exact ⟨_, (List.mem_cons_of_mem _ (List.mem_cons_of_mem _ (List.mem_cons_of_mem _ List.mem_cons_self))), spiece_mem x2 x3 x4 x5 x7 S 12 0 _ _ _ _ _ y h⟩
  · exact ⟨_, (List.mem_cons_of_mem _ (List.mem_cons_of_mem _ List.mem_cons_self)), spiece_mem x2 x3 x4 x5 x7 S 13 1 _ _ _ _ _ y h⟩
  · exact ⟨_, (List.mem_cons_of_mem _ List.mem_cons_self), spiece_mem x2 x3 x4 x5 x7 S 14 2 _ _ _ _ _ y h⟩
  · exact ⟨_, List.mem_cons_self, spiece_mem x2 x3 x4 x5 x7 S 15 3 _ _ _ _ _ y h⟩

theorem oList_cover (x2 : Vec F S4x512x512 .f32) (x3 x4 x6 x8 : Vec F S4x512x512 .bf16) (x9 : Vec F S1x128 .f32) (S : Vec F S16x128x128 .f32) (k : Fin k0_t1_loop.trips) (y : S4x512x512.Idx) (hy : (y 1).val / 64 = k.val) : ∃ p ∈ oList x2 x3 x4 x6 x8 x9 S k, y ∈ p.1.set := by
  have h0 : (y 0).val < 4 := (y 0).isLt
  have h2 : (y 2).val < 512 := (y 2).isLt
  have hor : 4 * (y 0).val + (y 2).val / 128 = 0 ∨ 4 * (y 0).val + (y 2).val / 128 = 1 ∨ 4 * (y 0).val + (y 2).val / 128 = 2 ∨ 4 * (y 0).val + (y 2).val / 128 = 3 ∨ 4 * (y 0).val + (y 2).val / 128 = 4 ∨ 4 * (y 0).val + (y 2).val / 128 = 5 ∨ 4 * (y 0).val + (y 2).val / 128 = 6 ∨ 4 * (y 0).val + (y 2).val / 128 = 7 ∨ 4 * (y 0).val + (y 2).val / 128 = 8 ∨ 4 * (y 0).val + (y 2).val / 128 = 9 ∨ 4 * (y 0).val + (y 2).val / 128 = 10 ∨ 4 * (y 0).val + (y 2).val / 128 = 11 ∨ 4 * (y 0).val + (y 2).val / 128 = 12 ∨ 4 * (y 0).val + (y 2).val / 128 = 13 ∨ 4 * (y 0).val + (y 2).val / 128 = 14 ∨ 4 * (y 0).val + (y 2).val / 128 = 15 := by omega
  unfold oList
  rcases hor with h | h | h | h | h | h | h | h | h | h | h | h | h | h | h | h
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), opiece_mem x2 x3 x4 x6 x8 x9 S 0 k.val _ _ _ (k0_off1_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), opiece_mem x2 x3 x4 x6 x8 x9 S 1 k.val _ _ _ (k0_off2_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), opiece_mem x2 x3 x4 x6 x8 x9 S 2 k.val _ _ _ (k0_off3_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), opiece_mem x2 x3 x4 x6 x8 x9 S 3 k.val _ _ _ (k0_off4_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), opiece_mem x2 x3 x4 x6 x8 x9 S 4 k.val _ _ _ (k0_off5_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), opiece_mem x2 x3 x4 x6 x8 x9 S 5 k.val _ _ _ (k0_off6_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), opiece_mem x2 x3 x4 x6 x8 x9 S 6 k.val _ _ _ (k0_off7_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), opiece_mem x2 x3 x4 x6 x8 x9 S 7 k.val _ _ _ (k0_off8_eq k) y hy h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), opiece_mem x2 x3 x4 x6 x8 x9 S 8 k.val _ _ _ (k0_off9_eq k) y hy h⟩
  · exact ⟨_, (List.mem_cons_of_mem _ (List.mem_cons_of_mem _ (List.mem_cons_of_mem _ (List.mem_cons_of_mem _ (List.mem_cons_of_mem _ (List.mem_cons_of_mem _ List.mem_cons_self)))))), opiece_mem x2 x3 x4 x6 x8 x9 S 9 k.val _ _ _ (k0_off10_eq k) y hy h⟩
  · exact ⟨_, (List.mem_cons_of_mem _ (List.mem_cons_of_mem _ (List.mem_cons_of_mem _ (List.mem_cons_of_mem _ (List.mem_cons_of_mem _ List.mem_cons_self))))), opiece_mem x2 x3 x4 x6 x8 x9 S 10 k.val _ _ _ (k0_off11_eq k) y hy h⟩
  · exact ⟨_, (List.mem_cons_of_mem _ (List.mem_cons_of_mem _ (List.mem_cons_of_mem _ (List.mem_cons_of_mem _ List.mem_cons_self)))), opiece_mem x2 x3 x4 x6 x8 x9 S 11 k.val _ _ _ (k0_off12_eq k) y hy h⟩
  · exact ⟨_, (List.mem_cons_of_mem _ (List.mem_cons_of_mem _ (List.mem_cons_of_mem _ List.mem_cons_self))), opiece_mem x2 x3 x4 x6 x8 x9 S 12 k.val _ _ _ (k0_off13_eq k) y hy h⟩
  · exact ⟨_, (List.mem_cons_of_mem _ (List.mem_cons_of_mem _ List.mem_cons_self)), opiece_mem x2 x3 x4 x6 x8 x9 S 13 k.val _ _ _ (k0_off14_eq k) y hy h⟩
  · exact ⟨_, (List.mem_cons_of_mem _ List.mem_cons_self), opiece_mem x2 x3 x4 x6 x8 x9 S 14 k.val _ _ _ (k0_off15_eq k) y hy h⟩
  · exact ⟨_, List.mem_cons_self, opiece_mem x2 x3 x4 x6 x8 x9 S 15 k.val _ _ _ (k0_off16_eq k) y hy h⟩

theorem oList_not_mem (x2 : Vec F S4x512x512 .f32) (x3 x4 x6 x8 : Vec F S4x512x512 .bf16) (x9 : Vec F S1x128 .f32) (S : Vec F S16x128x128 .f32) (k : Fin k0_t1_loop.trips) (y : S4x512x512.Idx) (hy : (y 1).val / 64 ≠ k.val) : ∀ p ∈ oList x2 x3 x4 x6 x8 x9 S k, y ∉ p.1.set := by
  unfold oList
  refine forall_mem_cons' (opiece_not_mem x2 x3 x4 x6 x8 x9 S 15 k.val _ _ _ _ _ (k0_off16_eq k) y hy) ?_
  refine forall_mem_cons' (opiece_not_mem x2 x3 x4 x6 x8 x9 S 14 k.val _ _ _ _ _ (k0_off15_eq k) y hy) ?_
  refine forall_mem_cons' (opiece_not_mem x2 x3 x4 x6 x8 x9 S 13 k.val _ _ _ _ _ (k0_off14_eq k) y hy) ?_
  refine forall_mem_cons' (opiece_not_mem x2 x3 x4 x6 x8 x9 S 12 k.val _ _ _ _ _ (k0_off13_eq k) y hy) ?_
  refine forall_mem_cons' (opiece_not_mem x2 x3 x4 x6 x8 x9 S 11 k.val _ _ _ _ _ (k0_off12_eq k) y hy) ?_
  refine forall_mem_cons' (opiece_not_mem x2 x3 x4 x6 x8 x9 S 10 k.val _ _ _ _ _ (k0_off11_eq k) y hy) ?_
  refine forall_mem_cons' (opiece_not_mem x2 x3 x4 x6 x8 x9 S 9 k.val _ _ _ _ _ (k0_off10_eq k) y hy) ?_
  refine forall_mem_cons' (opiece_not_mem x2 x3 x4 x6 x8 x9 S 8 k.val _ _ _ _ _ (k0_off9_eq k) y hy) ?_
  refine forall_mem_cons' (opiece_not_mem x2 x3 x4 x6 x8 x9 S 7 k.val _ _ _ _ _ (k0_off8_eq k) y hy) ?_
  refine forall_mem_cons' (opiece_not_mem x2 x3 x4 x6 x8 x9 S 6 k.val _ _ _ _ _ (k0_off7_eq k) y hy) ?_
  refine forall_mem_cons' (opiece_not_mem x2 x3 x4 x6 x8 x9 S 5 k.val _ _ _ _ _ (k0_off6_eq k) y hy) ?_
  refine forall_mem_cons' (opiece_not_mem x2 x3 x4 x6 x8 x9 S 4 k.val _ _ _ _ _ (k0_off5_eq k) y hy) ?_
  refine forall_mem_cons' (opiece_not_mem x2 x3 x4 x6 x8 x9 S 3 k.val _ _ _ _ _ (k0_off4_eq k) y hy) ?_
  refine forall_mem_cons' (opiece_not_mem x2 x3 x4 x6 x8 x9 S 2 k.val _ _ _ _ _ (k0_off3_eq k) y hy) ?_
  refine forall_mem_cons' (opiece_not_mem x2 x3 x4 x6 x8 x9 S 1 k.val _ _ _ _ _ (k0_off2_eq k) y hy) ?_
  refine forall_mem_cons' (opiece_not_mem x2 x3 x4 x6 x8 x9 S 0 k.val _ _ _ _ _ (k0_off1_eq k) y hy) ?_
  exact fun _ h => absurd h List.not_mem_nil

set_option maxHeartbeats 4000000 in
/-- What one trip stores into the state buffer. -/
theorem trip_state (𝒱 : Variants) (c : Dev nD) (bd : Option 𝒱.V) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (f11 : BufTy.Contents (Elt F) arg11.view.ty) : (trip_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 k).2.1 f10 f11 = sList (arg2.view.read (Elt F) X_arg2) (arg3.view.read (Elt F) X_arg3) (arg4.view.read (Elt F) X_arg4) (arg5.view.read (Elt F) X_arg5) (arg7.view.read (Elt F) X_arg7) (arg11.view.read (Elt F) f11) k := by
  unfold trip_k0_t1
  rfl

set_option maxHeartbeats 4000000 in
/-- What one trip stores into the output block. -/
theorem trip_out (𝒱 : Variants) (c : Dev nD) (bd : Option 𝒱.V) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (f11 : BufTy.Contents (Elt F) arg11.view.ty) : (trip_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 k).1 f10 f11 = oList (arg2.view.read (Elt F) X_arg2) (arg3.view.read (Elt F) X_arg3) (arg4.view.read (Elt F) X_arg4) (arg6.view.read (Elt F) X_arg6) (arg8.view.read (Elt F) X_arg8) v3 (arg11.view.read (Elt F) f11) k := by
  unfold trip_k0_t1
  rfl

set_option maxHeartbeats 4000000 in
/-- Before trip `n` the state buffer reads the scan's states, and the rows of the earlier trips are in the output block. -/
theorem read_pb (𝒱 : Variants) (c : Dev nD) (bd : Option 𝒱.V) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg10 : BufTy.Contents (Elt F) arg10.view.ty) (G_arg11 : BufTy.Contents (Elt F) arg11.view.ty) :
    ∀ n : ℕ, n ≤ k0_t1_loop.trips →
      arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 n).2) = scanS (arg2.view.read (Elt F) X_arg2) (arg3.view.read (Elt F) X_arg3) (arg4.view.read (Elt F) X_arg4) (arg5.view.read (Elt F) X_arg5) (arg7.view.read (Elt F) X_arg7) (arg11.view.read (Elt F) G_arg11) n ∧
      ∀ y : S4x512x512.Idx, (y 1).val / 64 < n →
        arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 n).1) y = scanO (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) v3 (arg11.view.read (Elt F) G_arg11) y := by
  intro n
  induction n with
  | zero => exact fun _ => ⟨rfl, fun y hy => absurd hy (Nat.not_lt_zero _)⟩
  | succ n ih =>
    intro hn
    obtain ⟨h1, h2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 ⟨n, hn⟩
    have e := congrArg (fun q => q.2) hs
    have e' := congrArg (fun q => q.1) hs
    dsimp only at e e'
    rw [trip_state] at e
    rw [trip_out] at e'
    rw [h1] at e e'
    constructor
    · rw [e, View.writes_append]
      exact funext fun y => View.read_writes_apply_of_pieces _ _ _ _ (sList_val _ _ _ _ _ _ ⟨n, hn⟩) y (sList_cover _ _ _ _ _ _ ⟨n, hn⟩ y)
    · intro y hy
      rw [e', View.writes_append]
      by_cases hyn : (y 1).val / 64 = n
      · refine (View.read_writes_apply_of_pieces _ _ _ _ (oList_val _ _ _ _ _ _ _ ⟨n, hn⟩) y (oList_cover _ _ _ _ _ _ _ ⟨n, hn⟩ y hyn)).trans ?_
        unfold scanO
        rw [hyn]
      · refine (View.read_writes_apply_of_forall_not_mem _ _ y _ (oList_not_mem _ _ _ _ _ _ _ ⟨n, hn⟩ y hyn)).trans ?_
        exact h2 y (by omega)

theorem trips_eq : k0_t1_loop.trips = 8 := by decide +kernel

set_option maxHeartbeats 4000000 in
/-- After the loop the state buffer reads the states after eight chunks, -/
theorem read_state (𝒱 : Variants) (c : Dev nD) (bd : Option 𝒱.V) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg10 : BufTy.Contents (Elt F) arg10.view.ty) (G_arg11 : BufTy.Contents (Elt F) arg11.view.ty) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 k0_t1_loop.trips).2) = scanS (arg2.view.read (Elt F) X_arg2) (arg3.view.read (Elt F) X_arg3) (arg4.view.read (Elt F) X_arg4) (arg5.view.read (Elt F) X_arg5) (arg7.view.read (Elt F) X_arg7) (arg11.view.read (Elt F) G_arg11) 8 := by
  rw [(read_pb 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 k0_t1_loop.trips le_rfl).1, trips_eq]

set_option maxHeartbeats 4000000 in
/-- and the output block reads the scan's rows. -/
theorem read_out (𝒱 : Variants) (c : Dev nD) (bd : Option 𝒱.V) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (v3 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg10 : BufTy.Contents (Elt F) arg10.view.ty) (G_arg11 : BufTy.Contents (Elt F) arg11.view.ty) :
    arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 k0_t1_loop.trips).1) = scanO (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) v3 (arg11.view.read (Elt F) G_arg11) := by
  funext y
  refine (read_pb 𝒱 c bd i arg2 harg2 arg3 harg3 arg4 harg4 arg5 harg5 arg6 harg6 arg7 harg7 arg8 harg8 arg9 harg9 arg10 harg10 arg11 harg11 v3 X_arg2 X_arg3 X_arg4 X_arg5 X_arg6 X_arg7 X_arg8 G_arg10 G_arg11 k0_t1_loop.trips le_rfl).2 y ?_
  have h1 : (y 1).val < 512 := (y 1).isLt
  rw [trips_eq]
  omega

end Cert.KernelIdeal.Scan

end
-- ==== Proof.ScanRun.lean ====
module

public import proofs.«01_k».proof.Proof.ScanTrip
public import proofs.«01_k».proof.Proof.Gen.KernelIdeal.Frame.Runs
public import Idealize.ShloMosaic.Lib.VecWindow

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 4000000 in
/-- The body at a first block of rows: the states start at zero, whatever the buffer held. -/
theorem run_first (c : Dev nD) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (hc0 : cond0_0 i) (x0 : Vec F S4x512x512 .f32) (x1 x2 x3 x4 : Vec F S4x512x512 .bf16) (x5 : Vec F S4x512x128 .f32) (x6 : Vec F S4x512x512 .bf16) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (scanO x0 x1 x2 x3 x4 x5 x6 x7 k0_pay1) ∗ owns (c : Thread nD τ) arg11 fullShare (scanS x0 x1 x2 x3 x5 k0_pay1 8)) -∗ K ⟨⟩))
      ⊢ wp frame (wpE (defs₀ (F := F)) Variants.none c none) E (cc0_gd_scan i arg2 harg2 arg3 harg3 arg4 harg4 arg5 harg5 arg6 harg6 arg7 harg7 arg8 harg8 arg9 harg9 arg10 harg10 arg11 harg11) K := by
  simp only [cc0_gd_scan_eq_skeleton]; unfold cc0_gd_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (read_out _ _ _ _ arg2 harg2 arg3 harg3 arg4 harg4 arg5 harg5 arg6 harg6 arg7 harg7 arg8 harg8 arg9 harg9 arg10 harg10 arg11 harg11 _ _ _ _ _ _ _ _ _ _).trans ?_
    rw [hf0, hf1, hf2, hf3, hf4, hf5, hf6, View.readAt_full (s := S1x128), hf7]
    exact congrArg (scanO x0 x1 x2 x3 x4 x5 x6 x7) (View.read_writes_full (s := S16x128x128) _ _ _ _ [])
  · iexists _; isplitr
    swap; · iexact HS0
    ipureintro
    rw [View.writes_append]
    refine (read_state _ _ _ _ arg2 harg2 arg3 harg3 arg4 harg4 arg5 harg5 arg6 harg6 arg7 harg7 arg8 harg8 arg9 harg9 arg10 harg10 arg11 harg11 _ _ _ _ _ _ _ _ _ _).trans ?_
    rw [hf0, hf1, hf2, hf3, hf5]
    exact congrArg (fun S => scanS x0 x1 x2 x3 x5 S 8) (View.read_writes_full (s := S16x128x128) _ _ _ _ [])

set_option maxHeartbeats 4000000 in
/-- The body at a later block: the states go on from those the block before left. -/
theorem run_next (c : Dev nD) (i : grid0.Coords) (arg2 : Memref sig .tc .vmem S4x512x512 .f32) (harg2 : arg2.IsWhole) (arg3 : Memref sig .tc .vmem S4x512x512 .bf16) (harg3 : arg3.IsWhole) (arg4 : Memref sig .tc .vmem S4x512x512 .bf16) (harg4 : arg4.IsWhole) (arg5 : Memref sig .tc .vmem S4x512x512 .bf16) (harg5 : arg5.IsWhole) (arg6 : Memref sig .tc .vmem S4x512x512 .bf16) (harg6 : arg6.IsWhole) (arg7 : Memref sig .tc .vmem S4x512x128 .f32) (harg7 : arg7.IsWhole) (arg8 : Memref sig .tc .vmem S4x512x512 .bf16) (harg8 : arg8.IsWhole) (arg9 : Memref sig .tc .vmem S1x128 .f32) (harg9 : arg9.IsWhole) (arg10 : Memref sig .tc .vmem S4x512x512 .bf16) (harg10 : arg10.IsWhole) (arg11 : Memref sig .tc .vmem S16x128x128 .f32) (harg11 : arg11.IsWhole) (hc0 : ¬cond0_0 i) (x0 : Vec F S4x512x512 .f32) (x1 x2 x3 x4 : Vec F S4x512x512 .bf16) (x5 : Vec F S4x512x128 .f32) (x6 : Vec F S4x512x512 .bf16) (x7 : Vec F S1x128 .f32) (xs : Vec F S16x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (scanO x0 x1 x2 x3 x4 x5 x6 x7 xs) ∗ owns (c : Thread nD τ) arg11 fullShare (scanS x0 x1 x2 x3 x5 xs 8)) -∗ K ⟨⟩))
      ⊢ wp frame (wpE (defs₀ (F := F)) Variants.none c none) E (cc0_gd_scan i arg2 harg2 arg3 harg3 arg4 harg4 arg5 harg5 arg6 harg6 arg7 harg7 arg8 harg8 arg9 harg9 arg10 harg10 arg11 harg11) K := by
  simp only [cc0_gd_scan_eq_skeleton]; unfold cc0_gd_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (read_out _ _ _ _ arg2 harg2 arg3 harg3 arg4 harg4 arg5 harg5 arg6 harg6 arg7 harg7 arg8 harg8 arg9 harg9 arg10 harg10 arg11 harg11 _ _ _ _ _ _ _ _ _ _).trans ?_
    rw [hf0, hf1, hf2, hf3, hf4, hf5, hf6, View.readAt_full (s := S1x128), hf7, hfs0]
  · iexists _; isplitr
    swap; · iexact HS0
    ipureintro
    refine (read_state _ _ _ _ arg2 harg2 arg3 harg3 arg4 harg4 arg5 harg5 arg6 harg6 arg7 harg7 arg8 harg8 arg9 harg9 arg10 harg10 arg11 harg11 _ _ _ _ _ _ _ _ _ _).trans ?_
    rw [hf0, hf1, hf2, hf3, hf5, hfs0]

end Cert.KernelIdeal.Scan

end
-- ==== Proof.ScanFrame.lean ====
/- The run of the recurrence's pipeline: what the outputs and the carried states hold after each grid point, the
   body obligation at a generic point (over `run_first` and `run_next`), and the run of the whole program. -/
module

public import proofs.«01_k».proof.Proof.ScanRun
public import Idealize.ShloMosaic.Lib.Claim

@[expose] public section

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the output block and the carried states hold after grid point `n`: every eighth point starts from zero
    states, the others from what the point before left. -/
def outsAt0 (c : Dev nD) : (n : ℕ) → n < cfg0.N → Vec F S4x512x512 .bf16 × Vec F S16x128x128 .f32
  | 0, hn => (scanO (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) k0_pay1, scanS (iblk m c 0 ⟨0, hn⟩) (iblk m c 1 ⟨0, hn⟩) (iblk m c 2 ⟨0, hn⟩) (iblk m c 3 ⟨0, hn⟩) (iblk m c 5 ⟨0, hn⟩) k0_pay1 8)
  | n + 1, hn =>
    if h0 : (n + 1) % 8 = 0 then (scanO (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) k0_pay1, scanS (iblk m c 0 ⟨n + 1, hn⟩) (iblk m c 1 ⟨n + 1, hn⟩) (iblk m c 2 ⟨n + 1, hn⟩) (iblk m c 3 ⟨n + 1, hn⟩) (iblk m c 5 ⟨n + 1, hn⟩) k0_pay1 8)
    else (scanO (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, scanS (iblk m c 0 ⟨n + 1, hn⟩) (iblk m c 1 ⟨n + 1, hn⟩) (iblk m c 2 ⟨n + 1, hn⟩) (iblk m c 3 ⟨n + 1, hn⟩) (iblk m c 5 ⟨n + 1, hn⟩) (outsAt0 c n (Nat.lt_of_succ_lt hn)).2 8)

/-- `outsAt0` at a point that starts from zero states. -/
theorem outsAt0_A (c : Dev nD) (t : Fin cfg0.N) (h0 : t.val % 8 = 0) :
    outsAt0 m c t.val t.isLt = (scanO (iblk m c 0 t) (iblk m c 1 t) (iblk m c 2 t) (iblk m c 3 t) (iblk m c 4 t) (iblk m c 5 t) (iblk m c 6 t) (iblk m c 7 t) k0_pay1, scanS (iblk m c 0 t) (iblk m c 1 t) (iblk m c 2 t) (iblk m c 3 t) (iblk m c 5 t) k0_pay1 8) := by
  obtain ⟨n, hn⟩ := t
  cases n with
  | zero => exact rfl
  | succ n => exact (dif_pos h0).trans rfl

/-- `outsAt0` at a point that continues from the point before. -/
theorem outsAt0_B (c : Dev nD) (t : Fin cfg0.N) (h0 : ¬t.val % 8 = 0) :
    outsAt0 m c t.val t.isLt = (scanO (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, scanS (iblk m c 0 t) (iblk m c 1 t) (iblk m c 2 t) (iblk m c 3 t) (iblk m c 5 t) (outsAt0 m c (t.val - 1) (Nat.lt_of_le_of_lt (Nat.sub_le _ _) t.isLt)).2 8) := by
  obtain ⟨n, hn⟩ := t
  cases n with
  | zero => exact absurd (Nat.zero_mod _) h0
  | succ n => exact (dif_neg h0).trans rfl

/-- What is held before point `n`: before the first point the states are at anything, afterwards at what the point
    before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline: the arrays as found, each input block unchanged by the body, the output block at
    `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 8000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      rw [outsAt0_A m c t h0]
      dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases hz : t.val = 0
    · exfalso; omega
    · rw [PhiS_castSucc m c t, PhiS_pos m c _ _ hz]
      rw [outsAt0_B m c t h0]
      dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_next c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Scan

end
-- ==== Proof.ScanModel.lean ====
/- The gated delta rule's recurrence over chunks, in the extended reals: one head's states and output rows as functions
   of the arrays' entries, which both programs are proved to compute. -/
module

public import Idealize.ShloMosaic.Lib.Pointwise

@[expose] public section

noncomputable section

namespace Cert.Scan

open Idealize.ShloMosaic

/-- A head's output row from the raw row: its root-mean-square norm, the gain, and the gate. -/
def normGate (o gain z : Fin 128 → EReal) (e : Fin 128) : EReal :=
  o e * Ideal.rsqrt (Ideal.div (∑ x, o x * o x) (Ideal.ofBits .f32 0x43000000#32) + Ideal.ofBits .f32 0x358637BD#32) * gain e
    * (z e * Ideal.logistic (z e))

/-- An entry of a matrix by its row and column numbers (taken modulo the extents). -/
def ent {n m : ℕ} [NeZero n] [NeZero m] (x : (⟨2, ![n, m]⟩ : Shape).Idx → EReal) (i j : ℕ) : EReal :=
  x (ix2 (Fin.ofNat n i) (Fin.ofNat m j))

/-- An entry of a vector. -/
def ent1 {n : ℕ} [NeZero n] (x : (⟨1, ![n]⟩ : Shape).Idx → EReal) (i : ℕ) : EReal := x (ix1 (Fin.ofNat n i))

/-- A chunk's new values from the head's state: `u - w · state`, at batch `b`, head `h`, chunk `c`. -/
def newVal (U W : ℕ → ℕ → EReal) (b h c : ℕ) (s : Fin 128 → Fin 128 → EReal) (i : Fin 64) (e : Fin 128) : EReal :=
  U (4096 * b + 64 * c + i.val) (128 * h + e.val) - ∑ j : Fin 128, W (4096 * b + 64 * c + i.val) (128 * h + j.val) * s j e

/-- The state of batch `b`, head `h` before chunk `c`. -/
def state (U W K G : ℕ → ℕ → EReal) (b h : ℕ) : ℕ → Fin 128 → Fin 128 → EReal
  | 0 => fun _ _ => 0
  | c + 1 => fun d e => state U W K G b h c d e * Ideal.exp (G (4096 * b + 64 * c + 63) h) +
      ∑ i : Fin 64, K (4096 * b + 64 * c + i.val) (128 * h + d.val) * newVal U W b h c (state U W K G b h c) i e

/-- The recurrence's raw output at row `i` of chunk `c`. -/
def rawOut (U W Q K A G : ℕ → ℕ → EReal) (b h c : ℕ) (i : Fin 64) (e : Fin 128) : EReal :=
  ∑ x : Fin 128, Q (4096 * b + 64 * c + i.val) (128 * h + x.val) * state U W K G b h c x e +
    ∑ x : Fin 64, A (4096 * b + 64 * c + i.val) (128 * h + x.val) * newVal U W b h c (state U W K G b h c) x e

/-- The layer's output at batch `b`, position `t`, feature `f`. -/
def result (U W Q K A G Z : ℕ → ℕ → EReal) (g : ℕ → EReal) (b t f : ℕ) : EReal :=
  normGate (fun e => rawOut U W Q K A G b (f / 128) (t / 64) (Fin.ofNat 64 t) e) (fun e => g e.val)
    (fun e => Z (4096 * b + t) (4608 + 128 * (f / 128) + e.val)) (Fin.ofNat 128 f)

end Cert.Scan

end
-- ==== Proof.ScanOps.lean ====
/- One chunk of the recurrence read at an index over the reals: the new values, the next state and the output row. -/
module

public import proofs.«01_k».proof.Proof.ScanTrip
public import proofs.«01_k».proof.Proof.ScanModel
public import Idealize.ShloMosaic.Lib.Pointwise

@[expose] public section

set_option maxRecDepth 16384

noncomputable section

namespace Cert.KernelIdeal.Scan

open Idealize.ShloMosaic Idealize.ShloMosaic.TcCoe
open Cert.KernelIdeal.Gen Cert.Scan

/-- The new values at an index. -/
theorem newV_apply (w q : Vec Ideal S1x64x128 .bf16) (u : Vec Ideal S1x64x128 .f32) (s : Vec Ideal S1x128x128 .f32) (i : Fin 64) (e : Fin 128) :
    newV w q u s (ix2 i e) = u (ix3 0 i e) - ∑ j : Fin 128, w (ix3 0 i j) * s (ix3 0 j e) := by
  pointwise [newV, both, k0_pay55, k0_pay35, k0_pay4]

/-- Of a row of gates the head's own is picked. -/
theorem decayOf_apply (h : ℕ) (hh : h < 4) (g : Vec Ideal S1x1x128 .f32) :
    decayOf (BitVec.ofNat 32 h) g (ix2 0 0) = Ideal.exp (g (ix3 0 0 ⟨h, by omega⟩)) := by
  pointwise [decayOf, k0_pay71]
  rw [Finset.sum_eq_single (⟨h, by omega⟩ : Fin 128)]
  · rw [show IntOp.cmpi .eq (BitVec.ofNat 32 h) (BitVec.ofNat 32 h) = 1#1 from by simp [IntOp.cmpi]]
    rfl
  · intro x _ hx
    have hne : BitVec.ofNat 32 x.val ≠ BitVec.ofNat 32 h := by
      intro heq
      have := congrArg BitVec.toNat heq
      rw [BitVec.toNat_ofNat, BitVec.toNat_ofNat, Nat.mod_eq_of_lt (by have := x.isLt; omega), Nat.mod_eq_of_lt (by omega)] at this
      exact hx (Fin.ext this)
    rw [show IntOp.cmpi .eq (BitVec.ofNat 32 x.val) (BitVec.ofNat 32 h) = 0#1 from by
      show BitVec.ofBool (BitVec.ofNat 32 x.val == BitVec.ofNat 32 h) = 0#1
      rw [beq_eq_false_iff_ne.mpr hne]; rfl]
    rfl
  · intro hn
    exact absurd (Finset.mem_univ _) hn

/-- The next state at an index. -/
theorem newS_apply (h : BitVec 32) (w q : Vec Ideal S1x64x128 .bf16) (u : Vec Ideal S1x64x128 .f32) (kd : Vec Ideal S1x64x128 .bf16)
    (g : Vec Ideal S1x1x128 .f32) (s : Vec Ideal S1x128x128 .f32) (d e : Fin 128) :
    newS h w q u kd g s (ix3 0 d e) = s (ix3 0 d e) * decayOf h g (ix2 0 0) +
      ∑ i : Fin 64, kd (ix3 0 i d) * newV w q u s (ix2 i e) := by
  pointwise [newS, k0_pay4]

/-- The output row at an index. -/
theorem newO_apply (gain : Vec Ideal S1x128 .f32) (w q : Vec Ideal S1x64x128 .bf16) (u : Vec Ideal S1x64x128 .f32) (a z : Vec Ideal S1x64x128 .bf16)
    (s : Vec Ideal S1x128x128 .f32) (i : Fin 64) (e : Fin 128) :
    newO gain w q u a z s (ix3 0 i e) = normGate
      (fun e => ∑ x : Fin 128, q (ix3 0 i x) * s (ix3 0 x e) + ∑ x : Fin 64, a (ix3 0 i ⟨x.val, by omega⟩) * newV w q u s (ix2 x e))
      (fun e => gain (ix2 0 e)) (fun e => z (ix3 0 i e)) e := by
  unfold newO normGate
  generalize newV w q u s = v
  pointwise [k0_pay119, k0_pay100, k0_pay2, both, k0_pay35, k0_pay4]

end Cert.KernelIdeal.Scan

end
-- ==== Proof.ScanBlocks.lean ====
/- The pipeline's input blocks read at an index: entries of the arguments. -/
module

public import proofs.«01_k».proof.Proof.ScanFrame
public import proofs.«01_k».proof.Proof.ScanOps

@[expose] public section

noncomputable section

namespace Cert.KernelIdeal.Scan

open Idealize.ShloMosaic Idealize.ShloMosaic.TcCoe
open Cert.KernelIdeal.Gen Cert.Scan

variable (m : (ℓ : Loc nD τ sig) → Buf (Elt Ideal) ℓ)

/-- The block indices of the eight windows, decided over the grid. -/
theorem index_facts : ∀ t : Fin cfg0.N,
    (win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 9] ∧ win0_7.index t = ![0, 0]) :=
  (by decide +kernel : ∀ t : Fin grid0.N, _)

/-- A block of u. -/
theorem iblk0 (c : Dev nD) (t : Fin cfg0.N) (b : Fin 4) (r : Fin 512) (f : Fin 512) :
    (iblk m c 0 t : Vec Ideal S4x512x512 .f32) (ix3 b r f) =
      ent (n := 65536) (m := 512) (m ((c : Thread nD τ).loc main_arg0)) (4096 * (4 * (t.val / 8) + b.val) + 512 * (t.val % 8) + r.val) f.val := by
  have hi := (index_facts t).1
  have hN : t.val < 32 := lt_of_lt_of_eq t.isLt (show cfg0.N = 32 from N_0)
  have hb : ((cfg0.win 0).blk t).view.emb (ix3 b r f) = ix3 (n0 := 16) (n1 := 4096) (n2 := 512)
      (Fin.ofNat 16 (4 * (t.val / 8) + b.val)) (Fin.ofNat 4096 (512 * (t.val % 8) + r.val)) f := by
    funext a
    apply Fin.ext
    match a with
    | ⟨0, _⟩ =>
      show win0_0.index t 0 * 4 + 1 * b.val = (4 * (t.val / 8) + b.val) % 16
      rw [hi]
      show t.val / 8 * 4 + 1 * b.val = _
      omega
    | ⟨1, _⟩ =>
      show win0_0.index t 1 * 512 + 1 * r.val = (512 * (t.val % 8) + r.val) % 4096
      rw [hi]
      show t.val % 8 * 512 + 1 * r.val = _
      omega
    | ⟨2, _⟩ =>
      show win0_0.index t 2 * 512 + 1 * f.val = f.val
      rw [hi]
      show 0 * 512 + 1 * f.val = _
      omega
  show V m c (Pipeline.arrRef spec0 0) (((cfg0.win 0).blk t).view.emb (ix3 b r f)) = _
  rw [hb]
  show V m c main_v0 _ = _
  entry_read
  pointwise []
  unfold ent
  refine congrArg (m (c, Proc.tc.devRef main_arg0)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 512
    omega

/-- A block of w. -/
theorem iblk1 (c : Dev nD) (t : Fin cfg0.N) (b : Fin 4) (r : Fin 512) (f : Fin 512) :
    (iblk m c 1 t : Vec Ideal S4x512x512 .bf16) (ix3 b r f) =
      ent (n := 65536) (m := 512) (m ((c : Thread nD τ).loc main_arg1)) (4096 * (4 * (t.val / 8) + b.val) + 512 * (t.val % 8) + r.val) f.val := by
  have hi := (index_facts t).2.1
  have hN : t.val < 32 := lt_of_lt_of_eq t.isLt (show cfg0.N = 32 from N_0)
  have hb : ((cfg0.win 1).blk t).view.emb (ix3 b r f) = ix3 (n0 := 16) (n1 := 4096) (n2 := 512)
      (Fin.ofNat 16 (4 * (t.val / 8) + b.val)) (Fin.ofNat 4096 (512 * (t.val % 8) + r.val)) f := by
    funext a
    apply Fin.ext
    match a with
    | ⟨0, _⟩ =>
      show win0_1.index t 0 * 4 + 1 * b.val = (4 * (t.val / 8) + b.val) % 16
      rw [hi]
      show t.val / 8 * 4 + 1 * b.val = _
      omega
    | ⟨1, _⟩ =>
      show win0_1.index t 1 * 512 + 1 * r.val = (512 * (t.val % 8) + r.val) % 4096
      rw [hi]
      show t.val % 8 * 512 + 1 * r.val = _
      omega
    | ⟨2, _⟩ =>
      show win0_1.index t 2 * 512 + 1 * f.val = f.val
      rw [hi]
      show 0 * 512 + 1 * f.val = _
      omega
  show V m c (Pipeline.arrRef spec0 1) (((cfg0.win 1).blk t).view.emb (ix3 b r f)) = _
  rw [hb]
  show V m c main_v1 _ = _
  entry_read
  pointwise []
  unfold ent
  refine congrArg (m (c, Proc.tc.devRef main_arg1)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 512
    omega

/-- A block of q. -/
theorem iblk2 (c : Dev nD) (t : Fin cfg0.N) (b : Fin 4) (r : Fin 512) (f : Fin 512) :
    (iblk m c 2 t : Vec Ideal S4x512x512 .bf16) (ix3 b r f) =
      ent (n := 65536) (m := 512) (m ((c : Thread nD τ).loc main_arg2)) (4096 * (4 * (t.val / 8) + b.val) + 512 * (t.val % 8) + r.val) f.val := by
  have hi := (index_facts t).2.2.1
  have hN : t.val < 32 := lt_of_lt_of_eq t.isLt (show cfg0.N = 32 from N_0)
  have hb : ((cfg0.win 2).blk t).view.emb (ix3 b r f) = ix3 (n0 := 16) (n1 := 4096) (n2 := 512)
      (Fin.ofNat 16 (4 * (t.val / 8) + b.val)) (Fin.ofNat 4096 (512 * (t.val % 8) + r.val)) f := by
    funext a
    apply Fin.ext
    match a with
    | ⟨0, _⟩ =>
      show win0_2.index t 0 * 4 + 1 * b.val = (4 * (t.val / 8) + b.val) % 16
      rw [hi]
      show t.val / 8 * 4 + 1 * b.val = _
      omega
    | ⟨1, _⟩ =>
      show win0_2.index t 1 * 512 + 1 * r.val = (512 * (t.val % 8) + r.val) % 4096
      rw [hi]
      show t.val % 8 * 512 + 1 * r.val = _
      omega
    | ⟨2, _⟩ =>
      show win0_2.index t 2 * 512 + 1 * f.val = f.val
      rw [hi]
      show 0 * 512 + 1 * f.val = _
      omega
  show V m c (Pipeline.arrRef spec0 2) (((cfg0.win 2).blk t).view.emb (ix3 b r f)) = _
  rw [hb]
  show V m c main_v2 _ = _
  entry_read
  pointwise []
  unfold ent
  refine congrArg (m (c, Proc.tc.devRef main_arg2)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 512
    omega

/-- A block of k. -/
theorem iblk3 (c : Dev nD) (t : Fin cfg0.N) (b : Fin 4) (r : Fin 512) (f : Fin 512) :
    (iblk m c 3 t : Vec Ideal S4x512x512 .bf16) (ix3 b r f) =
      ent (n := 65536) (m := 512) (m ((c : Thread nD τ).loc main_arg3)) (4096 * (4 * (t.val / 8) + b.val) + 512 * (t.val % 8) + r.val) f.val := by
  have hi := (index_facts t).2.2.2.1
  have hN : t.val < 32 := lt_of_lt_of_eq t.isLt (show cfg0.N = 32 from N_0)
  have hb : ((cfg0.win 3).blk t).view.emb (ix3 b r f) = ix3 (n0 := 16) (n1 := 4096) (n2 := 512)
      (Fin.ofNat 16 (4 * (t.val / 8) + b.val)) (Fin.ofNat 4096 (512 * (t.val % 8) + r.val)) f := by
    funext a
    apply Fin.ext
    match a with
    | ⟨0, _⟩ =>
      show win0_3.index t 0 * 4 + 1 * b.val = (4 * (t.val / 8) + b.val) % 16
      rw [hi]
      show t.val / 8 * 4 + 1 * b.val = _
      omega
    | ⟨1, _⟩ =>
      show win0_3.index t 1 * 512 + 1 * r.val = (512 * (t.val % 8) + r.val) % 4096
      rw [hi]
      show t.val % 8 * 512 + 1 * r.val = _
      omega
    | ⟨2, _⟩ =>
      show win0_3.index t 2 * 512 + 1 * f.val = f.val
      rw [hi]
      show 0 * 512 + 1 * f.val = _
      omega
  show V m c (Pipeline.arrRef spec0 3) (((cfg0.win 3).blk t).view.emb (ix3 b r f)) = _
  rw [hb]
  show V m c main_v3 _ = _
  entry_read
  pointwise []
  unfold ent
  refine congrArg (m (c, Proc.tc.devRef main_arg3)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 512
    omega

/-- A block of the in-chunk matrix. -/
theorem iblk4 (c : Dev nD) (t : Fin cfg0.N) (b : Fin 4) (r : Fin 512) (f : Fin 512) :
    (iblk m c 4 t : Vec Ideal S4x512x512 .bf16) (ix3 b r f) =
      ent (n := 65536) (m := 512) (m ((c : Thread nD τ).loc main_arg4)) (4096 * (4 * (t.val / 8) + b.val) + 512 * (t.val % 8) + r.val) f.val := by
  have hi := (index_facts t).2.2.2.2.1
  have hN : t.val < 32 := lt_of_lt_of_eq t.isLt (show cfg0.N = 32 from N_0)
  have hb : ((cfg0.win 4).blk t).view.emb (ix3 b r f) = ix3 (n0 := 16) (n1 := 4096) (n2 := 512)
      (Fin.ofNat 16 (4 * (t.val / 8) + b.val)) (Fin.ofNat 4096 (512 * (t.val % 8) + r.val)) f := by
    funext a
    apply Fin.ext
    match a with
    | ⟨0, _⟩ =>
      show win0_4.index t 0 * 4 + 1 * b.val = (4 * (t.val / 8) + b.val) % 16
      rw [hi]
      show t.val / 8 * 4 + 1 * b.val = _
      omega
    | ⟨1, _⟩ =>
      show win0_4.index t 1 * 512 + 1 * r.val = (512 * (t.val % 8) + r.val) % 4096
      rw [hi]
      show t.val % 8 * 512 + 1 * r.val = _
      omega
    | ⟨2, _⟩ =>
      show win0_4.index t 2 * 512 + 1 * f.val = f.val
      rw [hi]
      show 0 * 512 + 1 * f.val = _
      omega
  show V m c (Pipeline.arrRef spec0 4) (((cfg0.win 4).blk t).view.emb (ix3 b r f)) = _
  rw [hb]
  show V m c main_v4 _ = _
  entry_read
  pointwise []
  unfold ent
  refine congrArg (m (c, Proc.tc.devRef main_arg4)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 512
    omega

/-- A block of the gates. -/
theorem iblk5 (c : Dev nD) (t : Fin cfg0.N) (b : Fin 4) (r : Fin 512) (f : Fin 128) :
    (iblk m c 5 t : Vec Ideal S4x512x128 .f32) (ix3 b r f) =
      ent (n := 65536) (m := 128) (m ((c : Thread nD τ).loc main_arg5)) (4096 * (4 * (t.val / 8) + b.val) + 512 * (t.val % 8) + r.val) f.val := by
  have hi := (index_facts t).2.2.2.2.2.1
  have hN : t.val < 32 := lt_of_lt_of_eq t.isLt (show cfg0.N = 32 from N_0)
  have hb : ((cfg0.win 5).blk t).view.emb (ix3 b r f) = ix3 (n0 := 16) (n1 := 4096) (n2 := 128)
      (Fin.ofNat 16 (4 * (t.val / 8) + b.val)) (Fin.ofNat 4096 (512 * (t.val % 8) + r.val)) f := by
    funext a
    apply Fin.ext
    match a with
    | ⟨0, _⟩ =>
      show win0_5.index t 0 * 4 + 1 * b.val = (4 * (t.val / 8) + b.val) % 16
      rw [hi]
      show t.val / 8 * 4 + 1 * b.val = _
      omega
    | ⟨1, _⟩ =>
      show win0_5.index t 1 * 512 + 1 * r.val = (512 * (t.val % 8) + r.val) % 4096
      rw [hi]
      show t.val % 8 * 512 + 1 * r.val = _
      omega
    | ⟨2, _⟩ =>
      show win0_5.index t 2 * 128 + 1 * f.val = f.val
      rw [hi]
      show 0 * 128 + 1 * f.val = _
      omega
  show V m c (Pipeline.arrRef spec0 5) (((cfg0.win 5).blk t).view.emb (ix3 b r f)) = _
  rw [hb]
  show V m c main_v5 _ = _
  entry_read
  pointwise []
  unfold ent
  refine congrArg (m (c, Proc.tc.devRef main_arg5)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show f.val = f.val % 128
    omega

/-- A block of the output gate. -/
theorem iblk6 (c : Dev nD) (t : Fin cfg0.N) (b : Fin 4) (r : Fin 512) (f : Fin 512) :
    (iblk m c 6 t : Vec Ideal S4x512x512 .bf16) (ix3 b r f) =
      ent (n := 65536) (m := 8192) (m ((c : Thread nD τ).loc main_arg6)) (4096 * (4 * (t.val / 8) + b.val) + 512 * (t.val % 8) + r.val) (4608 + f.val) := by
  have hi := (index_facts t).2.2.2.2.2.2.1
  have hN : t.val < 32 := lt_of_lt_of_eq t.isLt (show cfg0.N = 32 from N_0)
  have hb : ((cfg0.win 6).blk t).view.emb (ix3 b r f) = ix3 (n0 := 16) (n1 := 4096) (n2 := 8192)
      (Fin.ofNat 16 (4 * (t.val / 8) + b.val)) (Fin.ofNat 4096 (512 * (t.val % 8) + r.val)) (Fin.ofNat 8192 (4608 + f.val)) := by
    funext a
    apply Fin.ext
    match a with
    | ⟨0, _⟩ =>
      show win0_6.index t 0 * 4 + 1 * b.val = (4 * (t.val / 8) + b.val) % 16
      rw [hi]
      show t.val / 8 * 4 + 1 * b.val = _
      omega
    | ⟨1, _⟩ =>
      show win0_6.index t 1 * 512 + 1 * r.val = (512 * (t.val % 8) + r.val) % 4096
      rw [hi]
      show t.val % 8 * 512 + 1 * r.val = _
      omega
    | ⟨2, _⟩ =>
      show win0_6.index t 2 * 512 + 1 * f.val = (4608 + f.val) % 8192
      rw [hi]
      show 9 * 512 + 1 * f.val = _
      omega
  show V m c (Pipeline.arrRef spec0 6) (((cfg0.win 6).blk t).view.emb (ix3 b r f)) = _
  rw [hb]
  show V m c main_v6 _ = _
  entry_read
  pointwise []
  unfold ent
  refine congrArg (m (c, Proc.tc.devRef main_arg6)) (funext fun a => Fin.ext ?_)
  match a with
  | ⟨0, _⟩ =>
    show (4 * (t.val / 8) + b.val) % 16 * 4096 + (512 * (t.val % 8) + r.val) % 4096 = (4096 * (4 * (t.val / 8) + b.val) + 512 * (t.val % 8) + r.val) % 65536
    omega
  | ⟨1, _⟩ =>
    show (4608 + f.val) % 8192 = (4608 + f.val) % 8192
    omega

/-- The gain's block. -/
theorem iblk7 (c : Dev nD) (t : Fin cfg0.N) (f : Fin 128) :
    (iblk m c 7 t : Vec Ideal S1x128 .f32) (ix2 0 f) = ent1 (n := 128) (m ((c : Thread nD τ).loc main_arg7)) f.val := by
  have hi := (index_facts t).2.2.2.2.2.2.2
  have hb : ((cfg0.win 7).blk t).view.emb (ix2 0 f) = ix2 (n0 := 1) (n1 := 128) 0 f := by
    funext a
    apply Fin.ext
    match a with
    | ⟨0, _⟩ =>
      show win0_7.index t 0 * 1 + 1 * 0 = 0
      rw [hi]
      rfl
    | ⟨1, _⟩ =>
      show win0_7.index t 1 * 128 + 1 * f.val = f.val
      rw [hi]
      show 0 * 128 + 1 * f.val = _
      omega
  show V m c (Pipeline.arrRef spec0 7) (((cfg0.win 7).blk t).view.emb (ix2 0 f)) = _
  rw [hb]
  show V m c main_v7 _ = _
  entry_read
  pointwise []
  unfold ent1
  refine congrArg (m (c, Proc.tc.devRef main_arg7)) (funext fun a => Fin.ext ?_)
  match a with
  | ⟨0, _⟩ =>
    show f.val = f.val % 128
    omega

end Cert.KernelIdeal.Scan

end
-- ==== Proof.ScanValue.lean ====
/- The kernel's output array after the run: the recurrence's result at every index. -/
module

public import proofs.«01_k».proof.Proof.ScanBlocks
public import Idealize.ShloMosaic.Lib.Pipeline.Value

@[expose] public section

noncomputable section

namespace Cert.KernelIdeal.Scan

open Idealize.ShloMosaic Idealize.ShloMosaic.TcCoe Idealize.SL.Sem
open Cert.KernelIdeal.Gen Cert.Scan
open Idealize.ShloMosaic.Pipeline (Dat)

variable (m : (ℓ : Loc nD τ sig) → Buf (Elt Ideal) ℓ) (ρ : Dev nD → PrngReg)

/-- Argument 0's entries. -/
abbrev aU (c : Dev nD) : ℕ → ℕ → EReal := ent (n := 65536) (m := 512) (m ((c : Thread nD τ).loc main_arg0))
/-- Argument 1's entries. -/
abbrev aW (c : Dev nD) : ℕ → ℕ → EReal := ent (n := 65536) (m := 512) (m ((c : Thread nD τ).loc main_arg1))
/-- Argument 2's entries. -/
abbrev aQ (c : Dev nD) : ℕ → ℕ → EReal := ent (n := 65536) (m := 512) (m ((c : Thread nD τ).loc main_arg2))
/-- Argument 3's entries. -/
abbrev aK (c : Dev nD) : ℕ → ℕ → EReal := ent (n := 65536) (m := 512) (m ((c : Thread nD τ).loc main_arg3))
/-- Argument 4's entries. -/
abbrev aA (c : Dev nD) : ℕ → ℕ → EReal := ent (n := 65536) (m := 512) (m ((c : Thread nD τ).loc main_arg4))
/-- Argument 5's entries. -/
abbrev aG (c : Dev nD) : ℕ → ℕ → EReal := ent (n := 65536) (m := 128) (m ((c : Thread nD τ).loc main_arg5))
/-- Argument 6's entries. -/
abbrev aZ (c : Dev nD) : ℕ → ℕ → EReal := ent (n := 65536) (m := 8192) (m ((c : Thread nD τ).loc main_arg6))
/-- The gain's entries. -/
abbrev aN (c : Dev nD) : ℕ → EReal := ent1 (n := 128) (m ((c : Thread nD τ).loc main_arg7))

/-- A head's rows of an input block are the argument's. -/
theorem rows_eq {e : EltTy} (x : Vec Ideal S4x512x512 e) (X : ℕ → ℕ → Elt Ideal e) (B R b h k i f : ℕ) (hb : b < 4) (hh : h < 4) (hk : k < 8) (hi : i < 64)
    (hf : f < 128) (hx : ∀ (b : Fin 4) (r f : Fin 512), x (ix3 b r f) = X (4096 * (B + b.val) + R + r.val) f.val) (h1 : i < S1x64x128.size 1) (h2 : f < S1x64x128.size 2) :
    rows x b h k (ix3 0 ⟨i, h1⟩ ⟨f, h2⟩) = X (4096 * (B + b) + R + (64 * k + i)) (128 * h + f) := by
  unfold rows
  rw [hx]
  show X (4096 * (B + b % 4) + R + (64 * k + i) % 512) ((128 * h + f) % 512) = _
  rw [Nat.mod_eq_of_lt hb, Nat.mod_eq_of_lt (show 64 * k + i < 512 by omega), Nat.mod_eq_of_lt (show 128 * h + f < 512 by omega)]

theorem rows0 (c : Dev nD) (t : Fin cfg0.N) (b h k : ℕ) (hb : b < 4) (hh : h < 4) (hk : k < 8) (i : Fin 64) (f : Fin 128) :
    rows (iblk m c 0 t : Vec Ideal S4x512x512 .f32) b h k (ix3 0 i f) =
      aU m c (4096 * (4 * (t.val / 8) + b) + 64 * (8 * (t.val % 8) + k) + i.val) (128 * h + f.val) := by
  rw [rows_eq _ (aU m c) (4 * (t.val / 8)) (512 * (t.val % 8)) b h k i.val f.val hb hh hk i.isLt f.isLt (iblk0 m c t) i.isLt f.isLt]
  congr 1
  omega
theorem rows1 (c : Dev nD) (t : Fin cfg0.N) (b h k : ℕ) (hb : b < 4) (hh : h < 4) (hk : k < 8) (i : Fin 64) (f : Fin 128) :
    rows (iblk m c 1 t : Vec Ideal S4x512x512 .bf16) b h k (ix3 0 i f) =
      aW m c (4096 * (4 * (t.val / 8) + b) + 64 * (8 * (t.val % 8) + k) + i.val) (128 * h + f.val) := by
  rw [rows_eq _ (aW m c) (4 * (t.val / 8)) (512 * (t.val % 8)) b h k i.val f.val hb hh hk i.isLt f.isLt (iblk1 m c t) i.isLt f.isLt]
  congr 1
  omega
theorem rows2 (c : Dev nD) (t : Fin cfg0.N) (b h k : ℕ) (hb : b < 4) (hh : h < 4) (hk : k < 8) (i : Fin 64) (f : Fin 128) :
    rows (iblk m c 2 t : Vec Ideal S4x512x512 .bf16) b h k (ix3 0 i f) =
      aQ m c (4096 * (4 * (t.val / 8) + b) + 64 * (8 * (t.val % 8) + k) + i.val) (128 * h + f.val) := by
  rw [rows_eq _ (aQ m c) (4 * (t.val / 8)) (512 * (t.val % 8)) b h k i.val f.val hb hh hk i.isLt f.isLt (iblk2 m c t) i.isLt f.isLt]
  congr 1
  omega
theorem rows3 (c : Dev nD) (t : Fin cfg0.N) (b h k : ℕ) (hb : b < 4) (hh : h < 4) (hk : k < 8) (i : Fin 64) (f : Fin 128) :
    rows (iblk m c 3 t : Vec Ideal S4x512x512 .bf16) b h k (ix3 0 i f) =
      aK m c (4096 * (4 * (t.val / 8) + b) + 64 * (8 * (t.val % 8) + k) + i.val) (128 * h + f.val) := by
  rw [rows_eq _ (aK m c) (4 * (t.val / 8)) (512 * (t.val % 8)) b h k i.val f.val hb hh hk i.isLt f.isLt (iblk3 m c t) i.isLt f.isLt]
  congr 1
  omega
theorem rows4 (c : Dev nD) (t : Fin cfg0.N) (b h k : ℕ) (hb : b < 4) (hh : h < 4) (hk : k < 8) (i : Fin 64) (f : Fin 128) :
    rows (iblk m c 4 t : Vec Ideal S4x512x512 .bf16) b h k (ix3 0 i f) =
      aA m c (4096 * (4 * (t.val / 8) + b) + 64 * (8 * (t.val % 8) + k) + i.val) (128 * h + f.val) := by
  rw [rows_eq _ (aA m c) (4 * (t.val / 8)) (512 * (t.val % 8)) b h k i.val f.val hb hh hk i.isLt f.isLt (iblk4 m c t) i.isLt f.isLt]
  congr 1
  omega
theorem rows6 (c : Dev nD) (t : Fin cfg0.N) (b h k : ℕ) (hb : b < 4) (hh : h < 4) (hk : k < 8) (i : Fin 64) (f : Fin 128) :
    rows (iblk m c 6 t : Vec Ideal S4x512x512 .bf16) b h k (ix3 0 i f) =
      aZ m c (4096 * (4 * (t.val / 8) + b) + 64 * (8 * (t.val % 8) + k) + i.val) (4608 + (128 * h + f.val)) := by
  rw [rows_eq _ (fun r f => aZ m c r (4608 + f)) (4 * (t.val / 8)) (512 * (t.val % 8)) b h k i.val f.val hb hh hk i.isLt f.isLt (iblk6 m c t) i.isLt f.isLt]
  congr 1
  omega
theorem gates (c : Dev nD) (t : Fin cfg0.N) (b h k : ℕ) (hb : b < 4) (hh : h < 128) (hk : k < 8) :
    lastRow (iblk m c 5 t : Vec Ideal S4x512x128 .f32) b k (ix3 0 0 ⟨h, hh⟩) =
      aG m c (4096 * (4 * (t.val / 8) + b) + 64 * (8 * (t.val % 8) + k) + 63) h := by
  unfold lastRow
  refine (iblk5 m c t _ _ _).trans ?_
  show aG m c (4096 * (4 * (t.val / 8) + b % 4) + 512 * (t.val % 8) + (64 * k + 63) % 512) h = _
  congr 1
  omega

/-- A chunk's new values, from states that are the recurrence's. -/
theorem newV_state (c : Dev nD) (t : Fin cfg0.N) (b h k : ℕ) (hb : b < 4) (hh : h < 4) (hk : k < 8) (S : Vec Ideal S16x128x128 .f32)
    (hS : ∀ d e : Fin 128, S (ix3 (⟨4 * b + h, by omega⟩ : Fin 16) d e) = state (aU m c) (aW m c) (aK m c) (aG m c) (4 * (t.val / 8) + b) h (8 * (t.val % 8) + k) d e)
    (i : Fin 64) (e : Fin 128) :
    newV (rows (iblk m c 1 t) b h k) (rows (iblk m c 2 t) b h k) (rows (iblk m c 0 t) b h k) (stOf S (4 * b + h)) (ix2 i e) =
      newVal (aU m c) (aW m c) (4 * (t.val / 8) + b) h (8 * (t.val % 8) + k) (state (aU m c) (aW m c) (aK m c) (aG m c) (4 * (t.val / 8) + b) h (8 * (t.val % 8) + k)) i e := by
  rw [newV_apply, rows0 m c t b h k hb hh hk]
  unfold newVal
  congr 1
  refine Finset.sum_congr rfl fun j _ => ?_
  rw [rows1 m c t b h k hb hh hk, ← hS]
  congr 1
  refine congrArg S (funext fun a => Fin.ext ?_)
  match a with
  | ⟨0, _⟩ => exact Nat.mod_eq_of_lt (by omega)
  | ⟨1, _⟩ => rfl
  | ⟨2, _⟩ => rfl

theorem stOf_apply (S : Vec Ideal S16x128x128 .f32) (n : ℕ) (hn : n < 16) (d e : Fin 128) : stOf S n (ix3 0 d e) = S (ix3 (⟨n, hn⟩ : Fin 16) d e) := by
  refine congrArg S (funext fun a => Fin.ext ?_)
  match a with
  | ⟨0, _⟩ => exact Nat.mod_eq_of_lt hn
  | ⟨1, _⟩ => rfl
  | ⟨2, _⟩ => rfl

/-- One chunk takes the recurrence's states to the next. -/
theorem stT_state (c : Dev nD) (t : Fin cfg0.N) (k : ℕ) (hk : k < 8) (S : Vec Ideal S16x128x128 .f32)
    (hS : ∀ (b h : ℕ) (hb : b < 4) (hh : h < 4) (d e : Fin 128),
      S (ix3 (⟨4 * b + h, by omega⟩ : Fin 16) d e) = state (aU m c) (aW m c) (aK m c) (aG m c) (4 * (t.val / 8) + b) h (8 * (t.val % 8) + k) d e)
    (b h : ℕ) (hb : b < 4) (hh : h < 4) (d e : Fin 128) :
    stT (iblk m c 0 t) (iblk m c 1 t) (iblk m c 2 t) (iblk m c 3 t) (iblk m c 5 t) k S (ix3 (⟨4 * b + h, by omega⟩ : Fin 16) d e) = state (aU m c) (aW m c) (aK m c) (aG m c) (4 * (t.val / 8) + b) h (8 * (t.val % 8) + (k + 1)) d e := by
  have e1 : (4 * b + h) / 4 = b := by omega
  have e2 : (4 * b + h) % 4 = h := by omega
  show newS (BitVec.ofNat 32 ((4 * b + h) % 4)) (rows (iblk m c 1 t) ((4 * b + h) / 4) ((4 * b + h) % 4) k)
    (rows (iblk m c 2 t) ((4 * b + h) / 4) ((4 * b + h) % 4) k) (rows (iblk m c 0 t) ((4 * b + h) / 4) ((4 * b + h) % 4) k)
    (rows (iblk m c 3 t) ((4 * b + h) / 4) ((4 * b + h) % 4) k) (lastRow (iblk m c 5 t) ((4 * b + h) / 4) k) (stOf S (4 * b + h)) (ix3 0 d e) = _
  rw [e1, e2, newS_apply, decayOf_apply h hh, gates m c t b h k hb (by omega) hk, stOf_apply S (4 * b + h) (by omega), hS b h hb hh d e]
  rw [← Nat.add_assoc]
  show _ = state (aU m c) (aW m c) (aK m c) (aG m c) (4 * (t.val / 8) + b) h (8 * (t.val % 8) + k) d e * _ + _
  congr 1
  refine Finset.sum_congr rfl fun i _ => ?_
  rw [rows3 m c t b h k hb hh hk, newV_state m c t b h k hb hh hk S (hS b h hb hh)]

/-- All the chunks of a block. -/
theorem scanS_state (c : Dev nD) (t : Fin cfg0.N) (S : Vec Ideal S16x128x128 .f32)
    (hS : ∀ (b h : ℕ) (hb : b < 4) (hh : h < 4) (d e : Fin 128),
      S (ix3 (⟨4 * b + h, by omega⟩ : Fin 16) d e) = state (aU m c) (aW m c) (aK m c) (aG m c) (4 * (t.val / 8) + b) h (8 * (t.val % 8)) d e) :
    ∀ (k : ℕ) (hk : k ≤ 8) (b h : ℕ) (hb : b < 4) (hh : h < 4) (d e : Fin 128),
    scanS (iblk m c 0 t) (iblk m c 1 t) (iblk m c 2 t) (iblk m c 3 t) (iblk m c 5 t) S k (ix3 (⟨4 * b + h, by omega⟩ : Fin 16) d e) = state (aU m c) (aW m c) (aK m c) (aG m c) (4 * (t.val / 8) + b) h (8 * (t.val % 8) + k) d e
  | 0, _ => hS
  | k + 1, hk => stT_state m c t k (by omega) _ (scanS_state c t S hS k (by omega))

/-- The output block of a grid point. -/
theorem scanO_result (c : Dev nD) (t : Fin cfg0.N) (S : Vec Ideal S16x128x128 .f32)
    (hS : ∀ (b h : ℕ) (hb : b < 4) (hh : h < 4) (d e : Fin 128),
      S (ix3 (⟨4 * b + h, by omega⟩ : Fin 16) d e) = state (aU m c) (aW m c) (aK m c) (aG m c) (4 * (t.val / 8) + b) h (8 * (t.val % 8)) d e)
    (b : Fin 4) (r f : Fin 512) :
    scanO (iblk m c 0 t) (iblk m c 1 t) (iblk m c 2 t) (iblk m c 3 t) (iblk m c 4 t) (iblk m c 5 t) (iblk m c 6 t) (iblk m c 7 t) S (ix3 b r f) =
      result (aU m c) (aW m c) (aQ m c) (aK m c) (aA m c) (aG m c) (aZ m c) (aN m c) (4 * (t.val / 8) + b.val) (512 * (t.val % 8) + r.val) f.val := by
  have hk : r.val / 64 < 8 := by omega
  have hh : f.val / 128 < 4 := by omega
  have hs := scanS_state m c t S hS (r.val / 64) (by omega)
  show newO (iblk m c 7 t) (rows (iblk m c 1 t) b.val (f.val / 128) (r.val / 64)) (rows (iblk m c 2 t) b.val (f.val / 128) (r.val / 64))
    (rows (iblk m c 0 t) b.val (f.val / 128) (r.val / 64)) (rows (iblk m c 4 t) b.val (f.val / 128) (r.val / 64)) (rows (iblk m c 6 t) b.val (f.val / 128) (r.val / 64))
    (stOf (scanS (iblk m c 0 t) (iblk m c 1 t) (iblk m c 2 t) (iblk m c 3 t) (iblk m c 5 t) S (r.val / 64)) (4 * b.val + f.val / 128)) (ix3 0 (Fin.ofNat 64 r.val) (Fin.ofNat 128 f.val)) = _
  generalize scanS (iblk m c 0 t) (iblk m c 1 t) (iblk m c 2 t) (iblk m c 3 t) (iblk m c 5 t) S (r.val / 64) = S' at hs ⊢
  have e1 : (512 * (t.val % 8) + r.val) / 64 = 8 * (t.val % 8) + r.val / 64 := by omega
  have e2 : Fin.ofNat 64 (512 * (t.val % 8) + r.val) = Fin.ofNat 64 r.val := Fin.ext (show (512 * (t.val % 8) + r.val) % 64 = r.val % 64 by omega)
  rw [newO_apply]
  unfold result
  rw [e1, e2]
  refine congr (congr (congrArg normGate ?_) ?_) ?_ |> fun h => congrFun h _
  · funext e
    unfold rawOut
    refine congrArg₂ (fun a b : EReal => a + b) (Finset.sum_congr rfl fun x _ => ?_) (Finset.sum_congr rfl fun x _ => ?_)
    · rw [rows2 m c t b.val (f.val / 128) (r.val / 64) b.isLt hh hk, stOf_apply _ _ (by omega), hs b.val (f.val / 128) b.isLt hh]
    · rw [rows4 m c t b.val (f.val / 128) (r.val / 64) b.isLt hh hk, newV_state m c t b.val (f.val / 128) (r.val / 64) b.isLt hh hk S' (hs b.val (f.val / 128) b.isLt hh)]
  · funext e
    exact iblk7 m c t e
  · funext e
    rw [rows6 m c t b.val (f.val / 128) (r.val / 64) b.isLt hh hk]
    have : (Fin.ofNat 64 r.val).val = r.val % 64 := rfl
    congr 1 <;> omega

/-- The zero states are the recurrence's before the first chunk. -/
theorem zero_state (c : Dev nD) (B : ℕ) (b h : ℕ) (hb : b < 4) (hh : h < 4) (d e : Fin 128) :
    (k0_pay1 (F := Ideal) : Vec Ideal S16x128x128 .f32) (ix3 (⟨4 * b + h, by omega⟩ : Fin 16) d e) = state (aU m c) (aW m c) (aK m c) (aG m c) (B + b) h 0 d e := by
  show _ = (0 : EReal)
  pointwise [k0_pay1]

/-- What each grid point leaves in the carried states. -/
theorem outs_state (c : Dev nD) : ∀ (n : ℕ) (hn : n < cfg0.N) (b h : ℕ) (hb : b < 4) (hh : h < 4) (d e : Fin 128),
    (outsAt0 m c n hn).2 (ix3 (⟨4 * b + h, by omega⟩ : Fin 16) d e) = state (aU m c) (aW m c) (aK m c) (aG m c) (4 * (n / 8) + b) h (8 * (n % 8) + 8) d e := by
  intro n
  induction n with
  | zero =>
    intro hn b h hb hh d e
    have h0 : (⟨0, hn⟩ : Fin cfg0.N).val % 8 = 0 := rfl
    rw [outsAt0_A m c ⟨0, hn⟩ h0]
    exact scanS_state m c ⟨0, hn⟩ _ (fun b h hb hh d e => zero_state m c _ b h hb hh d e) 8 le_rfl b h hb hh d e
  | succ n ih =>
    intro hn b h hb hh d e
    by_cases h0 : (n + 1) % 8 = 0
    · rw [outsAt0_A m c ⟨n + 1, hn⟩ h0]
      refine scanS_state m c ⟨n + 1, hn⟩ _ (fun b h hb hh d e => ?_) 8 le_rfl b h hb hh d e
      show _ = state (aU m c) (aW m c) (aK m c) (aG m c) (4 * ((n + 1) / 8) + b) h (8 * ((n + 1) % 8)) d e
      rw [h0]
      exact zero_state m c _ b h hb hh d e
    · rw [outsAt0_B m c ⟨n + 1, hn⟩ h0]
      refine scanS_state m c ⟨n + 1, hn⟩ _ (fun b h hb hh d e => ?_) 8 le_rfl b h hb hh d e
      show (outsAt0 m c n _).2 _ = state (aU m c) (aW m c) (aK m c) (aG m c) (4 * ((n + 1) / 8) + b) h (8 * ((n + 1) % 8)) d e
      rw [ih (by omega) b h hb hh d e, show (n + 1) / 8 = n / 8 by omega, show 8 * ((n + 1) % 8) = 8 * (n % 8) + 8 by omega]

/-- What each grid point leaves in the output block. -/
theorem outs_result (c : Dev nD) (t : Fin cfg0.N) (b : Fin 4) (r f : Fin 512) :
    (outsAt0 m c t.val t.isLt).1 (ix3 b r f) =
      result (aU m c) (aW m c) (aQ m c) (aK m c) (aA m c) (aG m c) (aZ m c) (aN m c) (4 * (t.val / 8) + b.val) (512 * (t.val % 8) + r.val) f.val := by
  by_cases h0 : t.val % 8 = 0
  · rw [outsAt0_A m c t h0]
    refine scanO_result m c t _ (fun b h hb hh d e => ?_) b r f
    rw [h0]
    exact zero_state m c _ b h hb hh d e
  · rw [outsAt0_B m c t h0]
    refine scanO_result m c t _ (fun b h hb hh d e => ?_) b r f
    rw [outs_state m c (t.val - 1) (by omega) b h hb hh d e, show (t.val - 1) / 8 = t.val / 8 by omega, show 8 * ((t.val - 1) % 8) + 8 = 8 * (t.val % 8) by omega]

/-- The output array. -/
def G8 (c : Dev nD) : Buf (Elt Ideal) ((c : Thread nD τ).loc main_v8) := fun (i : S16x4096x512.Idx) =>
  result (aU m c) (aW m c) (aQ m c) (aK m c) (aA m c) (aG m c) (aZ m c) (aN m c) (i 0).val (i 1).val (i 2).val

theorem index8 : ∀ t : Fin cfg0.N, win0_8.index t = ![t.val / 8, t.val % 8, 0] :=
  (by decide +kernel : ∀ t : Fin grid0.N, _)

theorem onto8 (q0 : Fin 4) (q1 : Fin 8) : ∃ t : Fin cfg0.N, (cfg0.win 8).flush t = true ∧ t.val = 8 * q0.val + q1.val :=
  ⟨⟨8 * q0.val + q1.val, lt_of_lt_of_eq (by omega) N_0.symm⟩,
    (by decide +kernel : ∀ t : Fin grid0.N, win0_8.flush t = true) _, rfl⟩

/-- What a grid point writes back is its block of the output array. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  have hy : (cfg0.win 8).xinj (grid0.coords t) y = ix3 (n0 := 4) (n1 := 512) (n2 := 512) (y 0) (y 1) (y 2) := by
    funext a
    match a with
    | ⟨0, _⟩ => rfl
    | ⟨1, _⟩ => rfl
    | ⟨2, _⟩ => rfl
  show (outsAt0 m c t.val t.isLt).1 ((cfg0.win 8).xinj (grid0.coords t) y) = G8 m c (((cfg0.win 8).blk t).view.emb y)
  rw [hy]
  refine (outs_result m c t (y 0) (y 1) (y 2)).trans ?_
  have hi := index8 t
  have hb0 : (((cfg0.win 8).blk t).view.emb y 0).val = 4 * (t.val / 8) + (y 0).val := by
    show win0_8.index t 0 * 4 + 1 * (y 0).val = _
    rw [hi]
    show t.val / 8 * 4 + 1 * (y 0).val = _
    omega
  have hb1 : (((cfg0.win 8).blk t).view.emb y 1).val = 512 * (t.val % 8) + (y 1).val := by
    show win0_8.index t 1 * 512 + 1 * (y 1).val = _
    rw [hi]
    show t.val % 8 * 512 + 1 * (y 1).val = _
    omega
  have hb2 : (((cfg0.win 8).blk t).view.emb y 2).val = (y 2).val := by
    show win0_8.index t 2 * 512 + 1 * (y 2).val = _
    rw [hi]
    show 0 * 512 + 1 * (y 2).val = _
    omega
  unfold G8
  rw [hb0, hb1, hb2]

theorem mem_blk8 (t : Fin cfg0.N) (i : S16x4096x512.Idx) :
    i ∈ ((cfg0.win 8).blk t).view.set ↔ ∀ a : Fin 3, win0_8.index t a * S4x512x512.size a ≤ (i a).val ∧ (i a).val < win0_8.index t a * S4x512x512.size a + S4x512x512.size a := by
  show i ∈ ((View.whole main_v8).slice (win0_8.rect t)).set ↔ _
  rw [View.set_slice_whole, Rect.mem_set_unit]
  exact Iff.rfl

/-- The output array after the run. -/
theorem final8 (c : Dev nD) : (dats m 0 c).arrAt 8 cfg0.N = G8 m c :=
  (dats m 0 c).arrAt_eq_of_cover 8 _ (fun t _ => flushed8_eq m c t) (fun i => by
    have h0 : ((i : S16x4096x512.Idx) 0).val < 16 := ((i : S16x4096x512.Idx) 0).isLt
    have h1 : ((i : S16x4096x512.Idx) 1).val < 4096 := ((i : S16x4096x512.Idx) 1).isLt
    have h2 : ((i : S16x4096x512.Idx) 2).val < 512 := ((i : S16x4096x512.Idx) 2).isLt
    obtain ⟨t, hf, ht⟩ := onto8 ⟨((i : S16x4096x512.Idx) 0).val / 4, by omega⟩ ⟨((i : S16x4096x512.Idx) 1).val / 512, by omega⟩
    refine ⟨t, hf, (mem_blk8 t i).mpr fun a => ?_⟩
    rw [index8 t]
    dsimp only at ht
    match a with
    | ⟨0, _⟩ => show t.val / 8 * 4 ≤ ((i : S16x4096x512.Idx) 0).val ∧ ((i : S16x4096x512.Idx) 0).val < t.val / 8 * 4 + 4; omega
    | ⟨1, _⟩ => show t.val % 8 * 512 ≤ ((i : S16x4096x512.Idx) 1).val ∧ ((i : S16x4096x512.Idx) 1).val < t.val % 8 * 512 + 512; omega
    | ⟨2, _⟩ => show 0 * 512 ≤ ((i : S16x4096x512.Idx) 2).val ∧ ((i : S16x4096x512.Idx) 2).val < 0 * 512 + 512; omega)

/-- The run, with the output array at the recurrence's result. -/
theorem run_value : θ_run defs (onTc (τ := τ) (main (F := Ideal))) ⟨m, fun _ => 0, ρ⟩ fun r => ∀ c : Dev nD,
    r.2.mem ((c : Thread nD τ).loc main_v8) = G8 m c :=
  (θ_run defs _ _).mono (fun r h c => ((h c).1 8).trans (final8 m c)) (run_main m ρ)

end Cert.KernelIdeal.Scan

end
-- ==== Proof.ScanRef.lean ====
/- The reference's loop read at an index over the reals: its entry, one trip, and the result. -/
module

public import proofs.«01_k».proof.Proof.Gen.ReferenceIdeal.Run
public import proofs.«01_k».proof.Proof.ScanModel
public import Idealize.ShloMosaic.Lib.DynamicIndex
public import Idealize.ShloMosaic.Lib.Pointwise
public import Idealize.ShloMosaic.Lib.Tactic.CleanTypes
public import Idealize.ShloMosaic.Lib.Claim

@[expose] public section

set_option maxRecDepth 16384

noncomputable section

namespace Cert.ReferenceIdeal.Scan

open Idealize.ShloMosaic Idealize.ShloMosaic.TcCoe Idealize.SL.Sem
open Idealize.ShloMosaic.StableHlo
open Cert.ReferenceIdeal Cert.ReferenceIdeal.Gen Cert.ReferenceIdeal.Value Cert.Scan

/-- The starts of a slice at chunk `k`, as the loop's counter gives them. -/
theorem starts5 (k : ℕ) (hk : k < 64) (a : Fin 5) :
    ((![fun _ => BitVec.ofNat 32 k, constantI S_ 32 0#32, constantI S_ 32 0#32, constantI S_ 32 0#32, constantI S_ 32 0#32] : Fin 5 → (⟨S_, .i32⟩ : BufTy).Contents (Elt Ideal))
      a (Shape.Idx.first h_S_)).toInt = ((![k, 0, 0, 0, 0] : Fin 5 → ℕ) a : ℤ) := by
  match a with
  | ⟨0, _⟩ => exact toInt_ofNat_of_lt (by omega)
  | ⟨1, _⟩ => rfl
  | ⟨2, _⟩ => rfl
  | ⟨3, _⟩ => rfl
  | ⟨4, _⟩ => rfl

/-- The same for the gates. -/
theorem starts4 (k : ℕ) (hk : k < 64) (a : Fin 4) :
    ((![fun _ => BitVec.ofNat 32 k, constantI S_ 32 0#32, constantI S_ 32 0#32, constantI S_ 32 0#32] : Fin 4 → (⟨S_, .i32⟩ : BufTy).Contents (Elt Ideal))
      a (Shape.Idx.first h_S_)).toInt = ((![k, 0, 0, 0] : Fin 4 → ℕ) a : ℤ) := by
  match a with
  | ⟨0, _⟩ => exact toInt_ofNat_of_lt (by omega)
  | ⟨1, _⟩ => rfl
  | ⟨2, _⟩ => rfl
  | ⟨3, _⟩ => rfl

theorem fits5 (k : ℕ) (hk : k < 64) : S64x16x4x64x128.Slices ![k, 0, 0, 0, 0] S1x16x4x64x128 := by
  refine ⟨rfl, fun a => ?_⟩
  match a with
  | ⟨0, _⟩ => show k + 1 ≤ 64; omega
  | ⟨1, _⟩ => show 0 + 16 ≤ 16; omega
  | ⟨2, _⟩ => show 0 + 4 ≤ 4; omega
  | ⟨3, _⟩ => show 0 + 64 ≤ 64; omega
  | ⟨4, _⟩ => show 0 + 128 ≤ 128; omega

theorem fits4 (k : ℕ) (hk : k < 64) : S64x16x4x64.Slices ![k, 0, 0, 0] S1x16x4x64 := by
  refine ⟨rfl, fun a => ?_⟩
  match a with
  | ⟨0, _⟩ => show k + 1 ≤ 64; omega
  | ⟨1, _⟩ => show 0 + 16 ≤ 16; omega
  | ⟨2, _⟩ => show 0 + 4 ≤ 4; omega
  | ⟨3, _⟩ => show 0 + 64 ≤ 64; omega

/-- A chunk of a carried input. -/
def slice5 (x : Vec Ideal S64x16x4x64x128 .f32) (k : ℕ) (hk : k < 64) : Vec Ideal S16x4x64x128 .f32 := fun y => x (ix5 (⟨k, hk⟩ : Fin 64) (y 0) (y 1) (y 2) (y 3))

theorem chunk5 (x : Vec Ideal S64x16x4x64x128 .f32) (k : ℕ) (hk : k < 64) :
    shapeCast S16x4x64x128 (Host.dynamicSlice S1x16x4x64x128 x (fun a => ((![fun _ => BitVec.ofNat 32 k, constantI S_ 32 0#32, constantI S_ 32 0#32, constantI S_ 32 0#32, constantI S_ 32 0#32] : Fin 5 → (⟨S_, .i32⟩ : BufTy).Contents (Elt Ideal))
      a (Shape.Idx.first h_S_)).toInt) sliceFits_S64x16x4x64x128_S1x16x4x64x128) shapeCasts_S1x16x4x64x128_S16x4x64x128 = slice5 x k hk := by
  rw [Host.dynamicSlice_eq_extractStridedSlice S1x16x4x64x128 x _ ![k, 0, 0, 0, 0] _ (fits5 k hk) (starts5 k hk)]
  funext y
  obtain ⟨b, h, i, e, rfl⟩ : ∃ (b : Fin 16) (h : Fin 4) (i : Fin 64) (e : Fin 128), y = ix4 b h i e := by
    refine ⟨y 0, y 1, y 2, y 3, funext fun a => ?_⟩
    match a with
    | ⟨0, _⟩ => rfl
    | ⟨1, _⟩ => rfl
    | ⟨2, _⟩ => rfl
    | ⟨3, _⟩ => rfl
  pointwise [slice5]

/-- A chunk's gates. -/
def slice4 (x : Vec Ideal S64x16x4x64 .f32) (k : ℕ) (hk : k < 64) : Vec Ideal S16x4x64 .f32 := fun y => x (ix4 (⟨k, hk⟩ : Fin 64) (y 0) (y 1) (y 2))

theorem chunk4 (x : Vec Ideal S64x16x4x64 .f32) (k : ℕ) (hk : k < 64) :
    shapeCast S16x4x64 (Host.dynamicSlice S1x16x4x64 x (fun a => ((![fun _ => BitVec.ofNat 32 k, constantI S_ 32 0#32, constantI S_ 32 0#32, constantI S_ 32 0#32] : Fin 4 → (⟨S_, .i32⟩ : BufTy).Contents (Elt Ideal))
      a (Shape.Idx.first h_S_)).toInt) sliceFits_S64x16x4x64_S1x16x4x64) shapeCasts_S1x16x4x64_S16x4x64 = slice4 x k hk := by
  rw [Host.dynamicSlice_eq_extractStridedSlice S1x16x4x64 x _ ![k, 0, 0, 0] _ (fits4 k hk) (starts4 k hk)]
  funext y
  obtain ⟨b, h, i, rfl⟩ : ∃ (b : Fin 16) (h : Fin 4) (i : Fin 64), y = ix3 b h i := by
    refine ⟨y 0, y 1, y 2, funext fun a => ?_⟩
    match a with
    | ⟨0, _⟩ => rfl
    | ⟨1, _⟩ => rfl
    | ⟨2, _⟩ => rfl
  pointwise [slice4]

/-- Chunk `k` of the outputs written, the others kept. -/
theorem put5 (x : Vec Ideal S64x16x4x64x128 .f32) (u : Vec Ideal S1x16x4x64x128 .f32) (k : ℕ) (hk : k < 64) (c : Fin 64) (b : Fin 16) (h : Fin 4) (i : Fin 64) (e : Fin 128) :
    Host.dynamicUpdateSlice x u (fun a => ((![fun _ => BitVec.ofNat 32 k, constantI S_ 32 0#32, constantI S_ 32 0#32, constantI S_ 32 0#32, constantI S_ 32 0#32] : Fin 5 → (⟨S_, .i32⟩ : BufTy).Contents (Elt Ideal))
      a (Shape.Idx.first h_S_)).toInt) updateFits_S64x16x4x64x128_S1x16x4x64x128 (ix5 c b h i e) = if c.val = k then u (ix5 0 b h i e) else x (ix5 c b h i e) := by
  rw [Host.dynamicUpdateSlice_eq_updateSlice x u _ _ ![k, 0, 0, 0, 0] (fun a => by
    rw [starts5 k hk a]
    match a with
    | ⟨0, _⟩ => show (min (max (k : ℤ) 0) ((64 - 1 : ℕ) : ℤ)).toNat = k; omega
    | ⟨1, _⟩ => rfl
    | ⟨2, _⟩ => rfl
    | ⟨3, _⟩ => rfl
    | ⟨4, _⟩ => rfl) (fits5 k hk)]
  rw [updateSlice_apply]
  by_cases hc : c.val = k
  · rw [if_pos hc, dif_pos (fun a => by
      match a with
      | ⟨0, _⟩ => show k ≤ c.val ∧ c.val < k + 1; omega
      | ⟨1, _⟩ => show 0 ≤ b.val ∧ b.val < 0 + 16; omega
      | ⟨2, _⟩ => show 0 ≤ h.val ∧ h.val < 0 + 4; omega
      | ⟨3, _⟩ => show 0 ≤ i.val ∧ i.val < 0 + 64; omega
      | ⟨4, _⟩ => show 0 ≤ e.val ∧ e.val < 0 + 128; omega)]
    refine congrArg u (funext fun a => Fin.ext ?_)
    match a with
    | ⟨0, _⟩ => show c.val - k = 0; omega
    | ⟨1, _⟩ => rfl
    | ⟨2, _⟩ => rfl
    | ⟨3, _⟩ => rfl
    | ⟨4, _⟩ => rfl
  · rw [if_neg hc, dif_neg (fun ha => hc (by
      have h0 : k ≤ c.val ∧ c.val < k + 1 := ha (0 : Fin 5)
      omega))]

variable (V0 : Valuation τ sig (Elt Ideal))

/-- The carried queries. -/
def vQ : S64x16x4x64x128.Idx → EReal := V0 (Proc.devRef .tc main_v20_0)
/-- The carried keys. -/
def vK : S64x16x4x64x128.Idx → EReal := V0 (Proc.devRef .tc main_v20_1)
/-- The carried values. -/
def vU : S64x16x4x64x128.Idx → EReal := V0 (Proc.devRef .tc main_v20_2)
/-- The carried erasing keys. -/
def vW : S64x16x4x64x128.Idx → EReal := V0 (Proc.devRef .tc main_v20_3)
/-- The carried attention matrices. -/
def vA : S64x16x4x64x128.Idx → EReal := V0 (Proc.devRef .tc main_v20_4)
/-- The carried gates. -/
def vG : S64x16x4x64.Idx → EReal := V0 (Proc.devRef .tc main_v20_5)
/-- The carried states. -/
def vS : S16x4x128x128.Idx → EReal := V0 (Proc.devRef .tc main_v20_7)
/-- The carried outputs. -/
def vO : S64x16x4x64x128.Idx → EReal := V0 (Proc.devRef .tc main_v20_8)
/-- The new values of a trip. -/
def vN : S16x4x64x128.Idx → EReal := res_main_while0b_v58 V0
/-- The states a trip leaves. -/
def nS : S16x4x128x128.Idx → EReal := step_main_v20_7 V0
/-- The outputs a trip leaves. -/
def nO : S64x16x4x64x128.Idx → EReal := step_main_v20_8 V0

/-- The new values of a trip. -/
theorem new_read (k : ℕ) (hk : k < 64) (hc : V0 (Proc.devRef .tc main_v20_6) = fun _ => BitVec.ofNat 32 k) (b : Fin 16) (h : Fin 4) (i : Fin 64) (e : Fin 128) :
    vN V0 (ix4 b h i e) =
      vU V0 (ix5 ⟨k, hk⟩ b h i e) -
        ∑ j : Fin 128, vW V0 (ix5 ⟨k, hk⟩ b h i j) *
          vS V0 (ix4 b h j e) := by
  have he : vN V0 = (subf (slice5 (vU V0) k hk) (Host.dotGeneral (φ₁ := .f32) (φ₂ := .f32) dot_S16x4x64x128_S16x4x128x128_S16x4x64x128_3_2_2_3_01_01 none (slice5 (vW V0) k hk)
      (vS V0 : FVec Ideal S16x4x128x128 .f32) : FVec Ideal S16x4x64x128 .f32) : FVec Ideal S16x4x64x128 .f32) := by
    unfold vN res_main_while0b_v58
    rw [hc]
    have h := congrArg₂ (fun a b : FVec Ideal S16x4x64x128 .f32 => subf a (Host.dotGeneral (φ₁ := .f32) (φ₂ := .f32) dot_S16x4x64x128_S16x4x128x128_S16x4x64x128_3_2_2_3_01_01 none b (vS V0 : FVec Ideal S16x4x128x128 .f32)))
      (chunk5 (vU V0) k hk) (chunk5 (vW V0) k hk)
    exact h
  rw [he]
  pointwise [slice5]

/-- The states after a trip. -/
theorem state_read (k : ℕ) (hk : k < 64) (hc : V0 (Proc.devRef .tc main_v20_6) = fun _ => BitVec.ofNat 32 k) (b : Fin 16) (h : Fin 4) (d e : Fin 128) :
    nS V0 (ix4 b h d e) =
      vS V0 (ix4 b h d e) *
        Ideal.exp (vG V0 (ix4 ⟨k, hk⟩ b h 63)) +
      ∑ i : Fin 64, vK V0 (ix5 ⟨k, hk⟩ b h i d) *
        vN V0 (ix4 b h i e) := by
  have he : nS V0 = (addf (mulf (vS V0 : FVec Ideal S16x4x128x128 .f32) (broadcastInDim S16x4x128x128 ![0, 1, 2, 3] bcast_S16x4x1x1_S16x4x128x128_0_1_2_3 (broadcastInDim S16x4x1x1 ![0, 1] bcast_S16x4_S16x4x1x1_0_1
      (Host.exp (shapeCast S16x4 (extractStridedSlice S16x4x1 ![0, 0, 63] (slice4 (vG V0) k hk) slices_S16x4x64_S16x4x1_0_0_63) shapeCasts_S16x4x1_S16x4)))))
      (Host.dotGeneral (φ₁ := .f32) (φ₂ := .f32) dot_S16x4x64x128_S16x4x64x128_S16x4x128x128_2_2_3_3_01_01 none (slice5 (vK V0) k hk) (vN V0 : FVec Ideal S16x4x64x128 .f32)) : FVec Ideal S16x4x128x128 .f32) := by
    unfold nS step_main_v20_7
    rw [hc]
    have h := congrArg₂ (fun (G : FVec Ideal S16x4x64 .f32) (K : FVec Ideal S16x4x64x128 .f32) => (addf (mulf (vS V0 : FVec Ideal S16x4x128x128 .f32) (broadcastInDim S16x4x128x128 ![0, 1, 2, 3] bcast_S16x4x1x1_S16x4x128x128_0_1_2_3 (broadcastInDim S16x4x1x1 ![0, 1] bcast_S16x4_S16x4x1x1_0_1
      (Host.exp (shapeCast S16x4 (extractStridedSlice S16x4x1 ![0, 0, 63] G slices_S16x4x64_S16x4x1_0_0_63) shapeCasts_S16x4x1_S16x4)))))
      (Host.dotGeneral (φ₁ := .f32) (φ₂ := .f32) dot_S16x4x64x128_S16x4x64x128_S16x4x128x128_2_2_3_3_01_01 none K (vN V0 : FVec Ideal S16x4x64x128 .f32)) : FVec Ideal S16x4x128x128 .f32))
      (chunk4 (vG V0) k hk) (chunk5 (vK V0) k hk)
    exact h
  rw [he]
  pointwise [slice5, slice4]

/-- The outputs after a trip. -/
theorem out_read (k : ℕ) (hk : k < 64) (hc : V0 (Proc.devRef .tc main_v20_6) = fun _ => BitVec.ofNat 32 k) (c : Fin 64) (b : Fin 16) (h : Fin 4) (i : Fin 64) (e : Fin 128) :
    nO V0 (ix5 c b h i e) =
      if c.val = k then
        ∑ x : Fin 128, vQ V0 (ix5 ⟨k, hk⟩ b h i x) *
            vS V0 (ix4 b h x e) +
          ∑ x : Fin 64, vA V0 (ix5 ⟨k, hk⟩ b h i ⟨x.val, by omega⟩) *
            vN V0 (ix4 b h x e)
      else vO V0 (ix5 c b h i e) := by
  have he : nO V0 = Host.dynamicUpdateSlice (vO V0 : FVec Ideal S64x16x4x64x128 .f32) (broadcastInDim S1x16x4x64x128 ![1, 2, 3, 4] bcast_S16x4x64x128_S1x16x4x64x128_1_2_3_4 (addf (Host.dotGeneral (φ₁ := .f32) (φ₂ := .f32) dot_S16x4x64x128_S16x4x128x128_S16x4x64x128_3_2_2_3_01_01 none (slice5 (vQ V0) k hk) (vS V0 : FVec Ideal S16x4x128x128 .f32))
      (Host.dotGeneral (φ₁ := .f32) (φ₂ := .f32) dot_S16x4x64x64_S16x4x64x128_S16x4x64x128_3_2_2_3_01_01 none (extractStridedSlice S16x4x64x64 ![0, 0, 0, 0] (slice5 (vA V0) k hk) slices_S16x4x64x128_S16x4x64x64_0_0_0_0)
        (vN V0 : FVec Ideal S16x4x64x128 .f32)) : FVec Ideal S16x4x64x128 .f32))
      (fun a => ((![fun _ => BitVec.ofNat 32 k, constantI S_ 32 0#32, constantI S_ 32 0#32, constantI S_ 32 0#32, constantI S_ 32 0#32] : Fin 5 → (⟨S_, .i32⟩ : BufTy).Contents (Elt Ideal))
      a (Shape.Idx.first h_S_)).toInt) updateFits_S64x16x4x64x128_S1x16x4x64x128 := by
    unfold nO step_main_v20_8
    rw [hc]
    have h := congrArg₂ (fun (Q A : FVec Ideal S16x4x64x128 .f32) => Host.dynamicUpdateSlice (vO V0 : FVec Ideal S64x16x4x64x128 .f32) (broadcastInDim S1x16x4x64x128 ![1, 2, 3, 4] bcast_S16x4x64x128_S1x16x4x64x128_1_2_3_4 (addf (Host.dotGeneral (φ₁ := .f32) (φ₂ := .f32) dot_S16x4x64x128_S16x4x128x128_S16x4x64x128_3_2_2_3_01_01 none Q (vS V0 : FVec Ideal S16x4x128x128 .f32))
      (Host.dotGeneral (φ₁ := .f32) (φ₂ := .f32) dot_S16x4x64x64_S16x4x64x128_S16x4x64x128_3_2_2_3_01_01 none (extractStridedSlice S16x4x64x64 ![0, 0, 0, 0] A slices_S16x4x64x128_S16x4x64x64_0_0_0_0)
        (vN V0 : FVec Ideal S16x4x64x128 .f32)) : FVec Ideal S16x4x64x128 .f32))
      (fun a => ((![fun _ => BitVec.ofNat 32 k, constantI S_ 32 0#32, constantI S_ 32 0#32, constantI S_ 32 0#32, constantI S_ 32 0#32] : Fin 5 → (⟨S_, .i32⟩ : BufTy).Contents (Elt Ideal))
      a (Shape.Idx.first h_S_)).toInt) updateFits_S64x16x4x64x128_S1x16x4x64x128)
      (chunk5 (vQ V0) k hk) (chunk5 (vA V0) k hk)
    exact h
  rw [he]
  refine (put5 _ _ k hk c b h i e).trans ?_
  congr 1
  pointwise [slice5]

end Cert.ReferenceIdeal.Scan

end
-- ==== Proof.ScanRefValue.lean ====
/- What the reference's loop holds after every trip, and its result. -/
module

public import proofs.«01_k».proof.Proof.ScanRef

@[expose] public section

set_option maxRecDepth 16384

noncomputable section

namespace Cert.ReferenceIdeal.Scan

open Idealize.ShloMosaic Idealize.ShloMosaic.TcCoe Idealize.SL.Sem Idealize.ShloMosaic.Tactic
open Idealize.ShloMosaic.StableHlo
open Cert.ReferenceIdeal Cert.ReferenceIdeal.Gen Cert.ReferenceIdeal.Value Cert.Scan

variable (m : (ℓ : Loc nD τ sig) → Buf (Elt Ideal) ℓ) (ρ : Dev nD → PrngReg)

/-- Argument 0's entries. -/
abbrev rU (c : Dev nD) : ℕ → ℕ → EReal := ent (n := 65536) (m := 512) (m ((c : Thread nD τ).loc main_arg0))
/-- Argument 1's entries. -/
abbrev rW (c : Dev nD) : ℕ → ℕ → EReal := ent (n := 65536) (m := 512) (m ((c : Thread nD τ).loc main_arg1))
/-- Argument 2's entries. -/
abbrev rQ (c : Dev nD) : ℕ → ℕ → EReal := ent (n := 65536) (m := 512) (m ((c : Thread nD τ).loc main_arg2))
/-- Argument 3's entries. -/
abbrev rK (c : Dev nD) : ℕ → ℕ → EReal := ent (n := 65536) (m := 512) (m ((c : Thread nD τ).loc main_arg3))
/-- Argument 4's entries. -/
abbrev rA (c : Dev nD) : ℕ → ℕ → EReal := ent (n := 65536) (m := 512) (m ((c : Thread nD τ).loc main_arg4))
/-- Argument 5's entries. -/
abbrev rG (c : Dev nD) : ℕ → ℕ → EReal := ent (n := 65536) (m := 128) (m ((c : Thread nD τ).loc main_arg5))
/-- Argument 6's entries. -/
abbrev rZ (c : Dev nD) : ℕ → ℕ → EReal := ent (n := 65536) (m := 8192) (m ((c : Thread nD τ).loc main_arg6))
/-- The gain's entries. -/
abbrev rN (c : Dev nD) : ℕ → EReal := ent1 (n := 128) (m ((c : Thread nD τ).loc main_arg7))

/-- An input split into chunks and heads, at an index. -/
theorem layout (x : FVec Ideal S65536x512 .f32) (k : Fin 64) (b : Fin 16) (h : Fin 4) (i : Fin 64) (f : Fin 128) :
    transpose S64x16x4x64x128 [1, 0, 3, 2, 4] (shapeCast S16x64x64x4x128 x shapeCasts_S65536x512_S16x64x64x4x128) transposes_S16x64x64x4x128_S64x16x4x64x128_1_0_3_2_4 (ix5 k b h i f) =
      ent (n := 65536) (m := 512) x (4096 * b.val + 64 * k.val + i.val) (128 * h.val + f.val) := by
  pointwise [ent]
  refine congrArg x (funext fun a => Fin.ext ?_)
  match a with
  | ⟨0, _⟩ => show b.val * 4096 + k.val * 64 + i.val = (4096 * b.val + 64 * k.val + i.val) % 65536; omega
  | ⟨1, _⟩ => show h.val * 128 + f.val = (128 * h.val + f.val) % 512; omega

/-- The gates split into chunks and heads, at an index. -/
theorem layout_gate (x : FVec Ideal S65536x128 .f32) (k : Fin 64) (b : Fin 16) (h : Fin 4) (i : Fin 64) :
    shapeCast S64x16x4x64 (transpose S64x16x4x64x1 [1, 0, 3, 2, 4] (shapeCast S16x64x64x4x1 (extractStridedSlice S65536x4 ![0, 0] x slices_S65536x128_S65536x4_0_0)
      shapeCasts_S65536x4_S16x64x64x4x1) transposes_S16x64x64x4x1_S64x16x4x64x1_1_0_3_2_4) shapeCasts_S64x16x4x64x1_S64x16x4x64 (ix4 k b h i) =
      ent (n := 65536) (m := 128) x (4096 * b.val + 64 * k.val + i.val) h.val := by
  pointwise [ent]
  refine congrArg x (funext fun a => Fin.ext ?_)
  match a with
  | ⟨0, _⟩ => show b.val * 4096 + k.val * 64 + i.val = (4096 * b.val + 64 * k.val + i.val) % 65536; omega
  | ⟨1, _⟩ => show h.val = h.val % 128; omega

/-- The loop's state after `k` trips. -/
def after (c : Dev nD) (k : ℕ) : Valuation τ sig (Elt Ideal) := STEP^[k] (entryContents preI m c)

theorem after_succ (c : Dev nD) (k : ℕ) : after m c (k + 1) = STEP (after m c k) := Function.iterate_succ_apply' _ _ _

theorem counter (c : Dev nD) : ∀ k, after m c k (Proc.devRef .tc main_v20_6) = fun _ => BitVec.ofNat 32 k
  | 0 => ctr_entry m c
  | k + 1 => by
    rw [after_succ, STEP_main_v20_6]
    unfold step_main_v20_6
    rw [counter c k]
    funext i
    show BitVec.ofNat 32 k + 1#32 = _
    rw [BitVec.ofNat_add]

theorem entry_vQ (c : Dev nD) (k : Fin 64) (b : Fin 16) (h : Fin 4) (i : Fin 64) (f : Fin 128) :
    vQ (entryContents preI m c) (ix5 k b h i f) = rQ m c (4096 * b.val + 64 * k.val + i.val) (128 * h.val + f.val) := by
  unfold vQ
  simp only [entryContents, afterL_cons, afterL_nil]
  after_reads_simp
  exact layout _ k b h i f

theorem keep_vQ (c : Dev nD) : ∀ k, vQ (after m c k) = vQ (entryContents preI m c)
  | 0 => rfl
  | k + 1 => by
    rw [after_succ, ← keep_vQ c k]
    exact STEP_main_v20_0 _

theorem entry_vK (c : Dev nD) (k : Fin 64) (b : Fin 16) (h : Fin 4) (i : Fin 64) (f : Fin 128) :
    vK (entryContents preI m c) (ix5 k b h i f) = rK m c (4096 * b.val + 64 * k.val + i.val) (128 * h.val + f.val) := by
  unfold vK
  simp only [entryContents, afterL_cons, afterL_nil]
  after_reads_simp
  exact layout _ k b h i f

theorem keep_vK (c : Dev nD) : ∀ k, vK (after m c k) = vK (entryContents preI m c)
  | 0 => rfl
  | k + 1 => by
    rw [after_succ, ← keep_vK c k]
    exact STEP_main_v20_1 _

theorem entry_vU (c : Dev nD) (k : Fin 64) (b : Fin 16) (h : Fin 4) (i : Fin 64) (f : Fin 128) :
    vU (entryContents preI m c) (ix5 k b h i f) = rU m c (4096 * b.val + 64 * k.val + i.val) (128 * h.val + f.val) := by
  unfold vU
  simp only [entryContents, afterL_cons, afterL_nil]
  after_reads_simp
  exact layout _ k b h i f

theorem keep_vU (c : Dev nD) : ∀ k, vU (after m c k) = vU (entryContents preI m c)
  | 0 => rfl
  | k + 1 => by
    rw [after_succ, ← keep_vU c k]
    exact STEP_main_v20_2 _

theorem entry_vW (c : Dev nD) (k : Fin 64) (b : Fin 16) (h : Fin 4) (i : Fin 64) (f : Fin 128) :
    vW (entryContents preI m c) (ix5 k b h i f) = rW m c (4096 * b.val + 64 * k.val + i.val) (128 * h.val + f.val) := by
  unfold vW
  simp only [entryContents, afterL_cons, afterL_nil]
  after_reads_simp
  exact layout _ k b h i f

theorem keep_vW (c : Dev nD) : ∀ k, vW (after m c k) = vW (entryContents preI m c)
  | 0 => rfl
  | k + 1 => by
    rw [after_succ, ← keep_vW c k]
    exact STEP_main_v20_3 _

theorem entry_vA (c : Dev nD) (k : Fin 64) (b : Fin 16) (h : Fin 4) (i : Fin 64) (f : Fin 128) :
    vA (entryContents preI m c) (ix5 k b h i f) = rA m c (4096 * b.val + 64 * k.val + i.val) (128 * h.val + f.val) := by
  unfold vA
  simp only [entryContents, afterL_cons, afterL_nil]
  after_reads_simp
  exact layout _ k b h i f

theorem keep_vA (c : Dev nD) : ∀ k, vA (after m c k) = vA (entryContents preI m c)
  | 0 => rfl
  | k + 1 => by
    rw [after_succ, ← keep_vA c k]
    exact STEP_main_v20_4 _

theorem entry_vG (c : Dev nD) (k : Fin 64) (b : Fin 16) (h : Fin 4) (i : Fin 64) :
    vG (entryContents preI m c) (ix4 k b h i) = rG m c (4096 * b.val + 64 * k.val + i.val) h.val := by
  unfold vG
  simp only [entryContents, afterL_cons, afterL_nil]
  after_reads_simp
  exact layout_gate _ k b h i

theorem keep_vG (c : Dev nD) : ∀ k, vG (after m c k) = vG (entryContents preI m c)
  | 0 => rfl
  | k + 1 => by
    rw [after_succ, ← keep_vG c k]
    exact STEP_main_v20_5 _

theorem entry_vS (c : Dev nD) (b : Fin 16) (h : Fin 4) (d e : Fin 128) : vS (entryContents preI m c) (ix4 b h d e) = 0 := by
  unfold vS
  simp only [entryContents, afterL_cons, afterL_nil]
  after_reads_simp
  rw [id_eq]
  pointwise

/-- The new values of trip `k`, from states that are the recurrence's. -/
theorem new_state (c : Dev nD) (k : ℕ) (hk : k < 64)
    (hS : ∀ (b : Fin 16) (h : Fin 4) (d e : Fin 128), vS (after m c k) (ix4 b h d e) = state (rU m c) (rW m c) (rK m c) (rG m c) b.val h.val k d e)
    (b : Fin 16) (h : Fin 4) (i : Fin 64) (e : Fin 128) :
    vN (after m c k) (ix4 b h i e) = newVal (rU m c) (rW m c) b.val h.val k (state (rU m c) (rW m c) (rK m c) (rG m c) b.val h.val k) i e := by
  rw [new_read _ k hk (counter m c k), keep_vU, keep_vW, entry_vU]
  unfold newVal
  congr 1
  exact Finset.sum_congr rfl fun j _ => by rw [entry_vW, hS]

/-- The states after `k` trips are the recurrence's. -/
theorem states (c : Dev nD) : ∀ k, k ≤ 64 → ∀ (b : Fin 16) (h : Fin 4) (d e : Fin 128),
    vS (after m c k) (ix4 b h d e) = state (rU m c) (rW m c) (rK m c) (rG m c) b.val h.val k d e
  | 0, _ => fun b h d e => entry_vS m c b h d e
  | k + 1, hk => fun b h d e => by
    have hn : vS (after m c (k + 1)) = nS (after m c k) := by
      rw [after_succ]
      exact STEP_main_v20_7 _
    have ih := states c k (by omega)
    rw [hn, state_read _ k (by omega) (counter m c k), ih, keep_vG, keep_vK, entry_vG]
    show _ = state (rU m c) (rW m c) (rK m c) (rG m c) b.val h.val k d e * _ + _
    congr 1
    exact Finset.sum_congr rfl fun i _ => by rw [entry_vK, new_state m c k (by omega) ih]

/-- The raw outputs of the chunks before `k`. -/
theorem outputs (c : Dev nD) : ∀ k, k ≤ 64 → ∀ (n : Fin 64) (b : Fin 16) (h : Fin 4) (i : Fin 64) (e : Fin 128), n.val < k →
    vO (after m c k) (ix5 n b h i e) = rawOut (rU m c) (rW m c) (rQ m c) (rK m c) (rA m c) (rG m c) b.val h.val n.val i e
  | 0, _ => fun n b h i e hn => absurd hn (by omega)
  | k + 1, hk => fun n b h i e hn => by
    have hn' : vO (after m c (k + 1)) = nO (after m c k) := by
      rw [after_succ]
      exact STEP_main_v20_8 _
    have ih := states m c k (by omega)
    rw [hn', out_read _ k (by omega) (counter m c k)]
    by_cases h0 : n.val = k
    · rw [if_pos h0, keep_vQ, keep_vA]
      unfold rawOut
      rw [h0]
      refine congrArg₂ (fun a b : EReal => a + b) (Finset.sum_congr rfl fun x _ => ?_) (Finset.sum_congr rfl fun x _ => ?_)
      · rw [entry_vQ, ih]
      · rw [entry_vA, new_state m c k (by omega) ih]
    · rw [if_neg h0]
      exact outputs c k (by omega) n b h i e (by omega)

end Cert.ReferenceIdeal.Scan

end
-- ==== Proof.ScanRefOut.lean ====
/- The reference's result at an index: the recurrence's. -/
module

public import proofs.«01_k».proof.Proof.ScanRefValue

@[expose] public section

set_option maxRecDepth 16384

noncomputable section

namespace Cert.ReferenceIdeal.Scan

open Idealize.ShloMosaic Idealize.ShloMosaic.TcCoe Idealize.SL.Sem Idealize.ShloMosaic.Tactic
open Idealize.ShloMosaic.StableHlo
open Cert.ReferenceIdeal Cert.ReferenceIdeal.Gen Cert.ReferenceIdeal.Value Cert.Scan

/-- The carried gate inputs and gain, as the operations after the loop read them. -/
def oZ (V0 : Valuation τ sig (Elt Ideal)) : S65536x8192.Idx → EReal := V0 (Proc.devRef .tc main_arg6)
def oN (V0 : Valuation τ sig (Elt Ideal)) : S128.Idx → EReal := V0 (Proc.devRef .tc main_arg7)
/-- The result those operations make. -/
def oR (V0 : Valuation τ sig (Elt Ideal)) : S16x4096x512.Idx → EReal := out_main_v50 V0

/-- Of the gate input only the entry at hand is read. -/
theorem normGate_congr (o g z z' : Fin 128 → EReal) (e : Fin 128) (h : z e = z' e) : normGate o g z e = normGate o g z' e := by
  unfold normGate
  rw [h]

theorem out_apply (V0 : Valuation τ sig (Elt Ideal)) (b : Fin 16) (t : Fin 4096) (f : Fin 512) :
    oR V0 (ix3 b t f) = normGate (fun e => vO V0 (ix5 (⟨t.val / 64, by omega⟩ : Fin 64) b (⟨f.val / 128, by omega⟩ : Fin 4) (⟨t.val % 64, by omega⟩ : Fin 64) e))
      (fun e => oN V0 (ix1 e)) (fun e => oZ V0 (ix2 (⟨b.val * 4096 + t.val, by omega⟩ : Fin 65536) (⟨4608 + (128 * (f.val / 128) + e.val), by omega⟩ : Fin 8192)))
      (⟨f.val % 128, by omega⟩ : Fin 128) := by
  have hf : (⟨4608 + f.val, by omega⟩ : Fin 8192) = ⟨4608 + (128 * (f.val / 128) + f.val % 128), by omega⟩ := Fin.ext (by show 4608 + f.val = 4608 + (128 * (f.val / 128) + f.val % 128); omega)
  rw [normGate_congr _ _ _ (fun _ => oZ V0 (ix2 (⟨b.val * 4096 + t.val, by omega⟩ : Fin 65536) (⟨4608 + f.val, by omega⟩ : Fin 8192))) _
    (congrArg (fun w => oZ V0 (ix2 (⟨b.val * 4096 + t.val, by omega⟩ : Fin 65536) w)) hf.symm)]
  unfold oR out_main_v50
  clean_types
  pointwise
  rfl

/-- The reference's result at an index. -/
theorem result_apply (m : (ℓ : Loc nD τ sig) → Buf (Elt Ideal) ℓ) (c : Dev nD) (b : Fin 16) (t : Fin 4096) (f : Fin 512) :
    oR (after m c 64) (ix3 b t f) = result (rU m c) (rW m c) (rQ m c) (rK m c) (rA m c) (rG m c) (rZ m c) (rN m c) b.val t.val f.val := by
  rw [out_apply]
  unfold result
  refine congr (congr (congr (congrArg normGate ?_) ?_) ?_) ?_
  · funext e
    rw [outputs m c 64 le_rfl _ b _ _ e (by show t.val / 64 < 64; omega)]
    rfl
  · funext e
    unfold oN
    rw [after, iter_main_arg7]
    show _ = m ((c : Thread nD τ).loc main_arg7) (ix1 (Fin.ofNat 128 e.val))
    refine congrArg (m ((c : Thread nD τ).loc main_arg7)) (funext fun a => Fin.ext ?_)
    match a with
    | ⟨0, _⟩ => exact (Nat.mod_eq_of_lt e.isLt).symm
  · funext e
    unfold oZ
    rw [after, iter_main_arg6]
    refine congrArg (m ((c : Thread nD τ).loc main_arg6)) (funext fun a => Fin.ext ?_)
    match a with
    | ⟨0, _⟩ => show b.val * 4096 + t.val = (4096 * b.val + t.val) % 65536; omega
    | ⟨1, _⟩ => show 4608 + (128 * (f.val / 128) + e.val) = (4608 + 128 * (f.val / 128) + e.val) % 8192; omega
  · rfl

end Cert.ReferenceIdeal.Scan

end
-- ==== Proof.ScanClaim.lean ====
/- The claims about the recurrence. -/
module

public import proofs.«01_k».proof.Defs
public import proofs.«01_k».proof.Proof.Gen.Kernel
public import proofs.«01_k».proof.Proof.ScanValue
public import proofs.«01_k».proof.Proof.ScanRefOut

@[expose] public section

noncomputable section

namespace Cert.Scan

open Idealize.ShloMosaic Idealize.ShloMosaic.TcCoe Idealize.SL.Sem

/-- The two programs have one table of bodies. -/
theorem bodies_eq {F : FTy → Type} [FloatOps F] : Cert.Kernel.defs₀ (F := F) = Cert.KernelIdeal.defs₀ (F := F) := by
  refine congrArg Defs.onTc (funext fun l => ?_)
  match l with
  | 0 => rfl

/-- The kernel's frame: its text is the ideal kernel's, whose run holds for any float values. -/
theorem frame_kernel : Cert.quiescent_Kernel := fun m ρ _ => by
  have e : Cert.Kernel.defs (F := Bits) = Cert.KernelIdeal.defs (F := Bits) :=
    congrArg (Pipeline.defs Cert.KernelIdeal.pcfgs) bodies_eq
  rw [e]
  exact Cert.KernelIdeal.Scan.frame (F := Bits) m ρ

/-- The ideal kernel's frame. -/
theorem frame_ideal : Cert.quiescent_KernelIdeal := fun m ρ _ => Cert.KernelIdeal.Scan.frame (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference make the recurrence's result. -/
theorem algebraic : Cert.algebraic_KernelIdeal_ReferenceIdeal := fun m g m' g' _ hargs => by
  refine ⟨fun c => Cert.KernelIdeal.Scan.G8 m c, ?_, ?_⟩
  · exact (θ_run _ _ _).mono (fun r h c => ⟨h.1 c, h.2 c⟩)
      (θ_run_and (Cert.KernelIdeal.Scan.run_value m g) (Cert.KernelIdeal.Scan.unchanged m g))
  · refine (θ_run _ _ _).mono (fun r h c => ⟨?_, (h c).2⟩) (Cert.ReferenceIdeal.Value.run m' g')
    refine (h c).1.trans (funext fun i => ?_)
    obtain ⟨h0, h1, h2, h3, h4, h5, h6, h7⟩ := hargs c
    obtain ⟨b, t, f, rfl⟩ : ∃ (b : Fin 16) (t : Fin 4096) (f : Fin 512), i = ix3 b t f := by
      refine ⟨i 0, i 1, i 2, funext fun a => ?_⟩
      match a with
      | ⟨0, _⟩ => rfl
      | ⟨1, _⟩ => rfl
      | ⟨2, _⟩ => rfl
    refine (Cert.ReferenceIdeal.Scan.result_apply m' c b t f).trans ?_
    unfold Cert.ReferenceIdeal.Scan.rU Cert.ReferenceIdeal.Scan.rW Cert.ReferenceIdeal.Scan.rQ Cert.ReferenceIdeal.Scan.rK
      Cert.ReferenceIdeal.Scan.rA Cert.ReferenceIdeal.Scan.rG Cert.ReferenceIdeal.Scan.rZ Cert.ReferenceIdeal.Scan.rN
    rw [h0, h1, h2, h3, h4, h5, h6, h7]
    rfl

end Cert.Scan

end
-- ==== Proof.ExpertRun.lean ====
/- The body of the expert matrices' kernel, run at a grid point: what it leaves in its two scratch buffers and in the
   output block, by whether the point is the first of its tile, whether the tile has an expert, and whether the point is
   the last of its tile. -/
module

public import proofs.«01_k».proof.Proof.Gen.Kernel2Ideal.Frame.Runs
public import Idealize.ShloMosaic.Lib.VecWindow

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The table's word at a grid point: the expert of the point's tile. -/
abbrev wordAt (c : Dev nD) (i : grid0.Coords) (T : TbBuf0 (F := F) c tbM0_0) : BitVec 32 :=
  tbM0_0.view.readAt (Elt F) (Rect.unit (s := S136) (k0_off1 i) S1.size (k0_off1_inb i)).toLoadRect T (Shape.Idx.first (numel1_S1.symm ▸ Nat.one_pos))

/-- The point is the first of its tile. -/
abbrev First (i : grid0.Coords) : Prop := Scalar.cmpi .eq (BitVec.ofNat 32 (i 1).val) 0#32 = 1#1
/-- The word names an expert. -/
abbrev Live (v : BitVec 32) : Prop := Scalar.cmpi .slt v 8#32 = 1#1

theorem bits0 : ∀ a b : BitVec 1, (Scalar.cmpi .ne (Scalar.extui (Scalar.andi a b) : BitVec 32) 0#32) = 1#1 ↔ a = 1#1 ∧ b = 1#1 := by decide
theorem bits1 : ∀ a b : BitVec 1, (Scalar.cmpi .ne (Scalar.extui (Scalar.andi a (Scalar.xori b 1#1)) : BitVec 32) 0#32) = 1#1 ↔ a = 1#1 ∧ ¬b = 1#1 := by decide
theorem bits2 : ∀ a b : BitVec 1, (Scalar.cmpi .ne (Scalar.extui (Scalar.andi (Scalar.xori a 1#1) b) : BitVec 32) 0#32) = 1#1 ↔ ¬a = 1#1 ∧ b = 1#1 := by decide

theorem cond0_iff (i : grid0.Coords) (v : BitVec 32) : cond0_0 i v ↔ First i ∧ Live v := bits0 _ _
theorem cond1_iff (i : grid0.Coords) (v : BitVec 32) : cond0_1 i v ↔ First i ∧ ¬Live v := bits1 _ _
theorem cond2_iff (i : grid0.Coords) (v : BitVec 32) : cond0_2 i v ↔ ¬First i ∧ Live v := bits2 _ _

/-- The token buffer after a point. -/
def newH (i : grid0.Coords) (v : BitVec 32) (x0 : Vec F S1024x8x128 .f32) (h : Vec F S1024x1024 .bf16) : Vec F S1024x1024 .bf16 :=
  if First i ∧ Live v then k0_pay2 x0 else h

/-- The accumulator after a point. -/
def newA (i : grid0.Coords) (v : BitVec 32) (x0 : Vec F S1024x8x128 .f32) (x1 x2 : Vec F S1x1024x512 .bf16) (x3 : Vec F S1x512x1024 .bf16)
    (h : Vec F S1024x1024 .bf16) (a : Vec F S1024x1024 .f32) : Vec F S1024x1024 .f32 :=
  if First i then (if Live v then k0_pay3 x0 x1 x2 x3 else k0_pay4) else (if Live v then k0_pay5 a h x1 x2 x3 else a)

/-- The output block after a point. -/
def newO (i : grid0.Coords) (o : Vec F S1024x8x128 .f32) (a : Vec F S1024x1024 .f32) : Vec F S1024x8x128 .f32 :=
  if cond0_3 i then k0_pay6 a else o

set_option maxHeartbeats 4000000 in
/-- First point of a tile that has an expert. -/
theorem run_first_live (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : cond0_0 i (wordAt c i T)) (hc1 : ¬cond0_1 i (wordAt c i T)) (hc2 : ¬cond0_2 i (wordAt c i T)) (hc3 : ¬cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare (k0_pay2 x0) ∗ owns (c : Thread nD τ) arg9 fullShare (k0_pay3 x0 x1 x2 x3) ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr
    swap; · iexact HS0
    ipureintro
    refine (View.read_writes_full (s := S1024x1024) _ _ _ _ []).trans ?_
    rw [View.readAt_full (s := S1024x8x128), hf0]
  isplitl [HS1]
  · iexists _; isplitr
    swap; · iexact HS1
    ipureintro
    refine (View.read_writes_full (s := S1024x1024) _ _ _ _ []).trans ?_
    rw [View.readAt_full (s := S1024x8x128), View.readAt_full (s := S1x1024x512), View.readAt_full (s := S1x1024x512), View.readAt_full (s := S1x512x1024), hf0, hf1, hf2, hf3]
  iexact HT0

set_option maxHeartbeats 4000000 in
/-- First point of a tile without an expert. -/
theorem run_first_dead (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : ¬cond0_0 i (wordAt c i T)) (hc1 : cond0_1 i (wordAt c i T)) (hc2 : ¬cond0_2 i (wordAt c i T)) (hc3 : ¬cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare k0_pay4 ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  isplitl [HS1]
  · iexists _; isplitr
    swap; · iexact HS1
    ipureintro
    refine (View.read_writes_full (s := S1024x1024) _ _ _ _ []).trans ?_
    rfl
  iexact HT0

set_option maxHeartbeats 4000000 in
/-- A later point, not the last, of a tile that has an expert. -/
theorem run_mid_live (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : ¬cond0_0 i (wordAt c i T)) (hc1 : ¬cond0_1 i (wordAt c i T)) (hc2 : cond0_2 i (wordAt c i T)) (hc3 : ¬cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare (k0_pay5 a h x1 x2 x3) ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  isplitl [HS1]
  · iexists _; isplitr
    swap; · iexact HS1
    ipureintro
    refine (View.read_writes_full (s := S1024x1024) _ _ _ _ []).trans ?_
    rw [View.readAt_full (s := S1024x1024), View.readAt_full (s := S1024x1024), View.readAt_full (s := S1x1024x512), View.readAt_full (s := S1x1024x512), View.readAt_full (s := S1x512x1024), hfs1, hfs0, hf1, hf2, hf3]
  iexact HT0

set_option maxHeartbeats 4000000 in
/-- A later point, not the last, of a tile without an expert. -/
theorem run_mid_dead (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : ¬cond0_0 i (wordAt c i T)) (hc1 : ¬cond0_1 i (wordAt c i T)) (hc2 : ¬cond0_2 i (wordAt c i T)) (hc3 : ¬cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; · ipureintro; exact harg8.read_unread _
    iexact HS0
  isplitl [HS1]
  · iexists _; isplitr; · ipureintro; exact harg9.read_unread _
    iexact HS1
  iexact HT0

set_option maxHeartbeats 4000000 in
/-- Last point of a tile that has an expert. -/
theorem run_last_live (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : ¬cond0_0 i (wordAt c i T)) (hc1 : ¬cond0_1 i (wordAt c i T)) (hc2 : cond0_2 i (wordAt c i T)) (hc3 : cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay6 (k0_pay5 a h x1 x2 x3)) ∗ owns (c : Thread nD τ) arg8 fullShare h ∗ owns (c : Thread nD τ) arg9 fullShare (k0_pay5 a h x1 x2 x3) ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full (s := S1024x8x128) _ _ _ _ []).trans ?_
    refine congrArg k0_pay6 ((View.readAt_full (s := S1024x1024) _ _ _).trans ((View.read_writes_full (s := S1024x1024) _ _ _ _ []).trans ?_))
    rw [View.readAt_full (s := S1024x1024), View.readAt_full (s := S1024x1024), View.readAt_full (s := S1x1024x512), View.readAt_full (s := S1x1024x512), View.readAt_full (s := S1x512x1024), hfs1, hfs0, hf1, hf2, hf3]
  isplitl [HS0]
  · iexists _; isplitr; · ipureintro; exact harg8.read_unread _
    iexact HS0
  isplitl [HS1]
  · iexists _; isplitr
    swap; · iexact HS1
    ipureintro
    refine (View.read_writes_full (s := S1024x1024) _ _ _ _ []).trans ?_
    rw [View.readAt_full (s := S1024x1024), View.readAt_full (s := S1024x1024), View.readAt_full (s := S1x1024x512), View.readAt_full (s := S1x1024x512), View.readAt_full (s := S1x512x1024), hfs1, hfs0, hf1, hf2, hf3]
  iexact HT0

set_option maxHeartbeats 4000000 in
/-- Last point of a tile without an expert. -/
theorem run_last_dead (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hc0 : ¬cond0_0 i (wordAt c i T)) (hc1 : ¬cond0_1 i (wordAt c i T)) (hc2 : ¬cond0_2 i (wordAt c i T)) (hc3 : cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay6 a) ∗ owns (c : Thread nD τ) arg8 fullShare h ∗ owns (c : Thread nD τ) arg9 fullShare a ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs0; obtain rfl := harg9.eq_unread hfs1
  sl_exec (disch := first | sl_exact hc0 | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full (s := S1024x8x128) _ _ _ _ []).trans ?_
    rw [View.readAt_full (s := S1024x1024), hfs1]
  isplitl [HS0]
  · iexists _; isplitr; · ipureintro; exact harg8.read_unread _
    iexact HS0
  isplitl [HS1]
  · iexists _; isplitr; · ipureintro; exact harg9.read_unread _
    iexact HS1
  iexact HT0

/-- The body at any grid point. -/
theorem run_point (c : Dev nD) (i : grid0.Coords) (arg3 : Memref sig .tc .vmem S1024x8x128 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1024x8x128 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x8x128 .f32) (x1 x2 : Vec F S1x1024x512 .bf16) (x3 : Vec F S1x512x1024 .bf16) (o : Vec F S1024x8x128 .f32) (h : Vec F S1024x1024 .bf16) (a : Vec F S1024x1024 .f32) (T : TbBuf0 (F := F) c tbM0_0)
    (hfl : First i → ¬cond0_3 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare h ∗ owns (c : Thread nD τ) arg9 fullShare a ∗ tbPt0 c tbM0_0 T
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (newO i o (newA i (wordAt c i T) x0 x1 x2 x3 h a)) ∗ owns (c : Thread nD τ) arg8 fullShare (newH i (wordAt c i T) x0 h) ∗ owns (c : Thread nD τ) arg9 fullShare (newA i (wordAt c i T) x0 x1 x2 x3 h a) ∗ tbPt0 c tbM0_0 T) -∗ K ⟨⟩))
      ⊢ wp frame (wpE (defs₀ (F := F)) Variants.none c none) E (cc0_moe_grouped_ffn i tbM0_0 htbM0_0 arg3 harg3 arg4 harg4 arg5 harg5 arg6 harg6 arg7 harg7 arg8 harg8 arg9 harg9) K := by
  by_cases hF : First i
  · have h3 := hfl hF
    by_cases hL : Live (wordAt c i T)
    · rw [show newH i (wordAt c i T) x0 h = k0_pay2 x0 from if_pos ⟨hF, hL⟩,
        show newA i (wordAt c i T) x0 x1 x2 x3 h a = k0_pay3 x0 x1 x2 x3 from (if_pos hF).trans (if_pos hL),
        show newO i o (k0_pay3 x0 x1 x2 x3) = o from if_neg h3]
      exact run_first_live c i arg3 harg3 arg4 harg4 arg5 harg5 arg6 harg6 arg7 harg7 arg8 harg8 arg9 harg9 x0 x1 x2 x3 o h a T ((cond0_iff _ _).mpr ⟨hF, hL⟩) (fun q => ((cond1_iff _ _).mp q).2 hL) (fun q => ((cond2_iff _ _).mp q).1 hF) h3 E K
    · rw [show newH i (wordAt c i T) x0 h = h from if_neg (fun q => hL q.2),
        show newA i (wordAt c i T) x0 x1 x2 x3 h a = k0_pay4 from (if_pos hF).trans (if_neg hL),
        show newO i o (k0_pay4) = o from if_neg h3]
      exact run_first_dead c i arg3 harg3 arg4 harg4 arg5 harg5 arg6 harg6 arg7 harg7 arg8 harg8 arg9 harg9 x0 x1 x2 x3 o h a T (fun q => hL ((cond0_iff _ _).mp q).2) ((cond1_iff _ _).mpr ⟨hF, hL⟩) (fun q => ((cond2_iff _ _).mp q).1 hF) h3 E K
  · by_cases hL : Live (wordAt c i T)
    · by_cases h3 : cond0_3 i
      · rw [show newH i (wordAt c i T) x0 h = h from if_neg (fun q => hF q.1),
          show newA i (wordAt c i T) x0 x1 x2 x3 h a = k0_pay5 a h x1 x2 x3 from (if_neg hF).trans (if_pos hL),
          show newO i o (k0_pay5 a h x1 x2 x3) = k0_pay6 (k0_pay5 a h x1 x2 x3) from if_pos h3]
        exact run_last_live c i arg3 harg3 arg4 harg4 arg5 harg5 arg6 harg6 arg7 harg7 arg8 harg8 arg9 harg9 x0 x1 x2 x3 o h a T (fun q => hF ((cond0_iff _ _).mp q).1) (fun q => hF ((cond1_iff _ _).mp q).1) ((cond2_iff _ _).mpr ⟨hF, hL⟩) h3 E K
      · rw [show newH i (wordAt c i T) x0 h = h from if_neg (fun q => hF q.1),
          show newA i (wordAt c i T) x0 x1 x2 x3 h a = k0_pay5 a h x1 x2 x3 from (if_neg hF).trans (if_pos hL),
          show newO i o (k0_pay5 a h x1 x2 x3) = o from if_neg h3]
        exact run_mid_live c i arg3 harg3 arg4 harg4 arg5 harg5 arg6 harg6 arg7 harg7 arg8 harg8 arg9 harg9 x0 x1 x2 x3 o h a T (fun q => hF ((cond0_iff _ _).mp q).1) (fun q => hF ((cond1_iff _ _).mp q).1) ((cond2_iff _ _).mpr ⟨hF, hL⟩) h3 E K
    · by_cases h3 : cond0_3 i
      · rw [show newH i (wordAt c i T) x0 h = h from if_neg (fun q => hF q.1),
          show newA i (wordAt c i T) x0 x1 x2 x3 h a = a from (if_neg hF).trans (if_neg hL),
          show newO i o (a) = k0_pay6 (a) from if_pos h3]
        exact run_last_dead c i arg3 harg3 arg4 harg4 arg5 harg5 arg6 harg6 arg7 harg7 arg8 harg8 arg9 harg9 x0 x1 x2 x3 o h a T (fun q => hF ((cond0_iff _ _).mp q).1) (fun q => hF ((cond1_iff _ _).mp q).1) (fun q => hL ((cond2_iff _ _).mp q).2) h3 E K
      · rw [show newH i (wordAt c i T) x0 h = h from if_neg (fun q => hF q.1),
          show newA i (wordAt c i T) x0 x1 x2 x3 h a = a from (if_neg hF).trans (if_neg hL),
          show newO i o (a) = o from if_neg h3]
        exact run_mid_dead c i arg3 harg3 arg4 harg4 arg5 harg5 arg6 harg6 arg7 harg7 arg8 harg8 arg9 harg9 x0 x1 x2 x3 o h a T (fun q => hF ((cond0_iff _ _).mp q).1) (fun q => hF ((cond1_iff _ _).mp q).1) (fun q => hL ((cond2_iff _ _).mp q).2) h3 E K

end Cert.Kernel2Ideal.Experts

end
-- ==== Proof.ExpertFrame.lean ====
/- The run of the expert matrices' pipeline: what the two scratch buffers hold between grid points, the body obligation
   at a generic point (over `run_point`), and the run of the whole program. -/
module

public import proofs.«01_k».proof.Proof.ExpertRun
public import Idealize.ShloMosaic.Lib.Claim

@[expose] public section

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: tile `t / 7`, block of features `t % 7` -/

theorem coord0 (t : Fin grid0.N) : (grid0.coords t 0).val = t.val / 7 := by
  have ht : t.val < 952 := Nat.lt_of_lt_of_eq t.isLt N_0
  have e0 : (grid0.coords t 0).val = t.val / 7 % 136 := Pipeline.Grid.coords_val t 0 (by decide) rfl
  omega
theorem coord1 (t : Fin grid0.N) : (grid0.coords t 1).val = t.val % 7 := by
  have e1 : (grid0.coords t 1).val = t.val / 1 % 7 := Pipeline.Grid.coords_val t 1 (by decide) rfl
  omega

theorem first_iff (t : Fin grid0.N) : First (grid0.coords t) ↔ t.val % 7 = 0 := by
  have ht : t.val < 952 := Nat.lt_of_lt_of_eq t.isLt N_0
  have e1 := coord1 t
  simp only [First, e1]
  word_cmp

/-- The expert's word of point `t`. -/
def word (t : Fin grid0.N) : BitVec 32 := wordAt (F := F) (0 : Dev nD) (grid0.coords t) (tbl m 0)

theorem word_at (c : Dev nD) (t : Fin grid0.N) : wordAt (F := F) c (grid0.coords t) (tbl m 0) = word m t := by
  obtain rfl : c = 0 := Subsingleton.elim _ _
  rfl

/-- The word of a point depends on its tile alone. -/
theorem word_tile (t t' : Fin grid0.N) (h : t.val / 7 = t'.val / 7) : word m t = word m t' := by
  have h0 : k0_off1 (grid0.coords t) = k0_off1 (grid0.coords t') := by
    unfold k0_off1
    rw [coord0, coord0, h]
  have key : ∀ (o o' : Fin 1 → Nat) (ho : ∀ a, o a + S1.size a ≤ S136.size a) (ho' : ∀ a, o' a + S1.size a ≤ S136.size a), o = o' →
      tbM0_0.view.readAt (Elt F) (Rect.unit (s := S136) o S1.size ho).toLoadRect (tbl m 0) (Shape.Idx.first (numel1_S1.symm ▸ Nat.one_pos))
        = tbM0_0.view.readAt (Elt F) (Rect.unit (s := S136) o' S1.size ho').toLoadRect (tbl m 0) (Shape.Idx.first (numel1_S1.symm ▸ Nat.one_pos)) := by
    intro o o' ho ho' e
    subst e
    rfl
  exact key _ _ _ _ h0

variable (hO : Ok m)

/-! ## What the scratch buffers hold -/

/-- The tile's tokens, rounded: what the token buffer holds at the points of a tile that has an expert. -/
def hAt (c : Dev nD) (t : Fin (cfgM m hO).N) : Vec F S1024x1024 .bf16 :=
  k0_pay2 (iblk m hO c 0 ⟨t.val - t.val % 7, Nat.lt_of_le_of_lt (Nat.sub_le _ _) t.isLt⟩)

/-- The accumulator after point `n`. -/
def accAt (c : Dev nD) : (n : ℕ) → n < (cfgM m hO).N → Vec F S1024x1024 .f32
  | 0, hn => if Live (word m ⟨0, hn⟩) then k0_pay3 (iblk m hO c 0 ⟨0, hn⟩) (iblk m hO c 1 ⟨0, hn⟩) (iblk m hO c 2 ⟨0, hn⟩) (iblk m hO c 3 ⟨0, hn⟩) else k0_pay4
  | n + 1, hn =>
    if (n + 1) % 7 = 0 then
      if Live (word m ⟨n + 1, hn⟩) then k0_pay3 (iblk m hO c 0 ⟨n + 1, hn⟩) (iblk m hO c 1 ⟨n + 1, hn⟩) (iblk m hO c 2 ⟨n + 1, hn⟩) (iblk m hO c 3 ⟨n + 1, hn⟩) else k0_pay4
    else
      if Live (word m ⟨n + 1, hn⟩) then
        k0_pay5 (accAt c n (Nat.lt_of_succ_lt hn)) (hAt m hO c ⟨n + 1, hn⟩) (iblk m hO c 1 ⟨n + 1, hn⟩) (iblk m hO c 2 ⟨n + 1, hn⟩) (iblk m hO c 3 ⟨n + 1, hn⟩)
      else accAt c n (Nat.lt_of_succ_lt hn)

theorem accAt_first (c : Dev nD) (t : Fin (cfgM m hO).N) (h0 : t.val % 7 = 0) :
    accAt m hO c t.val t.isLt = if Live (word m t) then k0_pay3 (iblk m hO c 0 t) (iblk m hO c 1 t) (iblk m hO c 2 t) (iblk m hO c 3 t) else k0_pay4 := by
  obtain ⟨n, hn⟩ := t
  cases n with
  | zero => rfl
  | succ n => exact if_pos h0

theorem accAt_next (c : Dev nD) (t : Fin (cfgM m hO).N) (h0 : ¬t.val % 7 = 0) :
    accAt m hO c t.val t.isLt = if Live (word m t) then k0_pay5 (accAt m hO c (t.val - 1) (Nat.lt_of_le_of_lt (Nat.sub_le _ _) t.isLt)) (hAt m hO c t) (iblk m hO c 1 t) (iblk m hO c 2 t) (iblk m hO c 3 t) else accAt m hO c (t.val - 1) (Nat.lt_of_le_of_lt (Nat.sub_le _ _) t.isLt) := by
  obtain ⟨n, hn⟩ := t
  cases n with
  | zero => exact absurd (Nat.zero_mod _) h0
  | succ n => exact if_neg h0

/-- What is known of the scratch buffers before point `n`: inside a tile the accumulator is at what the point before
    left, and the token buffer at the tile's tokens where the tile has an expert. -/
def Inv (c : Dev nD) (n : ℕ) (h : Vec F S1024x1024 .bf16) (a : Vec F S1024x1024 .f32) : Prop :=
  ∀ hn : n < (cfgM m hO).N, n % 7 ≠ 0 →
    a = accAt m hO c (n - 1) (Nat.lt_of_le_of_lt (Nat.sub_le _ _) hn) ∧ (Live (word m ⟨n, hn⟩) → h = hAt m hO c ⟨n, hn⟩)

/-- The accumulator a point leaves. -/
theorem newA_eq (c : Dev nD) (t : Fin (cfgM m hO).N) (h : Vec F S1024x1024 .bf16) (a : Vec F S1024x1024 .f32) (hi : Inv m hO c t.val h a) :
    newA (grid0.coords t) (word m t) (iblk m hO c 0 t) (iblk m hO c 1 t) (iblk m hO c 2 t) (iblk m hO c 3 t) h a = accAt m hO c t.val t.isLt := by
  unfold newA
  by_cases h0 : t.val % 7 = 0
  · rw [accAt_first m hO c t h0, if_pos ((first_iff t).mpr h0)]
  · rw [accAt_next m hO c t h0, if_neg (fun q => h0 ((first_iff t).mp q))]
    obtain ⟨ha, hh⟩ := hi t.isLt h0
    subst ha
    by_cases hL : Live (word m t)
    · rw [if_pos hL, if_pos hL, hh hL]
    · rw [if_neg hL, if_neg hL]

/-- What is known before a point is known before the next. -/
theorem inv_next (c : Dev nD) (t : Fin (cfgM m hO).N) (h : Vec F S1024x1024 .bf16) (a : Vec F S1024x1024 .f32) (hi : Inv m hO c t.val h a) :
    Inv m hO c (t.val + 1) (newH (grid0.coords t) (word m t) (iblk m hO c 0 t) h) (accAt m hO c t.val t.isLt) := by
  intro hn h1
  refine ⟨rfl, fun hL => ?_⟩
  have hw : word m ⟨t.val + 1, hn⟩ = word m t := word_tile m _ _ (by show (t.val + 1) / 7 = t.val / 7; omega)
  rw [hw] at hL
  have hv : (⟨t.val + 1 - (t.val + 1) % 7, Nat.lt_of_le_of_lt (Nat.sub_le _ _) hn⟩ : Fin (cfgM m hO).N) = ⟨t.val - t.val % 7, Nat.lt_of_le_of_lt (Nat.sub_le _ _) t.isLt⟩ :=
    Fin.ext (by show t.val + 1 - (t.val + 1) % 7 = t.val - t.val % 7; omega)
  have hs : hAt m hO c ⟨t.val + 1, hn⟩ = hAt m hO c t := congrArg (fun s => k0_pay2 (iblk m hO c 0 s)) hv
  rw [hs]
  unfold newH
  by_cases h0 : t.val % 7 = 0
  · rw [if_pos ⟨(first_iff t).mpr h0, hL⟩]
    unfold hAt
    exact congrArg (fun s => k0_pay2 (iblk m hO c 0 s)) (Fin.ext (by show t.val = t.val - t.val % 7; omega))
  · rw [if_neg (fun q => h0 ((first_iff t).mp q.1))]
    exact (hi t.isLt h0).2 hL

/-! ## The pipeline's proof data -/

/-- What is held before point `n`. -/
def PhiS (c : Dev nD) (n : ℕ) (_ : n ≤ (cfgM m hO).N) : sProp 𝕄 :=
  iprop((∃ h, ∃ a, ⌜Inv m hO c n h a⌝ ∗ owns (c : Thread nD τ) scM0_0 fullShare h ∗ owns (c : Thread nD τ) scM0_1 fullShare a) ∗ (∃ r, prngReg c r) ∗ tbPt0 c tbM0_0 (tbl m 0))

/-- The proof data of the pipeline: the arrays as found, each input block unchanged by the body, the output block at
    the accumulator in the output's layout. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => k0_pay6 (accAt m hO c t.val t.isLt)
  Φ t := PhiS m hO c t.val (Nat.le_of_lt_succ t.isLt)
  q _ := fullShare
  owed _ := 0

/-- The proof data's arrays are the region-entry contents. -/
theorem A_eq (c : Dev nD) (w : Fin (cfgM m hO).W) : (dats m hO 0 c).A w = V m c (Pipeline.arrRef spec0 w) := by
  dsimp only [dats]

theorem PhiS_castSucc (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (c : Dev nD) (t : Fin (cfgM m hO).N) : (dats m hO 0 c).after 0 t = iblk m hO c 0 t := by dsimp only [dats]; rfl
theorem after0_1 (c : Dev nD) (t : Fin (cfgM m hO).N) : (dats m hO 0 c).after 1 t = iblk m hO c 1 t := by dsimp only [dats]; rfl
theorem after0_2 (c : Dev nD) (t : Fin (cfgM m hO).N) : (dats m hO 0 c).after 2 t = iblk m hO c 2 t := by dsimp only [dats]; rfl
theorem after0_3 (c : Dev nD) (t : Fin (cfgM m hO).N) : (dats m hO 0 c).after 3 t = iblk m hO c 3 t := by dsimp only [dats]; rfl
theorem after0_4 (c : Dev nD) (t : Fin (cfgM m hO).N) : (dats m hO 0 c).after 4 t = k0_pay6 (accAt m hO c t.val t.isLt) := by dsimp only [dats]; rfl

theorem before0_0 (c : Dev nD) (t : Fin (cfgM m hO).N) (d) : (dats m hO 0 c).before 0 t d = iblk m hO c 0 t :=
  before0_0_of m hO (dats m hO 0 c) (A_eq m hO c 0) (after0_0 m hO c) t d
theorem before0_1 (c : Dev nD) (t : Fin (cfgM m hO).N) (d) : (dats m hO 0 c).before 1 t d = iblk m hO c 1 t :=
  before0_1_of m hO (dats m hO 0 c) (A_eq m hO c 1) (after0_1 m hO c) t d
theorem before0_2 (c : Dev nD) (t : Fin (cfgM m hO).N) (d) : (dats m hO 0 c).before 2 t d = iblk m hO c 2 t :=
  before0_2_of m hO (dats m hO 0 c) (A_eq m hO c 2) (after0_2 m hO c) t d
theorem before0_3 (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves0 (c : Dev nD) (t : Fin (cfgM m hO).N) : (dats m hO 0 c).leavesExact 0 t = owns (c : Thread nD τ) (ms0_0 m hO t) fullShare (iblk m hO c 0 t) := by
  unfold Dat.leavesExact; rw [liveAt0_0 m hO t, after0_0]; try rfl
theorem leaves1 (c : Dev nD) (t : Fin (cfgM m hO).N) : (dats m hO 0 c).leavesExact 1 t = owns (c : Thread nD τ) (ms0_1 m hO t) fullShare (iblk m hO c 1 t) := by
  unfold Dat.leavesExact; rw [liveAt0_1 m hO t, after0_1]; try rfl
theorem leaves2 (c : Dev nD) (t : Fin (cfgM m hO).N) : (dats m hO 0 c).leavesExact 2 t = owns (c : Thread nD τ) (ms0_2 m hO t) fullShare (iblk m hO c 2 t) := by
  unfold Dat.leavesExact; rw [liveAt0_2 m hO t, after0_2]; try rfl
theorem leaves3 (c : Dev nD) (t : Fin (cfgM m hO).N) : (dats m hO 0 c).leavesExact 3 t = owns (c : Thread nD τ) (ms0_3 m hO t) fullShare (iblk m hO c 3 t) := by
  unfold Dat.leavesExact; rw [liveAt0_3 m hO t, after0_3]; try rfl

/-- The output block a point leaves is what the pipeline is told of it. -/
theorem leaves4 (c : Dev nD) (t : Fin (cfgM m hO).N) (d) :
    (owns (c : Thread nD τ) (ms0_4 m hO t) fullShare (newO (grid0.coords t) ((dats m hO 0 c).before 4 t d) (accAt m hO c t.val t.isLt)) : sProp 𝕄) ⊢ (dats m hO 0 c).leavesExact 4 t := by
  by_cases h3 : cond0_3 (grid0.coords t)
  · rw [show (dats m hO 0 c).leavesExact 4 t = owns (c : Thread nD τ) (ms0_4 m hO t) fullShare (k0_pay6 (accAt m hO c t.val t.isLt)) from by
      unfold Dat.leavesExact; rw [liveAt0_4_I m hO t h3, after0_4]; try rfl]
    rw [show newO (grid0.coords t) ((dats m hO 0 c).before 4 t d) (accAt m hO c t.val t.isLt) = k0_pay6 (accAt m hO c t.val t.isLt) from if_pos h3]
  · rw [Dat.leavesExact_idle (dats m hO 0 c) 4 t (idleAt0_4_A m hO t h3) (noFlush0_4_A m hO t h3)]
    rw [show newO (grid0.coords t) ((dats m hO 0 c).before 4 t d) (accAt m hO c t.val t.isLt) = (dats m hO 0 c).before 4 t d from if_neg h3]
    iintro H
    iexists d; iexact H

theorem first_not_last (t : Fin grid0.N) (h : First (grid0.coords t)) : ¬cond0_3 (grid0.coords t) := fun h3 => by
  have h0 := (first_iff t).mp h
  have h6 := (hcond0_3 t).mp h3
  omega

set_option maxHeartbeats 8000000 in
/-- The body at any point takes what it is called with to what it returns. -/
theorem sound_body (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl, leaves0, leaves1, leaves2, leaves3]
  rw [show (dats m hO 0 c).Φ t.succ = PhiS m hO c (t.val + 1) t.isLt from rfl, PhiS_castSucc m hO c t]
  unfold PhiS
  iintro ⟨⟨⟨%h, %a, %hi, HS0, HS1⟩, Hg, HT⟩, Ho, ⟨%d0, H0⟩, ⟨%d1, H1⟩, ⟨%d2, H2⟩, ⟨%d3, H3⟩, ⟨%d4, H4⟩⟩
  have hA := newA_eq m hO c t h a hi
  have hI := inv_next m hO c t h a hi
  iapply (run_point c (grid0.coords t) _ _ _ _ _ _ _ _ _ _ _ _ _ _ (iblk m hO c 0 t) (iblk m hO c 1 t) (iblk m hO c 2 t) (iblk m hO c 3 t) _ h a (tbl m 0) (first_not_last t) Set.univ _)
  rw [word_at, hA]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT]; · iexact HT
  iintro ⟨H0, H1, H2, H3, H4, HS0, HS1, HT⟩
  isplitl [HS0 HS1 Hg HT]
  · isplitl [HS0 HS1]
    · iexists _; iexists _
      isplitr; · ipureintro; exact hI
      isplitl [HS0]; · iexact HS0
      iexact HS1
    isplitl [Hg]; · iexact Hg
    iexact HT
  isplitl [Ho]; · iexact Ho
  isplitl [H0]; · iexact H0
  isplitl [H1]; · iexact H1
  isplitl [H2]; · iexact H2
  isplitl [H3]; · iexact H3
  iapply (leaves4 m hO c t d4)
  iexact H4

/-- The body table's row at point `t`'s slots is the body as `bodyAt0` spells it. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA0_eq, PhiT0_eq]
  unfold PhiS
  iintro ⟨⟨⟨⟨%h, HS0⟩, ⟨%a, HS1⟩⟩, Hg⟩, HT⟩
  isplitl [HS0 HS1]
  · iexists h; iexists a
    isplitr; · ipureintro; exact fun _ h0 => absurd (Nat.zero_mod 7) h0
    isplitl [HS0]; · iexact HS0
    iexact HS1
  isplitl [Hg]; · iexact Hg
  iexact HT

/-- After the last point the invariant gives the scratch buffers back at some contents. -/
theorem hout (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl, PhiA0_eq]
  unfold PhiS
  iintro ⟨⟨%h, %a, -, HS0, HS1⟩, Hg, -⟩
  isplitl [HS0 HS1]
  · isplitl [HS0]
    · iexists _; iexact HS0
    iexists _; iexact HS1
  iexact Hg

/-! ## The run and the frame -/

set_option backward.isDefEq.respectTransparency.types false in
/-- The run of the program, and every semaphore counter at zero at every final state. -/
theorem run_main_quiescent : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run of the program. -/
theorem run_main : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The program terminates with its arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Experts

end
-- ==== Proof.ExpertOk.lean ====
/- The block indices the expert words give: inside the arrays where no word is negative. -/
module

public import proofs.«01_k».proof.Proof.ExpertFrame
public import proofs.«01_k».proof.Proof.Gen.Pre_experts_exist
public import Idealize.ShloMosaic.Lib.ReduceAll
public import Idealize.ShloMosaic.Lib.Pointwise

@[expose] public section

noncomputable section

namespace Cert.Kernel2Ideal.Experts

open Idealize.ShloMosaic Idealize.ShloMosaic.TcCoe
open Cert.Kernel2Ideal Cert.Kernel2Ideal.Gen

/-- The precondition, word by word. -/
theorem words_of_pre {F : FTy → Type} [FloatOps F] (x : FVec F S139264x8x128 .f32) (w : IVec S136 32) (g u : FVec F S8x1024x3584 .f32) (d : FVec F S8x3584x1024 .f32)
    (h : Cert.Pre_experts_exist.fn (F := F) x w g u d = fun _ => 1#1) (p : Fin 136) : 0 ≤ (w (ix1 p)).toInt := by
  have h1 := congrFun h (Shape.Idx.first Cert.Pre_experts_exist.Gen.h_S_)
  unfold Cert.Pre_experts_exist.fn at h1
  have : Subsingleton Cert.Pre_experts_exist.S_.Idx := ⟨fun a b => funext fun i => i.elim0⟩
  have h2 := Host.reduce_andi_all _ _ _ _ _ h1 (ix1 p)
  have h3 : IntOp.cmpi .sge (w (ix1 p)) 0#32 = 1#1 := h2
  by_contra hn
  have hs : (0#32 : BitVec 32).sle (w (ix1 p)) = false := by
    simp only [BitVec.sle, decide_eq_false_iff_not]
    exact hn
  simp [IntOp.cmpi, hs] at h3

variable {F : FTy → Type} [FloatOps F]

/-- A word that is not negative, cut off at the last expert. -/
theorem min_word (v : BitVec 32) (h : 0 ≤ v.toInt) : (Scalar.minsi v 7#32).toNat = min v.toNat 7 := by
  have h2 : v.toNat < 2147483648 := by
    by_contra hn
    have := BitVec.toInt_eq_toNat_cond v
    rw [if_neg (by omega)] at this
    have := v.isLt
    omega
  have hi : v.toInt = v.toNat := by
    have := BitVec.toInt_eq_toNat_cond v
    rwa [if_pos (by omega)] at this
  show (IntOp.minsi v 7#32).toNat = _
  unfold IntOp.minsi
  have h7 : (7#32 : BitVec 32).toInt = 7 := rfl
  have h7' : (7#32 : BitVec 32).toNat = 7 := rfl
  split
  · rename_i hs
    simp only [BitVec.slt, decide_eq_true_eq] at hs
    omega
  · rename_i hs
    simp only [BitVec.slt, decide_eq_true_eq] at hs
    omega

/-- A word that is not negative names an expert where it is below their number. -/
theorem live_iff (v : BitVec 32) (h : 0 ≤ v.toInt) : Live v ↔ v.toNat < 8 := by
  have h2 : v.toNat < 2147483648 := by
    by_contra hn
    have := BitVec.toInt_eq_toNat_cond v
    rw [if_neg (by omega)] at this
    have := v.isLt
    omega
  have hi : v.toInt = v.toNat := by
    have := BitVec.toInt_eq_toNat_cond v
    rwa [if_pos (by omega)] at this
  have h8 : (8#32 : BitVec 32).toInt = 8 := rfl
  have hs : v.slt 8#32 = decide (v.toNat < 8) := by
    simp only [BitVec.slt, h8, hi]
    exact decide_eq_decide.mpr (by omega)
  unfold Live
  show IntOp.cmpi .slt v 8#32 = 1#1 ↔ _
  simp only [IntOp.cmpi, hs]
  by_cases q : v.toNat < 8
  · simp [q]
  · simp [q]

variable (m : (ℓ : Loc nD τ sig) → Buf (Elt F) ℓ)

/-- The word of a tile, in the argument. -/
def tileWord (p : Fin 136) : BitVec 32 := (m (((0 : Dev nD) : Thread nD τ).loc main_arg1) : IVec S136 32) (ix1 p)

theorem tbl_at (p : Fin 136) : (tbl m 0 : IVec S136 32) (ix1 p) = tileWord m p :=
  congrFun (V_main_arg1 m 0) (ix1 p)

theorem off1_coords (i : grid0.Coords) : k0_off1 i = ![(i 0).val] := by
  have h : (i 0).val < 136 := (i 0).isLt
  funext a
  match a with
  | ⟨0, _⟩ =>
    show (i 0).val % 2 ^ 32 = (i 0).val
    omega

/-- The element of the table at the tile of a grid point. -/
theorem at_coords (i : grid0.Coords) (o : Fin 1 → Nat) (e : o = ![(i 0).val]) (ho : ∀ a, o a + S1.size a ≤ S136.size a) :
    (tbl m).at 0 (Rect.unit (s := S136) o S1.size ho) numel1_S1 = tileWord m (i 0) := by
  subst e
  refine Eq.trans ?_ (tbl_at m (i 0))
  refine congrArg (tbl m 0 : IVec S136 32) (funext fun a => Fin.ext ?_)
  match a with
  | ⟨0, _⟩ => rfl

theorem word_eq (t : Fin grid0.N) : word m t = tileWord m (grid0.coords t 0) :=
  at_coords m (grid0.coords t) _ (off1_coords _) _

/-- The block indices of the three matrices' windows. -/
theorem index1 (i : grid0.Coords) (h : 0 ≤ (tileWord m (i 0)).toInt) :
    cc0_transform_1 k0_off1_inb numel1_S1 (tbl m) i = ![min (tileWord m (i 0)).toNat 7, 0, (i 1).val] := by
  have h1 : (i 1).val < 7 := (i 1).isLt
  have hw := at_coords m i _ (off1_coords i) (k0_off1_inb i)
  unfold cc0_transform_1
  funext a
  match a with
  | ⟨0, _⟩ =>
    refine Eq.trans ?_ (min_word _ h)
    rw [← hw]
    rfl
  | ⟨1, _⟩ => rfl
  | ⟨2, _⟩ => show (i 1).val % 2 ^ 32 = (i 1).val; omega

theorem index2 (i : grid0.Coords) (h : 0 ≤ (tileWord m (i 0)).toInt) :
    cc0_transform_2 k0_off1_inb numel1_S1 (tbl m) i = ![min (tileWord m (i 0)).toNat 7, 0, (i 1).val] := by
  have h1 : (i 1).val < 7 := (i 1).isLt
  have hw := at_coords m i _ (off1_coords i) (k0_off1_inb i)
  unfold cc0_transform_2
  funext a
  match a with
  | ⟨0, _⟩ =>
    refine Eq.trans ?_ (min_word _ h)
    rw [← hw]
    rfl
  | ⟨1, _⟩ => rfl
  | ⟨2, _⟩ => show (i 1).val % 2 ^ 32 = (i 1).val; omega

theorem index3 (i : grid0.Coords) (h : 0 ≤ (tileWord m (i 0)).toInt) :
    cc0_transform_3 k0_off1_inb numel1_S1 (tbl m) i = ![min (tileWord m (i 0)).toNat 7, (i 1).val, 0] := by
  have h1 : (i 1).val < 7 := (i 1).isLt
  have hw := at_coords m i _ (off1_coords i) (k0_off1_inb i)
  unfold cc0_transform_3
  funext a
  match a with
  | ⟨0, _⟩ =>
    refine Eq.trans ?_ (min_word _ h)
    rw [← hw]
    rfl
  | ⟨1, _⟩ => show (i 1).val % 2 ^ 32 = (i 1).val; omega
  | ⟨2, _⟩ => rfl

/-- The side condition of the prefetched words. -/
theorem ok_of_words (h : ∀ p : Fin 136, 0 ≤ (tileWord m p).toInt) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h1 : (i 1).val < 7 := (i 1).isLt
    rw [index1 m i (h _)]
    match a with
    | ⟨0, _⟩ => show (min (tileWord m (i 0)).toNat 7 + 1) * 1 ≤ 8; omega
    | ⟨1, _⟩ => show (0 + 1) * 1024 ≤ 1024; omega
    | ⟨2, _⟩ => show ((i 1).val + 1) * 512 ≤ 3584; omega
  · have h1 : (i 1).val < 7 := (i 1).isLt
    rw [index2 m i (h _)]
    match a with
    | ⟨0, _⟩ => show (min (tileWord m (i 0)).toNat 7 + 1) * 1 ≤ 8; omega
    | ⟨1, _⟩ => show (0 + 1) * 1024 ≤ 1024; omega
    | ⟨2, _⟩ => show ((i 1).val + 1) * 512 ≤ 3584; omega
  · have h1 : (i 1).val < 7 := (i 1).isLt
    rw [index3 m i (h _)]
    match a with
    | ⟨0, _⟩ => show (min (tileWord m (i 0)).toNat 7 + 1) * 1 ≤ 8; omega
    | ⟨1, _⟩ => show ((i 1).val + 1) * 512 ≤ 3584; omega
    | ⟨2, _⟩ => show (0 + 1) * 1024 ≤ 1024; omega

end Cert.Kernel2Ideal.Experts

end
-- ==== Proof.ExpertModel.lean ====
/- The expert layer as entries over the reals: one expert's gated feed-forward of a row. -/
module

public import Idealize.ShloMosaic.Lib.Pointwise

@[expose] public section

noncomputable section

namespace Cert.Experts

open Idealize.ShloMosaic

/-- A feature of a row: the gate's activation times the up-projection. -/
def feat (x g u : Fin 1024 → EReal) : EReal :=
  (∑ k, x k * g k) * Ideal.logistic (∑ k, x k * g k) * ∑ k, x k * u k

/-- One expert on a row: the features through the down-projection. -/
def expertRow (x : Fin 1024 → EReal) (g u : Fin 1024 → Fin 3584 → EReal) (d : Fin 3584 → EReal) : EReal :=
  ∑ f, feat x (fun k => g k f) (fun k => u k f) * d f

/-- The layer's result for token slot `r`: its tile's expert on its row, zero where the tile's word names none. -/
def layer (x : Fin 139264 → Fin 8 → Fin 128 → EReal) (t : Fin 136 → BitVec 32) (g u : Fin 8 → Fin 1024 → Fin 3584 → EReal)
    (d : Fin 8 → Fin 3584 → Fin 1024 → EReal) (r : Fin 139264) (h : Fin 8) (l : Fin 128) : EReal :=
  if (t ⟨r.val / 1024, by omega⟩).toNat < 8 then
    expertRow (fun k => x r ⟨k.val / 128, by omega⟩ ⟨k.val % 128, by omega⟩) (g (Fin.ofNat 8 (t ⟨r.val / 1024, by omega⟩).toNat))
      (u (Fin.ofNat 8 (t ⟨r.val / 1024, by omega⟩).toNat)) (fun f => d (Fin.ofNat 8 (t ⟨r.val / 1024, by omega⟩).toNat) f ⟨h.val * 128 + l.val, by omega⟩)
  else 0

/-- A sum over the experts of which a one-hot weight leaves one. -/
theorem sum_one_hot (w : BitVec 32) (f : Fin 8 → EReal) (c : Fin 8 → EReal) (hc : ∀ e : Fin 8, c e = if w = BitVec.ofNat 32 e.val then 1 else 0) :
    0 + c 0 * f 0 + c 1 * f 1 + c 2 * f 2 + c 3 * f 3 + c 4 * f 4 + c 5 * f 5 + c 6 * f 6 + c 7 * f 7
      = if w.toNat < 8 then f (Fin.ofNat 8 w.toNat) else 0 := by
  by_cases h : w.toNat < 8
  · rw [if_pos h]
    have hw : ∀ e : Fin 8, (w = BitVec.ofNat 32 e.val) ↔ e = Fin.ofNat 8 w.toNat := by
      intro e
      have he := e.isLt
      rw [← BitVec.toNat_inj, BitVec.toNat_ofNat, Fin.ext_iff, Fin.val_ofNat]
      omega
    generalize Fin.ofNat 8 w.toNat = k at hw ⊢
    simp only [hc, hw]
    fin_cases k <;> simp
  · rw [if_neg h]
    have hw : ∀ e : Fin 8, ¬(w = BitVec.ofNat 32 e.val) := by
      intro e
      have he := e.isLt
      rw [← BitVec.toNat_inj, BitVec.toNat_ofNat]
      omega
    simp only [hc, hw, if_false, zero_mul, add_zero]

/-- The term of feature `n` of an expert's row. -/
def term (x : Fin 1024 → EReal) (g u : Fin 1024 → Fin 3584 → EReal) (d : Fin 3584 → EReal) (n : ℕ) : EReal :=
  feat x (fun k => g k (Fin.ofNat 3584 n)) (fun k => u k (Fin.ofNat 3584 n)) * d (Fin.ofNat 3584 n)

/-- The terms of the blocks of features up to the last make the expert's row. -/
theorem sum_terms (x : Fin 1024 → EReal) (g u : Fin 1024 → Fin 3584 → EReal) (d : Fin 3584 → EReal) :
    ∑ n ∈ Finset.range 3584, term x g u d n = expertRow x g u d := by
  rw [Finset.sum_range]
  unfold expertRow term
  refine Finset.sum_congr rfl fun f _ => ?_
  rw [show Fin.ofNat 3584 f.val = f from Fin.ext (Nat.mod_eq_of_lt f.isLt)]

/-- The terms of one more block. -/
theorem sum_block (f : ℕ → EReal) (j : ℕ) :
    ∑ n ∈ Finset.range (512 * (j + 1)), f n = ∑ n ∈ Finset.range (512 * j), f n + ∑ k : Fin 512, f (512 * j + k.val) := by
  rw [Nat.mul_succ, Finset.sum_range_add, Finset.sum_range (fun x => f (512 * j + x))]

end Cert.Experts

end
-- ==== Proof.ExpertBlocks.lean ====
/- The expert pipeline's blocks and payloads read at an index over the reals. -/
module

public import proofs.«01_k».proof.Proof.ExpertOk
public import proofs.«01_k».proof.Proof.ExpertModel
public import Idealize.ShloMosaic.Lib.Pointwise
public import Idealize.ShloMosaic.Lib.Tactic.CleanTypes

@[expose] public section

noncomputable section

namespace Cert.Kernel2Ideal.Experts

open Idealize.ShloMosaic Idealize.ShloMosaic.TcCoe
open Cert.Kernel2Ideal Cert.Kernel2Ideal.Gen Cert.Experts

/-! ## The payloads -/

theorem pay2_apply (x : FVec Ideal S1024x8x128 .f32) (q k : Fin 1024) :
    (k0_pay2 x : FVec Ideal S1024x1024 .bf16) (ix2 q k) = x (ix3 q (⟨k.val / 128, by omega⟩ : Fin 8) (⟨k.val % 128, by omega⟩ : Fin 128)) := by
  pointwise [k0_pay2, k0_pay1]

theorem pay3_apply (x : FVec Ideal S1024x8x128 .f32) (g u : FVec Ideal S1x1024x512 .bf16) (d : FVec Ideal S1x512x1024 .bf16) (q e : Fin 1024) :
    (k0_pay3 x g u d : FVec Ideal S1024x1024 .f32) (ix2 q e) =
      ∑ f : Fin 512, feat (fun k => x (ix3 q (⟨k.val / 128, by omega⟩ : Fin 8) (⟨k.val % 128, by omega⟩ : Fin 128))) (fun k => g (ix3 0 k f)) (fun k => u (ix3 0 k f)) * d (ix3 0 f e) := by
  pointwise [k0_pay3, k0_pay1]
  rfl

theorem pay4_apply (q e : Fin 1024) : (k0_pay4 (F := Ideal) : FVec Ideal S1024x1024 .f32) (ix2 q e) = (0 : EReal) := by
  pointwise [k0_pay4]

theorem pay5_apply (a : FVec Ideal S1024x1024 .f32) (x : FVec Ideal S1024x1024 .bf16) (g u : FVec Ideal S1x1024x512 .bf16) (d : FVec Ideal S1x512x1024 .bf16) (q e : Fin 1024) :
    (k0_pay5 a x g u d : FVec Ideal S1024x1024 .f32) (ix2 q e) =
      HAdd.hAdd (α := EReal) (β := EReal) (a (ix2 q e)) (∑ f : Fin 512, feat (fun k => x (ix2 q k)) (fun k => g (ix3 0 k f)) (fun k => u (ix3 0 k f)) * d (ix3 0 f e)) := by
  pointwise [k0_pay5]
  rfl

theorem pay6_apply (a : FVec Ideal S1024x1024 .f32) (q : Fin 1024) (h : Fin 8) (l : Fin 128) :
    (k0_pay6 a : FVec Ideal S1024x8x128 .f32) (ix3 q h l) = a (ix2 q (⟨h.val * 128 + l.val, by omega⟩ : Fin 1024)) := by
  pointwise [k0_pay6]

/-! ## The arguments -/

variable (m : (ℓ : Loc nD τ sig) → Buf (Elt Ideal) ℓ) (hO : Ok m) (c : Dev nD)

def aX (r : Fin 139264) (h : Fin 8) (l : Fin 128) : EReal := (m ((c : Thread nD τ).loc main_arg0) : S139264x8x128.Idx → EReal) (ix3 r h l)
def aG (e : Fin 8) (k : Fin 1024) (f : Fin 3584) : EReal := (m ((c : Thread nD τ).loc main_arg2) : S8x1024x3584.Idx → EReal) (ix3 e k f)
def aU (e : Fin 8) (k : Fin 1024) (f : Fin 3584) : EReal := (m ((c : Thread nD τ).loc main_arg3) : S8x1024x3584.Idx → EReal) (ix3 e k f)
def aD (e : Fin 8) (f : Fin 3584) (d : Fin 1024) : EReal := (m ((c : Thread nD τ).loc main_arg4) : S8x3584x1024.Idx → EReal) (ix3 e f d)

/-! ## The blocks -/

theorem iblk0 (t : Fin (cfgM m hO).N) (q : Fin 1024) (h : Fin 8) (l : Fin 128) :
    (iblk m hO c 0 t : S1024x8x128.Idx → EReal) (ix3 q h l) = aX m c (Fin.ofNat 139264 (1024 * (t.val / 7) + q.val)) h l := by
  have hN : t.val < 952 := Nat.lt_of_lt_of_eq t.isLt N_0
  have hc := coord0 t
  have hb : (((cfgM m hO).win 0).blk t).view.emb (ix3 q h l) = ix3 (n0 := 139264) (n1 := 8) (n2 := 128)
      (Fin.ofNat 139264 (1024 * (t.val / 7) + q.val)) h l := by
    funext a
    apply Fin.ext
    match a with
    | ⟨0, _⟩ =>
      show ((grid0.coords t 0).val % 2 ^ 32) * 1024 + 1 * q.val = (1024 * (t.val / 7) + q.val) % 139264
      omega
    | ⟨1, _⟩ => show 0 * 8 + 1 * h.val = h.val; omega
    | ⟨2, _⟩ => show 0 * 128 + 1 * l.val = l.val; omega
  show V m c (Pipeline.arrRef spec0 0) ((((cfgM m hO).win 0).blk t).view.emb (ix3 q h l)) = _
  rw [hb]
  show V m c main_arg0 _ = _
  rw [V_main_arg0]
  rfl

variable (hw : ∀ p : Fin 136, 0 ≤ (tileWord m p).toInt)
include hw

theorem iblk1 (t : Fin (cfgM m hO).N) (k : Fin 1024) (f : Fin 512) :
    (iblk m hO c 1 t : S1x1024x512.Idx → EReal) (ix3 0 k f) =
      aG m c (Fin.ofNat 8 (min (tileWord m (grid0.coords t 0)).toNat 7)) k (Fin.ofNat 3584 (512 * (t.val % 7) + f.val)) := by
  have hN : t.val < 952 := Nat.lt_of_lt_of_eq t.isLt N_0
  have hc := coord1 t
  have hi := index1 m (grid0.coords t) (hw _)
  have hb : (((cfgM m hO).win 1).blk t).view.emb (ix3 0 k f) = ix3 (n0 := 8) (n1 := 1024) (n2 := 3584)
      (Fin.ofNat 8 (min (tileWord m (grid0.coords t 0)).toNat 7)) k (Fin.ofNat 3584 (512 * (t.val % 7) + f.val)) := by
    funext a
    apply Fin.ext
    match a with
    | ⟨0, _⟩ =>
      show cc0_transform_1 k0_off1_inb numel1_S1 (tbl m) (grid0.coords t) 0 * 1 + 1 * 0 = min (tileWord m (grid0.coords t 0)).toNat 7 % 8
      rw [hi]
      show min (tileWord m (grid0.coords t 0)).toNat 7 * 1 + 1 * 0 = _
      omega
    | ⟨1, _⟩ =>
      show cc0_transform_1 k0_off1_inb numel1_S1 (tbl m) (grid0.coords t) 1 * 1024 + 1 * k.val = k.val
      rw [hi]
      show 0 * 1024 + 1 * k.val = _
      omega
    | ⟨2, _⟩ =>
      show cc0_transform_1 k0_off1_inb numel1_S1 (tbl m) (grid0.coords t) 2 * 512 + 1 * f.val = (512 * (t.val % 7) + f.val) % 3584
      rw [hi]
      show (grid0.coords t 1).val * 512 + 1 * f.val = _
      omega
  show V m c (Pipeline.arrRef spec0 1) ((((cfgM m hO).win 1).blk t).view.emb (ix3 0 k f)) = _
  rw [hb]
  show V m c main_v0 _ = _
  entry_read
  pointwise []
  rfl

theorem iblk2 (t : Fin (cfgM m hO).N) (k : Fin 1024) (f : Fin 512) :
    (iblk m hO c 2 t : S1x1024x512.Idx → EReal) (ix3 0 k f) =
      aU m c (Fin.ofNat 8 (min (tileWord m (grid0.coords t 0)).toNat 7)) k (Fin.ofNat 3584 (512 * (t.val % 7) + f.val)) := by
  have hN : t.val < 952 := Nat.lt_of_lt_of_eq t.isLt N_0
  have hc := coord1 t
  have hi := index2 m (grid0.coords t) (hw _)
  have hb : (((cfgM m hO).win 2).blk t).view.emb (ix3 0 k f) = ix3 (n0 := 8) (n1 := 1024) (n2 := 3584)
      (Fin.ofNat 8 (min (tileWord m (grid0.coords t 0)).toNat 7)) k (Fin.ofNat 3584 (512 * (t.val % 7) + f.val)) := by
    funext a
    apply Fin.ext
    match a with
    | ⟨0, _⟩ =>
      show cc0_transform_2 k0_off1_inb numel1_S1 (tbl m) (grid0.coords t) 0 * 1 + 1 * 0 = min (tileWord m (grid0.coords t 0)).toNat 7 % 8
      rw [hi]
      show min (tileWord m (grid0.coords t 0)).toNat 7 * 1 + 1 * 0 = _
      omega
    | ⟨1, _⟩ =>
      show cc0_transform_2 k0_off1_inb numel1_S1 (tbl m) (grid0.coords t) 1 * 1024 + 1 * k.val = k.val
      rw [hi]
      show 0 * 1024 + 1 * k.val = _
      omega
    | ⟨2, _⟩ =>
      show cc0_transform_2 k0_off1_inb numel1_S1 (tbl m) (grid0.coords t) 2 * 512 + 1 * f.val = (512 * (t.val % 7) + f.val) % 3584
      rw [hi]
      show (grid0.coords t 1).val * 512 + 1 * f.val = _
      omega
  show V m c (Pipeline.arrRef spec0 2) ((((cfgM m hO).win 2).blk t).view.emb (ix3 0 k f)) = _
  rw [hb]
  show V m c main_v1 _ = _
  entry_read
  pointwise []
  rfl

theorem iblk3 (t : Fin (cfgM m hO).N) (f : Fin 512) (d : Fin 1024) :
    (iblk m hO c 3 t : S1x512x1024.Idx → EReal) (ix3 0 f d) =
      aD m c (Fin.ofNat 8 (min (tileWord m (grid0.coords t 0)).toNat 7)) (Fin.ofNat 3584 (512 * (t.val % 7) + f.val)) d := by
  have hN : t.val < 952 := Nat.lt_of_lt_of_eq t.isLt N_0
  have hc := coord1 t
  have hi := index3 m (grid0.coords t) (hw _)
  have hb : (((cfgM m hO).win 3).blk t).view.emb (ix3 0 f d) = ix3 (n0 := 8) (n1 := 3584) (n2 := 1024)
      (Fin.ofNat 8 (min (tileWord m (grid0.coords t 0)).toNat 7)) (Fin.ofNat 3584 (512 * (t.val % 7) + f.val)) d := by
    funext a
    apply Fin.ext
    match a with
    | ⟨0, _⟩ =>
      show cc0_transform_3 k0_off1_inb numel1_S1 (tbl m) (grid0.coords t) 0 * 1 + 1 * 0 = min (tileWord m (grid0.coords t 0)).toNat 7 % 8
      rw [hi]
      show min (tileWord m (grid0.coords t 0)).toNat 7 * 1 + 1 * 0 = _
      omega
    | ⟨1, _⟩ =>
      show cc0_transform_3 k0_off1_inb numel1_S1 (tbl m) (grid0.coords t) 1 * 512 + 1 * f.val = (512 * (t.val % 7) + f.val) % 3584
      rw [hi]
      show (grid0.coords t 1).val * 512 + 1 * f.val = _
      omega
    | ⟨2, _⟩ =>
      show cc0_transform_3 k0_off1_inb numel1_S1 (tbl m) (grid0.coords t) 2 * 1024 + 1 * d.val = d.val
      rw [hi]
      show 0 * 1024 + 1 * d.val = _
      omega
  show V m c (Pipeline.arrRef spec0 3) ((((cfgM m hO).win 3).blk t).view.emb (ix3 0 f d)) = _
  rw [hb]
  show V m c main_v2 _ = _
  entry_read
  pointwise []
  rfl

end Cert.Kernel2Ideal.Experts

end
-- ==== Proof.ExpertValue.lean ====
/- The expert pipeline's output array over the reals: the layer's result. -/
module

public import proofs.«01_k».proof.Proof.ExpertBlocks
public import proofs.«01_k».proof.Proof.Gen.Kernel2Ideal.Points
public import Idealize.ShloMosaic.Lib.Claim

@[expose] public section

noncomputable section

namespace Cert.Kernel2Ideal.Experts

open Idealize.ShloMosaic Idealize.ShloMosaic.TcCoe Idealize.SL.Sem
open Cert.Kernel2Ideal Cert.Kernel2Ideal.Gen Cert.Experts

variable (m : (ℓ : Loc nD τ sig) → Buf (Elt Ideal) ℓ) (ρ : Dev nD → PrngReg) (hO : Ok m) (c : Dev nD)
variable (hw : ∀ p : Fin 136, 0 ≤ (tileWord m p).toInt)

/-- The expert of a point. -/
def expertAt (t : Fin grid0.N) : Fin 8 := Fin.ofNat 8 (min (tileWord m (grid0.coords t 0)).toNat 7)

/-- Row `q` of the tile of point `n`. -/
def rowAt (n : ℕ) (q : Fin 1024) (k : Fin 1024) : EReal :=
  aX m c (Fin.ofNat 139264 (1024 * (n / 7) + q.val)) ⟨k.val / 128, by omega⟩ ⟨k.val % 128, by omega⟩

/-- Feature term `n` of that row at column `d`. -/
def termAt (t : Fin grid0.N) (q d : Fin 1024) (n : ℕ) : EReal :=
  term (rowAt m c t.val q) (aG m c (expertAt m t)) (aU m c (expertAt m t)) (fun f => aD m c (expertAt m t) f d) n

theorem expertAt_tile (t t' : Fin grid0.N) (h : t.val / 7 = t'.val / 7) : expertAt m t = expertAt m t' := by
  have e : grid0.coords t 0 = grid0.coords t' 0 := Fin.ext ((coord0 t).trans (h.trans (coord0 t').symm))
  unfold expertAt
  rw [e]

theorem termAt_tile (t t' : Fin grid0.N) (h : t.val / 7 = t'.val / 7) (q d : Fin 1024) (n : ℕ) : termAt m c t q d n = termAt m c t' q d n := by
  unfold termAt rowAt
  rw [expertAt_tile m t t' h, h]

/-- The blocks, at their literal shapes. -/
def b0 (t : Fin (cfgM m hO).N) : FVec Ideal S1024x8x128 .f32 := iblk m hO c 0 t
def b1 (t : Fin (cfgM m hO).N) : FVec Ideal S1x1024x512 .bf16 := iblk m hO c 1 t
def b2 (t : Fin (cfgM m hO).N) : FVec Ideal S1x1024x512 .bf16 := iblk m hO c 2 t
def b3 (t : Fin (cfgM m hO).N) : FVec Ideal S1x512x1024 .bf16 := iblk m hO c 3 t

theorem acc_first (t : Fin (cfgM m hO).N) (h0 : t.val % 7 = 0) :
    accAt m hO c t.val t.isLt = if Live (word m t) then k0_pay3 (F := Ideal) (b0 m hO c t) (b1 m hO c t) (b2 m hO c t) (b3 m hO c t) else k0_pay4 (F := Ideal) :=
  accAt_first m hO c t h0

theorem acc_next (t : Fin (cfgM m hO).N) (h0 : ¬t.val % 7 = 0) :
    accAt m hO c t.val t.isLt = if Live (word m t) then k0_pay5 (accAt m hO c (t.val - 1) (Nat.lt_of_le_of_lt (Nat.sub_le _ _) t.isLt)) (hAt m hO c t) (b1 m hO c t) (b2 m hO c t) (b3 m hO c t) else accAt m hO c (t.val - 1) (Nat.lt_of_le_of_lt (Nat.sub_le _ _) t.isLt) :=
  accAt_next m hO c t h0

theorem hAt_apply (t : Fin (cfgM m hO).N) (q k : Fin 1024) : (hAt m hO c t : FVec Ideal S1024x1024 .bf16) (ix2 q k) = rowAt m c t.val q k := by
  show (k0_pay2 (b0 m hO c ⟨t.val - t.val % 7, Nat.lt_of_le_of_lt (Nat.sub_le _ _) t.isLt⟩) : FVec Ideal S1024x1024 .bf16) (ix2 q k) = _
  rw [pay2_apply]
  refine (iblk0 m hO c _ q _ _).trans ?_
  unfold rowAt
  have : (t.val - t.val % 7) / 7 = t.val / 7 := by omega
  show aX m c (Fin.ofNat 139264 (1024 * ((t.val - t.val % 7) / 7) + q.val)) _ _ = _
  rw [this]

include hw

/-- The sum a point makes: the terms of its block of features. -/
theorem block_terms (t : Fin (cfgM m hO).N) (q d : Fin 1024) (x : Fin 1024 → EReal) (hx : ∀ k, x k = rowAt m c t.val q k) :
    ∑ f : Fin 512, feat x (fun k => b1 m hO c t (ix3 0 k f)) (fun k => b2 m hO c t (ix3 0 k f)) * b3 m hO c t (ix3 0 f d)
      = ∑ f : Fin 512, termAt m c t q d (512 * (t.val % 7) + f.val) := by
  refine Finset.sum_congr rfl fun f _ => ?_
  rw [show b3 m hO c t (ix3 0 f d) = _ from iblk3 m hO c hw t f d]
  unfold termAt term
  refine congrArg (fun a : EReal => a * _) ?_
  refine congr (congr (congrArg feat (funext hx)) (funext fun k => ?_)) (funext fun k => ?_)
  · exact iblk1 m hO c hw t k f
  · exact iblk2 m hO c hw t k f

/-- The accumulator after a point of a tile that has an expert. -/
theorem acc_live : ∀ (j : ℕ) (t : Fin (cfgM m hO).N), t.val % 7 = j → Live (word m t) → ∀ q d : Fin 1024,
    (accAt m hO c t.val t.isLt : FVec Ideal S1024x1024 .f32) (ix2 q d) = ∑ n ∈ Finset.range (512 * (j + 1)), termAt m c t q d n := by
  intro j
  induction j with
  | zero =>
    intro t ht hL q d
    rw [acc_first m hO c t ht, if_pos hL, pay3_apply, sum_block, Nat.mul_zero, Finset.range_zero, Finset.sum_empty, zero_add]
    refine (block_terms m hO c hw t q d _ (fun k => ?_)).trans ?_
    · exact iblk0 m hO c t q _ _
    · rw [ht]
  | succ j ih =>
    intro t ht hL q d
    have hN : t.val < 952 := Nat.lt_of_lt_of_eq t.isLt N_0
    have h1 : t.val - 1 < (cfgM m hO).N := Nat.lt_of_le_of_lt (Nat.sub_le _ _) t.isLt
    have hd : (t.val - 1) / 7 = t.val / 7 := by omega
    have hwd : word m (⟨t.val - 1, h1⟩ : Fin grid0.N) = word m t := word_tile m _ _ hd
    rw [acc_next m hO c t (by omega), if_pos hL, pay5_apply, sum_block]
    refine congrArg₂ (fun a b : EReal => a + b) ?_ ?_
    · refine (ih ⟨t.val - 1, h1⟩ (by show (t.val - 1) % 7 = j; omega) (by rw [hwd]; exact hL) q d).trans ?_
      exact Finset.sum_congr rfl fun n _ => termAt_tile m c _ _ hd q d n
    · refine (block_terms m hO c hw t q d _ (fun k => hAt_apply m hO c t q k)).trans ?_
      rw [ht]

omit hw in
/-- The accumulator of a tile that has none. -/
theorem acc_dead : ∀ (j : ℕ) (t : Fin (cfgM m hO).N), t.val % 7 = j → ¬Live (word m t) → ∀ q d : Fin 1024,
    (accAt m hO c t.val t.isLt : FVec Ideal S1024x1024 .f32) (ix2 q d) = (0 : EReal) := by
  intro j
  induction j with
  | zero =>
    intro t ht hL q d
    rw [acc_first m hO c t ht, if_neg hL, pay4_apply]
  | succ j ih =>
    intro t ht hL q d
    have h1 : t.val - 1 < (cfgM m hO).N := Nat.lt_of_le_of_lt (Nat.sub_le _ _) t.isLt
    have hd : (t.val - 1) / 7 = t.val / 7 := by omega
    have hwd : word m (⟨t.val - 1, h1⟩ : Fin grid0.N) = word m t := word_tile m _ _ hd
    rw [acc_next m hO c t (by omega), if_neg hL]
    exact ih ⟨t.val - 1, h1⟩ (by show (t.val - 1) % 7 = j; omega) (by rw [hwd]; exact hL) q d

omit hw in
/-- The output array. -/
def G4 (c : Dev nD) : Buf (Elt Ideal) ((c : Thread nD τ).loc main_v3) := fun (i : S139264x8x128.Idx) =>
  layer (aX m c) (tileWord m) (aG m c) (aU m c) (aD m c) (i 0) (i 1) (i 2)

/-- What the last point of a tile leaves in the output block. -/
theorem out_apply (t : Fin (cfgM m hO).N) (h6 : t.val % 7 = 6) (q : Fin 1024) (h : Fin 8) (l : Fin 128) (r : Fin 139264) (hr : r.val = 1024 * (t.val / 7) + q.val) :
    (k0_pay6 (accAt m hO c t.val t.isLt) : FVec Ideal S1024x8x128 .f32) (ix3 q h l) = layer (aX m c) (tileWord m) (aG m c) (aU m c) (aD m c) r h l := by
  have hN : t.val < 952 := Nat.lt_of_lt_of_eq t.isLt N_0
  have hp : (⟨r.val / 1024, by omega⟩ : Fin 136) = grid0.coords t 0 := Fin.ext (by show r.val / 1024 = (grid0.coords t 0).val; rw [coord0 t]; omega)
  have hv : word m t = tileWord m (⟨r.val / 1024, by omega⟩ : Fin 136) := by rw [hp]; exact word_eq m t
  have hlive := live_iff _ (hw (⟨r.val / 1024, by omega⟩ : Fin 136))
  rw [pay6_apply]
  unfold layer
  by_cases hL : Live (word m t)
  · have h8 : (tileWord m (⟨r.val / 1024, by omega⟩ : Fin 136)).toNat < 8 := hlive.mp (hv ▸ hL)
    rw [if_pos h8, acc_live m hO c hw 6 t h6 hL]
    have he : expertAt m t = Fin.ofNat 8 (tileWord m (⟨r.val / 1024, by omega⟩ : Fin 136)).toNat := by
      unfold expertAt
      rw [← hp, Nat.min_eq_left (by omega)]
    have hx : rowAt m c t.val q = fun k => aX m c r ⟨k.val / 128, by omega⟩ ⟨k.val % 128, by omega⟩ := by
      funext k
      unfold rowAt
      rw [show Fin.ofNat 139264 (1024 * (t.val / 7) + q.val) = r from Fin.ext (by show (1024 * (t.val / 7) + q.val) % 139264 = r.val; omega)]
    unfold termAt
    rw [show 512 * (6 + 1) = 3584 from rfl, sum_terms, he, hx]
  · have h8 : ¬(tileWord m (⟨r.val / 1024, by omega⟩ : Fin 136)).toNat < 8 := fun q => hL (hv ▸ hlive.mpr q)
    rw [if_neg h8, acc_dead m hO c 6 t h6 hL]

omit hw in
theorem emb4 (t : Fin (cfgM m hO).N) (q : Fin 1024) (h : Fin 8) (l : Fin 128) :
    (((cfgM m hO).win 4).blk t).view.emb (ix3 q h l) = ix3 (n0 := 139264) (n1 := 8) (n2 := 128) (Fin.ofNat 139264 (1024 * (t.val / 7) + q.val)) h l := by
  have hN : t.val < 952 := Nat.lt_of_lt_of_eq t.isLt N_0
  have hc := coord0 t
  funext a
  apply Fin.ext
  match a with
  | ⟨0, _⟩ =>
    show ((grid0.coords t 0).val % 2 ^ 32) * 1024 + 1 * q.val = (1024 * (t.val / 7) + q.val) % 139264
    omega
  | ⟨1, _⟩ => show 0 * 8 + 1 * h.val = h.val; omega
  | ⟨2, _⟩ => show 0 * 128 + 1 * l.val = l.val; omega

omit hw in
theorem xinj4 (t : Fin (cfgM m hO).N) (q : Fin 1024) (h : Fin 8) (l : Fin 128) :
    (((cfgM m hO).win 4).xinj (grid0.coords t) (ix3 q h l) : S1024x8x128.Idx) = ix3 q h l := by
  funext a
  match a with
  | ⟨0, _⟩ => rfl
  | ⟨1, _⟩ => rfl
  | ⟨2, _⟩ => rfl

/-- What a grid point writes back is its block of the output array. -/
theorem flushed4_eq (t : Fin (cfgM m hO).N) (hf : ((cfgM m hO).win 4).flush t = true) :
    (dats m hO 0 c).flushed 4 t = (((cfgM m hO).win 4).blk t).view.read (Elt Ideal) (G4 m c) := by
  have h6 : t.val % 7 = 6 := (flush0_4 (adm m hO) t).mp hf
  have hN : t.val < 952 := Nat.lt_of_lt_of_eq t.isLt N_0
  show ((cfgM m hO).win 4).cut (grid0.coords t) ((dats m hO 0 c).after 4 t) = _
  rw [after0_4]
  refine funext fun (y : S1024x8x128.Idx) => ?_
  obtain ⟨q, h, l, rfl⟩ : ∃ (q : Fin 1024) (h : Fin 8) (l : Fin 128), y = ix3 q h l := by
    refine ⟨y 0, y 1, y 2, funext fun a => ?_⟩
    match a with
    | ⟨0, _⟩ => rfl
    | ⟨1, _⟩ => rfl
    | ⟨2, _⟩ => rfl
  have e1 : (k0_pay6 (accAt m hO c t.val t.isLt) : FVec Ideal S1024x8x128 .f32) (((cfgM m hO).win 4).xinj (grid0.coords t) (ix3 q h l)) = (k0_pay6 (accAt m hO c t.val t.isLt) : FVec Ideal S1024x8x128 .f32) (ix3 q h l) :=
    congrArg (k0_pay6 (accAt m hO c t.val t.isLt) : FVec Ideal S1024x8x128 .f32) (xinj4 m hO t q h l)
  have e2 : G4 m c ((((cfgM m hO).win 4).blk t).view.emb (ix3 q h l)) = G4 m c (ix3 (n0 := 139264) (n1 := 8) (n2 := 128) (Fin.ofNat 139264 (1024 * (t.val / 7) + q.val)) h l) :=
    congrArg (G4 m c) (emb4 m hO t q h l)
  refine e1.trans (Eq.trans ?_ e2.symm)
  exact out_apply m hO c hw t h6 q h l _ (by show (1024 * (t.val / 7) + q.val) % 139264 = _; omega)

omit hw in
theorem mem_blk4 (t : Fin (cfgM m hO).N) (i : S139264x8x128.Idx) :
    i ∈ (((cfgM m hO).win 4).blk t).view.set ↔ ∀ a : Fin 3, cc0_transform_4 (grid0.coords t) a * S1024x8x128.size a ≤ (i a).val ∧ (i a).val < cc0_transform_4 (grid0.coords t) a * S1024x8x128.size a + S1024x8x128.size a := by
  show i ∈ ((View.whole main_v3).slice (Rect.block (s := S139264x8x128) S1024x8x128.size (cc0_transform_4 (grid0.coords t)) (hinb0_4 (grid0.coords t)))).set ↔ _
  rw [View.set_slice_whole]
  exact Rect.mem_set_unit ..

omit hw in
/-- Every entry of the output array is in a block some point writes back. -/
theorem cover4 (i : S139264x8x128.Idx) : ∃ t : Fin (cfgM m hO).N, ((cfgM m hO).win 4).flush t = true ∧ i ∈ (((cfgM m hO).win 4).blk t).view.set := by
  have h0 : (i 0).val < 139264 := (i 0).isLt
  have h1 : (i 1).val < 8 := (i 1).isLt
  have h2 : (i 2).val < 128 := (i 2).isLt
  have hN : 7 * ((i 0).val / 1024) + 6 < grid0.N := lt_of_lt_of_eq (by omega) N_0.symm
  have hc : (grid0.coords (⟨7 * ((i 0).val / 1024) + 6, hN⟩ : Fin grid0.N) 0).val = (7 * ((i 0).val / 1024) + 6) / 7 := coord0 _
  refine ⟨⟨7 * ((i 0).val / 1024) + 6, hN⟩, (flush0_4 (adm m hO) _).mpr (by show (7 * ((i 0).val / 1024) + 6) % 7 = 6; omega), (mem_blk4 m hO _ i).mpr fun a => ?_⟩
  match a with
  | ⟨0, _⟩ =>
    show (grid0.coords (⟨7 * ((i 0).val / 1024) + 6, hN⟩ : Fin grid0.N) 0).val % 2 ^ 32 * 1024 ≤ (i 0).val
      ∧ (i 0).val < (grid0.coords (⟨7 * ((i 0).val / 1024) + 6, hN⟩ : Fin grid0.N) 0).val % 2 ^ 32 * 1024 + 1024
    omega
  | ⟨1, _⟩ => show 0 * 8 ≤ (i 1).val ∧ (i 1).val < 0 * 8 + 8; omega
  | ⟨2, _⟩ => show 0 * 128 ≤ (i 2).val ∧ (i 2).val < 0 * 128 + 128; omega

/-- The output array after the run. -/
theorem final4 : (dats m hO 0 c).arrAt 4 (cfgM m hO).N = G4 m c :=
  (dats m hO 0 c).arrAt_eq_of_cover 4 _ (fun t hf => flushed4_eq m hO c hw t hf) (cover4 m hO)

/-- The run, with the output array at the layer's result. -/
theorem run_value (hO : Ok m) : θ_run defs (onTc (τ := τ) (main (F := Ideal))) ⟨m, fun _ => 0, ρ⟩ fun r => ∀ c : Dev nD,
    r.2.mem ((c : Thread nD τ).loc main_v3) = G4 m c :=
  (θ_run defs _ _).mono (fun r h c => ((h c).1 4).trans (final4 m hO c hw)) (run_main m ρ hO)

end Cert.Kernel2Ideal.Experts

end
-- ==== Proof.ExpertRef.lean ====
/- The reference's result at an index: the row's expert's. -/
module

public import proofs.«01_k».proof.Proof.Gen.Reference2Ideal.Run
public import proofs.«01_k».proof.Proof.ExpertModel
public import Idealize.ShloMosaic.Lib.Pointwise
public import Idealize.ShloMosaic.Lib.Tactic.CleanTypes
public import Idealize.ShloMosaic.Lib.Claim

@[expose] public section

set_option maxRecDepth 16384

noncomputable section

namespace Cert.Reference2Ideal.Experts

open Idealize.ShloMosaic Idealize.ShloMosaic.TcCoe Idealize.SL.Sem
open Idealize.ShloMosaic.StableHlo
open Cert.Reference2Ideal Cert.Reference2Ideal.Gen Cert.Reference2Ideal.Value Cert.Experts

variable (V0 : Valuation τ sig (Elt Ideal))

def vX : S139264x8x128.Idx → EReal := V0 (Proc.devRef .tc main_arg0)
def vT : S136.Idx → BitVec 32 := V0 (Proc.devRef .tc main_arg1)
def vG : S8x1024x3584.Idx → EReal := V0 (Proc.devRef .tc main_arg2)
def vU : S8x1024x3584.Idx → EReal := V0 (Proc.devRef .tc main_arg3)
def vD : S8x3584x1024.Idx → EReal := V0 (Proc.devRef .tc main_arg4)
def r8 : S136x1024x3584.Idx → EReal := res_main_v8 V0
def r1 : S136x8.Idx → EReal := res_main_v1 V0

theorem r1_apply (p : Fin 136) (e : Fin 8) : r1 V0 (ix2 p e) = if vT V0 (ix1 p) = BitVec.ofNat 32 e.val then 1 else 0 := by
  unfold r1 res_main_v1
  clean_types
  pointwise
  show ((IntOp.cmpi .eq (vT V0 (ix1 p)) (BitVec.ofNat 32 e.val)).toNat : EReal) = _
  by_cases h : vT V0 (ix1 p) = BitVec.ofNat 32 e.val
  · simp [IntOp.cmpi, h]
  · simp [IntOp.cmpi, h]

def r138 : S136x1024x1024.Idx → EReal := res_main_v138 V0

/-- Expert `e` on row `q` of tile `p`. -/
def row (p : Fin 136) (q : Fin 1024) (d : Fin 1024) (e : Fin 8) : EReal :=
  expertRow (fun k => vX V0 (ix3 (⟨p.val * 1024 + q.val, by omega⟩ : Fin 139264) (⟨k.val / 128, by omega⟩ : Fin 8) (⟨k.val % 128, by omega⟩ : Fin 128)))
    (fun k f => vG V0 (ix3 e k f)) (fun k f => vU V0 (ix3 e k f)) (fun f => vD V0 (ix3 e f d))

theorem r138_apply (p : Fin 136) (q : Fin 1024) (d : Fin 1024) :
    r138 V0 (ix3 p q d) = 0 + r1 V0 (ix2 p 0) * row V0 p q d 0 + r1 V0 (ix2 p 1) * row V0 p q d 1 + r1 V0 (ix2 p 2) * row V0 p q d 2
      + r1 V0 (ix2 p 3) * row V0 p q d 3 + r1 V0 (ix2 p 4) * row V0 p q d 4 + r1 V0 (ix2 p 5) * row V0 p q d 5 + r1 V0 (ix2 p 6) * row V0 p q d 6
      + r1 V0 (ix2 p 7) * row V0 p q d 7 := by
  unfold r138 res_main_v138 res_main_v70
  clean_types
  pointwise [res_main_v8, res_main_v25, res_main_v42, res_main_v59, res_main_v76, res_main_v93, res_main_v110, res_main_v127, res_main_v0]
  first
  | rfl
  | (rw [zero_add]; rfl)

/-- The reference's result at an index. -/
theorem result_apply (r : Fin 139264) (h : Fin 8) (l : Fin 128) :
    (shapeCast S139264x8x128 (r138 V0) shapeCasts_S136x1024x1024_S139264x8x128 : S139264x8x128.Idx → EReal) (ix3 r h l)
      = layer (fun r h l => vX V0 (ix3 r h l)) (fun p => vT V0 (ix1 p)) (fun e k f => vG V0 (ix3 e k f)) (fun e k f => vU V0 (ix3 e k f))
          (fun e f d => vD V0 (ix3 e f d)) r h l := by
  have e : (shapeCast S139264x8x128 (r138 V0) shapeCasts_S136x1024x1024_S139264x8x128 : S139264x8x128.Idx → EReal) (ix3 r h l)
      = r138 V0 (ix3 (⟨r.val / 1024, by omega⟩ : Fin 136) (⟨r.val % 1024, by omega⟩ : Fin 1024) (⟨h.val * 128 + l.val, by omega⟩ : Fin 1024)) := by
    pointwise
  rw [e, r138_apply, sum_one_hot (vT V0 (ix1 (⟨r.val / 1024, by omega⟩ : Fin 136))) (row V0 _ _ _) (fun e => r1 V0 (ix2 (⟨r.val / 1024, by omega⟩ : Fin 136) e)) (fun e => r1_apply V0 _ e)]
  unfold layer row
  have hr : (⟨r.val / 1024 * 1024 + r.val % 1024, by omega⟩ : Fin 139264) = r := Fin.ext (by show r.val / 1024 * 1024 + r.val % 1024 = r.val; omega)
  simp only [hr]

end Cert.Reference2Ideal.Experts

end
-- ==== Proof.ExpertClaim.lean ====
/- The claims about the expert layer. -/
module

public import proofs.«01_k».proof.Defs
public import proofs.«01_k».proof.Proof.Gen.Kernel2
public import proofs.«01_k».proof.Proof.ExpertValue
public import proofs.«01_k».proof.Proof.ExpertRef

@[expose] public section

noncomputable section

namespace Cert.Experts

open Idealize.ShloMosaic Idealize.ShloMosaic.TcCoe Idealize.SL.Sem

/-- The two programs have one table of bodies. -/
theorem bodies_eq {F : FTy → Type} [FloatOps F] : Cert.Kernel2.defs₀ (F := F) = Cert.Kernel2Ideal.defs₀ (F := F) := by
  refine congrArg Defs.onTc (funext fun l => ?_)
  match l with
  | 0 => rfl

/-- The words a memory gives the ideal kernel's program are not negative. -/
theorem words {F : FTy → Type} [FloatOps F] (m : (ℓ : Loc Cert.Kernel2Ideal.nD Cert.Kernel2Ideal.τ Cert.Kernel2Ideal.sig) → Buf (Elt F) ℓ)
    (x g u d) (h : Cert.Pre_experts_exist.fn (F := F) x (m (((0 : Dev Cert.Kernel2Ideal.nD).tc : Thread Cert.Kernel2Ideal.nD Cert.Kernel2Ideal.τ).loc Cert.Kernel2Ideal.main_arg1)) g u d = fun _ => 1#1) :
    ∀ p : Fin 136, 0 ≤ (Cert.Kernel2Ideal.Experts.tileWord m p).toInt :=
  fun p => Cert.Kernel2Ideal.Experts.words_of_pre _ _ _ _ _ h p

/-- The two programs have one `main`. -/
theorem main_eq {F : FTy → Type} [FloatOps F] : Cert.Kernel2.main (F := F) = Cert.Kernel2Ideal.main (F := F) := rfl

/-- The two programs have one table of procedures. -/
theorem defs_eq {F : FTy → Type} [FloatOps F] : Cert.Kernel2.defs (F := F) = Cert.Kernel2Ideal.defs (F := F) :=
  congrArg (Pipeline.defs Cert.Kernel2Ideal.pcfgs) bodies_eq

/-- The kernel's frame: its text is the ideal kernel's, whose run holds for any float values. -/
theorem frame_kernel : Cert.quiescent_Kernel2 := fun m ρ hp => by
  have hw : ∀ p : Fin 136, 0 ≤ (Cert.Kernel2Ideal.Experts.tileWord (F := Bits) m p).toInt :=
    fun p => Cert.Kernel2Ideal.Experts.words_of_pre (F := Bits) _ _ _ _ _ (hp 0) p
  have hf := Cert.Kernel2Ideal.Experts.frame (F := Bits) m ρ (Cert.Kernel2Ideal.Experts.ok_of_words m hw)
  rw [← defs_eq] at hf
  exact hf

/-- The ideal kernel's frame. -/
theorem frame_ideal : Cert.quiescent_Kernel2Ideal := fun m ρ hp =>
  Cert.Kernel2Ideal.Experts.frame (F := Ideal) m ρ (Cert.Kernel2Ideal.Experts.ok_of_words m (words (F := Ideal) m _ _ _ _ (hp 0)))

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference make the layer's result. -/
theorem algebraic : Cert.algebraic_Kernel2Ideal_Reference2Ideal := fun m g m' g' hp hargs => by
  have hw := words (F := Ideal) m _ _ _ _ (hp 0)
  have hO := Cert.Kernel2Ideal.Experts.ok_of_words m hw
  refine ⟨fun c => Cert.Kernel2Ideal.Experts.G4 m c, ?_, ?_⟩
  · exact (θ_run _ _ _).mono (fun r h c => ⟨h.1 c, h.2 c⟩)
      (θ_run_and (Cert.Kernel2Ideal.Experts.run_value m g hw hO) (Cert.Kernel2Ideal.Experts.unchanged m g hO))
  · refine (θ_run _ _ _).mono (fun r h c => ⟨?_, (h c).2⟩) (Cert.Reference2Ideal.Value.run m' g')
    refine (h c).1.trans (funext fun i => ?_)
    obtain ⟨h0, h1, h2, h3, h4⟩ := hargs c
    obtain ⟨b, t, f, rfl⟩ : ∃ (b : Fin 139264) (t : Fin 8) (f : Fin 128), i = ix3 b t f := by
      refine ⟨i 0, i 1, i 2, funext fun a => ?_⟩
      match a with
      | ⟨0, _⟩ => rfl
      | ⟨1, _⟩ => rfl
      | ⟨2, _⟩ => rfl
    refine (Cert.Reference2Ideal.Experts.result_apply (StableHlo.launchContents m' c) b t f).trans ?_
    obtain rfl : c = 0 := Subsingleton.elim _ _
    have e0 : Cert.Reference2Ideal.Experts.vX (StableHlo.launchContents m' 0) = m (((0 : Dev Cert.Kernel2Ideal.nD).tc : Thread Cert.Kernel2Ideal.nD Cert.Kernel2Ideal.τ).loc Cert.Kernel2Ideal.main_arg0) := h0
    have e1 : Cert.Reference2Ideal.Experts.vT (StableHlo.launchContents m' 0) = m (((0 : Dev Cert.Kernel2Ideal.nD).tc : Thread Cert.Kernel2Ideal.nD Cert.Kernel2Ideal.τ).loc Cert.Kernel2Ideal.main_arg1) := h1
    have e2 : Cert.Reference2Ideal.Experts.vG (StableHlo.launchContents m' 0) = m (((0 : Dev Cert.Kernel2Ideal.nD).tc : Thread Cert.Kernel2Ideal.nD Cert.Kernel2Ideal.τ).loc Cert.Kernel2Ideal.main_arg2) := h2
    have e3 : Cert.Reference2Ideal.Experts.vU (StableHlo.launchContents m' 0) = m (((0 : Dev Cert.Kernel2Ideal.nD).tc : Thread Cert.Kernel2Ideal.nD Cert.Kernel2Ideal.τ).loc Cert.Kernel2Ideal.main_arg3) := h3
    have e4 : Cert.Reference2Ideal.Experts.vD (StableHlo.launchContents m' 0) = m (((0 : Dev Cert.Kernel2Ideal.nD).tc : Thread Cert.Kernel2Ideal.nD Cert.Kernel2Ideal.τ).loc Cert.Kernel2Ideal.main_arg4) := h4
    rw [e0, e1, e2, e3, e4]
    rfl

end Cert.Experts

end
-- ==== Proof.DenseRun.lean ====
/- The body of the dense layer's kernel, run at a grid point: the first of a tile starts the accumulator, the second
   finishes it and writes the output block. -/
module

public import proofs.«01_k».proof.Proof.Gen.Kernel3Ideal.Frame.Runs
public import Idealize.ShloMosaic.Lib.VecWindow

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

set_option maxHeartbeats 4000000 in
/-- First point of a tile. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024 .f32) (x2 : Vec F S1024x1408 .bf16) (x3 : Vec F S1024x1408 .bf16) (x4 : Vec F S1408x1024 .bf16) (x5 : Vec F S1x1024 .f32) (o : Vec F S1024x1024 .f32) (h : Vec F S1024x1024 .bf16) (a : Vec F S1024x1024 .f32)
    (hc0 : cond0_0 i) (hc1 : ¬cond0_1 i) (hc2 : ¬cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare h ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare (k0_pay2 x0 x1) ∗ owns (c : Thread nD τ) arg10 fullShare (k0_pay3 x0 x1 x2 x3 x4)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10) K := by
  simp only [cc0_swiglu_ffn_eq_skeleton]; unfold cc0_swiglu_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    refine (View.read_writes_full (s := S1024x1024) _ _ _ _ []).trans ?_
    rw [View.readAt_full (s := S1024x1024), View.readAt_full (s := S1x1024), hf0, hf1]
  iexists _; isplitr
  swap; · iexact HS1
  ipureintro
  refine (View.read_writes_full (s := S1024x1024) _ _ _ _ []).trans ?_
  rw [View.readAt_full (s := S1024x1024), View.readAt_full (s := S1x1024), View.readAt_full (s := S1024x1408), View.readAt_full (s := S1024x1408), View.readAt_full (s := S1408x1024), hf0, hf1, hf2, hf3, hf4]

set_option maxHeartbeats 4000000 in
/-- Last point of a tile. -/
theorem run_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024 .f32) (x2 : Vec F S1024x1408 .bf16) (x3 : Vec F S1024x1408 .bf16) (x4 : Vec F S1408x1024 .bf16) (x5 : Vec F S1x1024 .f32) (o : Vec F S1024x1024 .f32) (h : Vec F S1024x1024 .bf16) (a : Vec F S1024x1024 .f32)
    (hc0 : ¬cond0_0 i) (hc1 : cond0_1 i) (hc2 : cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare h ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 a h x2 x3 x4) ∗ owns (c : Thread nD τ) arg9 fullShare h ∗ owns (c : Thread nD τ) arg10 fullShare (k0_pay4 a h x2 x3 x4)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10) K := by
  simp only [cc0_swiglu_ffn_eq_skeleton]; unfold cc0_swiglu_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full (s := S1024x1024) _ _ _ _ []).trans ?_
    refine (View.readAt_full (s := S1024x1024) _ _ _).trans ((View.read_writes_full (s := S1024x1024) _ _ _ _ []).trans ?_)
    rw [View.readAt_full (s := S1024x1024), View.readAt_full (s := S1024x1024), View.readAt_full (s := S1024x1408), View.readAt_full (s := S1024x1408), View.readAt_full (s := S1408x1024), hf8, hf7, hf2, hf3, hf4]
  isplitl [HS0]
  · iexists _; isplitr; · ipureintro; exact harg9.read_unread _
    iexact HS0
  iexists _; isplitr
  swap; · iexact HS1
  ipureintro
  refine (View.read_writes_full (s := S1024x1024) _ _ _ _ []).trans ?_
  rw [View.readAt_full (s := S1024x1024), View.readAt_full (s := S1024x1024), View.readAt_full (s := S1024x1408), View.readAt_full (s := S1024x1408), View.readAt_full (s := S1408x1024), hf8, hf7, hf2, hf3, hf4]

end Cert.Kernel3Ideal.Dense

end
-- ==== Proof.DenseFrame.lean ====
/- The run of the dense layer's pipeline: what the scratch buffers and the output block hold after each grid point,
   the body obligation at a generic point, and the run of the whole program. -/
module

public import proofs.«01_k».proof.Proof.DenseRun
public import Idealize.ShloMosaic.Lib.Claim

@[expose] public section

set_option maxRecDepth 16384

noncomputable section

namespace Cert.Kernel3Ideal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: tile `t / 2`, block of features `t % 2` -/

theorem coord0 (t : Fin grid0.N) : (grid0.coords t 0).val = t.val / 2 := by
  have ht : t.val < 128 := Nat.lt_of_lt_of_eq t.isLt N_0
  have e0 : (grid0.coords t 0).val = t.val / 2 % 64 := Pipeline.Grid.coords_val t 0 (by decide) rfl
  omega
theorem coord1 (t : Fin grid0.N) : (grid0.coords t 1).val = t.val % 2 := by
  have e1 : (grid0.coords t 1).val = t.val / 1 % 2 := Pipeline.Grid.coords_val t 1 (by decide) rfl
  omega

/-- The point before. -/
abbrev prev (t : Fin cfg0.N) : Fin cfg0.N := ⟨t.val - 1, Nat.lt_of_le_of_lt (Nat.sub_le _ _) t.isLt⟩

/-- The accumulator after a tile's first point. -/
def acc0 (c : Dev nD) (t : Fin cfg0.N) : Vec F S1024x1024 .f32 :=
  k0_pay3 (iblk m c 0 t) (iblk m c 1 t) (iblk m c 2 t) (iblk m c 3 t) (iblk m c 4 t)

/-- The tile's normalized tokens, as its first point leaves them. -/
def tok (c : Dev nD) (t : Fin cfg0.N) : Vec F S1024x1024 .bf16 := k0_pay2 (iblk m c 0 t) (iblk m c 1 t)

/-- The output block after a tile's last point. -/
def outAt (c : Dev nD) (t : Fin cfg0.N) : Vec F S1024x1024 .f32 :=
  k0_pay4 (acc0 m c (prev t)) (tok m c (prev t)) (iblk m c 2 t) (iblk m c 3 t) (iblk m c 4 t)

/-- What is known of the scratch buffers before point `n`: before a tile's last point they are as its first left them. -/
def Inv (c : Dev nD) (n : ℕ) (h : Vec F S1024x1024 .bf16) (a : Vec F S1024x1024 .f32) : Prop :=
  ∀ hn : n < cfg0.N, n % 2 = 1 → a = acc0 m c (prev ⟨n, hn⟩) ∧ h = tok m c (prev ⟨n, hn⟩)

/-! ## The pipeline's proof data -/

/-- What is held before point `n`. -/
def PhiS (c : Dev nD) (n : ℕ) (_ : n ≤ cfg0.N) : sProp 𝕄 :=
  iprop((∃ h, ∃ a, ⌜Inv m c n h a⌝ ∗ owns (c : Thread nD τ) scM0_0 fullShare h ∗ owns (c : Thread nD τ) scM0_1 fullShare a) ∗ (∃ r, prngReg c r))

/-- The proof data of the pipeline: the arrays as found, each input block unchanged by the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]; try rfl
theorem leaves1 (c : Dev nD) (t : Fin cfg0.N) : (dats m 0 c).leavesExact 1 t = owns (c : Thread nD τ) (ms0_1 t) fullShare (iblk m c 1 t) := by
  unfold Dat.leavesExact; rw [liveAt0_1 t, after0_1]; try rfl
theorem leaves2 (c : Dev nD) (t : Fin cfg0.N) : (dats m 0 c).leavesExact 2 t = owns (c : Thread nD τ) (ms0_2 t) fullShare (iblk m c 2 t) := by
  unfold Dat.leavesExact; rw [liveAt0_2 t, after0_2]; try rfl
theorem leaves3 (c : Dev nD) (t : Fin cfg0.N) : (dats m 0 c).leavesExact 3 t = owns (c : Thread nD τ) (ms0_3 t) fullShare (iblk m c 3 t) := by
  unfold Dat.leavesExact; rw [liveAt0_3 t, after0_3]; try rfl
theorem leaves4 (c : Dev nD) (t : Fin cfg0.N) : (dats m 0 c).leavesExact 4 t = owns (c : Thread nD τ) (ms0_4 t) fullShare (iblk m c 4 t) := by
  unfold Dat.leavesExact; rw [liveAt0_4 t, after0_4]; try rfl
theorem leaves5 (c : Dev nD) (t : Fin cfg0.N) : (dats m 0 c).leavesExact 5 t = owns (c : Thread nD τ) (ms0_5 t) fullShare (iblk m c 5 t) := by
  unfold Dat.leavesExact; rw [liveAt0_5 t, after0_5]; try rfl

set_option maxHeartbeats 8000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, leaves0, leaves1, leaves2, leaves3, leaves4, leaves5]
  rw [show (dats m 0 c).Φ t.succ = PhiS m c (t.val + 1) t.isLt from rfl, PhiS_castSucc m c t]
  unfold PhiS
  by_cases h0 : t.val % 2 = 0
  · have c0 : cond0_0 (grid0.coords t) := (hcond0_0 t).mpr h0
    have c1 : ¬cond0_1 (grid0.coords t) := fun q => by have := (hcond0_1 t).mp q; omega
    have c2 : ¬cond0_2 (grid0.coords t) := fun q => by have := (hcond0_2 t).mp q; omega
    rw [Dat.leavesExact_idle (dats m 0 c) 6 t (idleAt0_6_A t c0 c1 c2) (noFlush0_6_A t c0 c1 c2)]
    iintro ⟨⟨⟨%h, %a, %hi, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ (iblk m c 0 t) (iblk m c 1 t) (iblk m c 2 t) (iblk m c 3 t) (iblk m c 4 t) (iblk m c 5 t) _ h a c0 c1 c2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · iexists (tok m c t); iexists (acc0 m c t)
        isplitr; · ipureintro; exact fun _ _ => ⟨rfl, rfl⟩
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h1 : t.val % 2 = 1 := by omega
    have c0 : ¬cond0_0 (grid0.coords t) := fun q => h0 ((hcond0_0 t).mp q)
    have c1 : cond0_1 (grid0.coords t) := (hcond0_1 t).mpr h1
    have c2 : cond0_2 (grid0.coords t) := (hcond0_2 t).mpr h1
    rw [show (dats m 0 c).leavesExact 6 t = owns (c : Thread nD τ) (ms0_6 t) fullShare (outAt m c t) from by
      unfold Dat.leavesExact; rw [liveAt0_6_B t c0 c1 c2, after0_6]; try rfl]
    iintro ⟨⟨⟨%h, %a, %hi, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    obtain ⟨ha, hh⟩ := hi t.isLt h1
    subst ha; subst hh
    iapply (run_last c (grid0.coords t) _ _ _ _ _ _ _ _ _ _ _ _ _ _ _ _ _ _ (iblk m c 0 t) (iblk m c 1 t) (iblk m c 2 t) (iblk m c 3 t) (iblk m c 4 t) (iblk m c 5 t) _ (tok m c (prev t)) (acc0 m c (prev t)) c0 c1 c2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · iexists (tok m c (prev t)); iexists (outAt m c t)
        isplitr; · ipureintro; exact fun _ q => absurd q (by omega)
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%h, HS0⟩, ⟨%a, HS1⟩⟩, Hg⟩
  isplitl [HS0 HS1]
  · iexists h; iexists a
    isplitr; · ipureintro; exact fun _ h0 => absurd h0 (by decide)
    isplitl [HS0]; · iexact HS0
    iexact HS1
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS
  iintro ⟨⟨%h, %a, -, HS0, HS1⟩, Hg⟩
  isplitl [HS0 HS1]
  · isplitl [HS0]
    · iexists _; iexact HS0
    iexists _; iexact HS1
  iexact Hg

/-! ## The run and the frame -/

set_option backward.isDefEq.respectTransparency.types false in
/-- The run of the program, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel3Ideal.Dense

end
-- ==== Proof.DenseModel.lean ====
/- The dense layer as entries over the reals: a row's root-mean-square norm and its gated feed-forward. -/
module

public import proofs.«01_k».proof.Proof.ExpertModel

@[expose] public section

noncomputable section

namespace Cert.Dense

open Idealize.ShloMosaic Cert.Experts

/-- Entry `k` of a row's norm with gain `g`. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- Entry `d` of a row's result: the row with its feed-forward added. -/
def layerRow (x g : Fin 1024 → EReal) (G U : Fin 1024 → Fin 2816 → EReal) (D : Fin 2816 → Fin 1024 → EReal) (d : Fin 1024) : EReal :=
  x d + ∑ f, feat (norm x g) (fun k => G k f) (fun k => U k f) * D f d

/-- The features in two blocks. -/
theorem layerRow_blocks (x g : Fin 1024 → EReal) (G U : Fin 1024 → Fin 2816 → EReal) (D : Fin 2816 → Fin 1024 → EReal) (d : Fin 1024) :
    layerRow x g G U D d =
      x d + (∑ f : Fin 1408, feat (norm x g) (fun k => G k (Fin.ofNat 2816 f.val)) (fun k => U k (Fin.ofNat 2816 f.val)) * D (Fin.ofNat 2816 f.val) d)
        + ∑ f : Fin 1408, feat (norm x g) (fun k => G k (Fin.ofNat 2816 (1408 + f.val))) (fun k => U k (Fin.ofNat 2816 (1408 + f.val))) * D (Fin.ofNat 2816 (1408 + f.val)) d := by
  have h := Finset.sum_range_add (fun n : ℕ => feat (norm x g) (fun k => G k (Fin.ofNat 2816 n)) (fun k => U k (Fin.ofNat 2816 n)) * D (Fin.ofNat 2816 n) d) 1408 1408
  rw [Finset.sum_range, Finset.sum_range, Finset.sum_range (fun n => feat (norm x g) (fun k => G k (Fin.ofNat 2816 (1408 + n))) (fun k => U k (Fin.ofNat 2816 (1408 + n))) * D (Fin.ofNat 2816 (1408 + n)) d)] at h
  unfold layerRow
  rw [add_assoc, ← h]
  refine congrArg (fun a => x d + a) (Finset.sum_congr rfl fun f _ => ?_)
  rw [show Fin.ofNat 2816 f.val = f from Fin.ext (Nat.mod_eq_of_lt f.isLt)]

end Cert.Dense

end
-- ==== Proof.DenseBlocks.lean ====
/- The dense pipeline's blocks and payloads read at an index over the reals. -/
module

public import proofs.«01_k».proof.Proof.DenseFrame
public import proofs.«01_k».proof.Proof.DenseModel
public import Idealize.ShloMosaic.Lib.Pointwise
public import Idealize.ShloMosaic.Lib.Tactic.CleanTypes

@[expose] public section

noncomputable section

namespace Cert.Kernel3Ideal.Dense

open Idealize.ShloMosaic Idealize.ShloMosaic.TcCoe
open Cert.Kernel3Ideal Cert.Kernel3Ideal.Gen Cert.Experts Cert.Dense

/-! ## The payloads -/

theorem pay1_apply (x : FVec Ideal S1024x1024 .f32) (g : FVec Ideal S1x1024 .f32) (q k : Fin 1024) :
    (k0_pay1 x g : FVec Ideal S1024x1024 .bf16) (ix2 q k) = norm (fun k => x (ix2 q k)) (fun k => g (ix2 0 k)) k := by
  pointwise [k0_pay1]
  rfl

theorem pay2_apply (x : FVec Ideal S1024x1024 .f32) (g : FVec Ideal S1x1024 .f32) (q k : Fin 1024) :
    (k0_pay2 x g : FVec Ideal S1024x1024 .bf16) (ix2 q k) = norm (fun k => x (ix2 q k)) (fun k => g (ix2 0 k)) k := by
  unfold k0_pay2
  rw [show shapeCast S1024x1024 (k0_pay1 x g : FVec Ideal S1024x1024 .bf16) shapeCasts_S1024x1024_S1024x1024 = k0_pay1 x g from shapeCast_self ..]
  exact pay1_apply x g q k

theorem pay3_apply (x : FVec Ideal S1024x1024 .f32) (n : FVec Ideal S1x1024 .f32) (g u : FVec Ideal S1024x1408 .bf16) (d : FVec Ideal S1408x1024 .bf16) (q e : Fin 1024) :
    (k0_pay3 x n g u d : FVec Ideal S1024x1024 .f32) (ix2 q e) =
      HAdd.hAdd (α := EReal) (β := EReal) (x (ix2 q e)) (∑ f : Fin 1408, feat (norm (fun k => x (ix2 q k)) (fun k => n (ix2 0 k))) (fun k => g (ix2 k f)) (fun k => u (ix2 k f)) * d (ix2 f e)) := by
  unfold k0_pay3
  generalize hy : (k0_pay1 x n : FVec Ideal S1024x1024 .bf16) = y
  have hn : norm (fun k => x (ix2 q k)) (fun k => n (ix2 0 k)) = fun k => y (ix2 q k) := funext fun k => by
    rw [← hy]; exact (pay1_apply x n q k).symm
  rw [hn]
  pointwise []
  rfl

theorem pay4_apply (a : FVec Ideal S1024x1024 .f32) (x : FVec Ideal S1024x1024 .bf16) (g u : FVec Ideal S1024x1408 .bf16) (d : FVec Ideal S1408x1024 .bf16) (q e : Fin 1024) :
    (k0_pay4 a x g u d : FVec Ideal S1024x1024 .f32) (ix2 q e) =
      HAdd.hAdd (α := EReal) (β := EReal) (a (ix2 q e)) (∑ f : Fin 1408, feat (fun k => x (ix2 q k)) (fun k => g (ix2 k f)) (fun k => u (ix2 k f)) * d (ix2 f e)) := by
  pointwise [k0_pay4]
  rfl

/-! ## The arguments -/

variable (m : (ℓ : Loc nD τ sig) → Buf (Elt Ideal) ℓ) (c : Dev nD)

def aX (r : Fin 65536) (k : Fin 1024) : EReal := (m ((c : Thread nD τ).loc main_arg0) : S65536x1024.Idx → EReal) (ix2 r k)
def aN (k : Fin 1024) : EReal := (m ((c : Thread nD τ).loc main_arg1) : S1024.Idx → EReal) (ix1 k)
def aG (k : Fin 1024) (f : Fin 2816) : EReal := (m ((c : Thread nD τ).loc main_arg2) : S1024x2816.Idx → EReal) (ix2 k f)
def aU (k : Fin 1024) (f : Fin 2816) : EReal := (m ((c : Thread nD τ).loc main_arg3) : S1024x2816.Idx → EReal) (ix2 k f)
def aD (f : Fin 2816) (d : Fin 1024) : EReal := (m ((c : Thread nD τ).loc main_arg4) : S2816x1024.Idx → EReal) (ix2 f d)

/-! ## The blocks, at their literal shapes -/

def b0 (t : Fin cfg0.N) : FVec Ideal S1024x1024 .f32 := iblk m c 0 t
def b1 (t : Fin cfg0.N) : FVec Ideal S1x1024 .f32 := iblk m c 1 t
def b2 (t : Fin cfg0.N) : FVec Ideal S1024x1408 .bf16 := iblk m c 2 t
def b3 (t : Fin cfg0.N) : FVec Ideal S1024x1408 .bf16 := iblk m c 3 t
def b4 (t : Fin cfg0.N) : FVec Ideal S1408x1024 .bf16 := iblk m c 4 t

theorem b0_apply (t : Fin cfg0.N) (q : Fin 1024) (k : Fin 1024) :
    b0 m c t (ix2 q k) = aX m c (Fin.ofNat 65536 (1024 * (t.val / 2) + q.val)) k := by
  have hN : t.val < 128 := Nat.lt_of_lt_of_eq t.isLt N_0
  have hc0 := coord0 t
  have hc1 := coord1 t
  have hb : ((cfg0.win 0).blk t).view.emb (ix2 q k) = ix2 (n0 := 65536) (n1 := 1024) (Fin.ofNat 65536 (1024 * (t.val / 2) + q.val)) k := by
    funext a
    apply Fin.ext
    match a with
    | ⟨0, _⟩ => show ((grid0.coords t 0).val % 2 ^ 32) * 1024 + 1 * q.val = (1024 * (t.val / 2) + q.val) % 65536; omega
    | ⟨1, _⟩ => show 0 * 1024 + 1 * k.val = k.val; omega
  show V m c (Pipeline.arrRef spec0 0) (((cfg0.win 0).blk t).view.emb (ix2 q k)) = _
  rw [hb]
  show V m c main_arg0 _ = _
  rw [V_main_arg0]
  rfl

theorem b1_apply (t : Fin cfg0.N) (z : Fin 1) (k : Fin 1024) :
    b1 m c t (ix2 z k) = aN m c k := by
  have hN : t.val < 128 := Nat.lt_of_lt_of_eq t.isLt N_0
  have hc0 := coord0 t
  have hc1 := coord1 t
  have hb : ((cfg0.win 1).blk t).view.emb (ix2 z k) = ix2 (n0 := 1) (n1 := 1024) z k := by
    funext a
    apply Fin.ext
    match a with
    | ⟨0, _⟩ => show 0 * 1 + 1 * z.val = z.val; omega
    | ⟨1, _⟩ => show 0 * 1024 + 1 * k.val = k.val; omega
  show V m c (Pipeline.arrRef spec0 1) (((cfg0.win 1).blk t).view.emb (ix2 z k)) = _
  rw [hb]
  show V m c main_v3 _ = _
  entry_read
  pointwise []
  rfl

theorem b2_apply (t : Fin cfg0.N) (k : Fin 1024) (f : Fin 1408) :
    b2 m c t (ix2 k f) = aG m c k (Fin.ofNat 2816 (1408 * (t.val % 2) + f.val)) := by
  have hN : t.val < 128 := Nat.lt_of_lt_of_eq t.isLt N_0
  have hc0 := coord0 t
  have hc1 := coord1 t
  have hb : ((cfg0.win 2).blk t).view.emb (ix2 k f) = ix2 (n0 := 1024) (n1 := 2816) k (Fin.ofNat 2816 (1408 * (t.val % 2) + f.val)) := by
    funext a
    apply Fin.ext
    match a with
    | ⟨0, _⟩ => show 0 * 1024 + 1 * k.val = k.val; omega
    | ⟨1, _⟩ => show ((grid0.coords t 1).val % 2 ^ 32) * 1408 + 1 * f.val = (1408 * (t.val % 2) + f.val) % 2816; omega
  show V m c (Pipeline.arrRef spec0 2) (((cfg0.win 2).blk t).view.emb (ix2 k f)) = _
  rw [hb]
  show V m c main_v0 _ = _
  entry_read
  pointwise []
  rfl

theorem b3_apply (t : Fin cfg0.N) (k : Fin 1024) (f : Fin 1408) :
    b3 m c t (ix2 k f) = aU m c k (Fin.ofNat 2816 (1408 * (t.val % 2) + f.val)) := by
  have hN : t.val < 128 := Nat.lt_of_lt_of_eq t.isLt N_0
  have hc0 := coord0 t
  have hc1 := coord1 t
  have hb : ((cfg0.win 3).blk t).view.emb (ix2 k f) = ix2 (n0 := 1024) (n1 := 2816) k (Fin.ofNat 2816 (1408 * (t.val % 2) + f.val)) := by
    funext a
    apply Fin.ext
    match a with
    | ⟨0, _⟩ => show 0 * 1024 + 1 * k.val = k.val; omega
    | ⟨1, _⟩ => show ((grid0.coords t 1).val % 2 ^ 32) * 1408 + 1 * f.val = (1408 * (t.val % 2) + f.val) % 2816; omega
  show V m c (Pipeline.arrRef spec0 3) (((cfg0.win 3).blk t).view.emb (ix2 k f)) = _
  rw [hb]
  show V m c main_v1 _ = _
  entry_read
  pointwise []
  rfl

theorem b4_apply (t : Fin cfg0.N) (f : Fin 1408) (d : Fin 1024) :
    b4 m c t (ix2 f d) = aD m c (Fin.ofNat 2816 (1408 * (t.val % 2) + f.val)) d := by
  have hN : t.val < 128 := Nat.lt_of_lt_of_eq t.isLt N_0
  have hc0 := coord0 t
  have hc1 := coord1 t
  have hb : ((cfg0.win 4).blk t).view.emb (ix2 f d) = ix2 (n0 := 2816) (n1 := 1024) (Fin.ofNat 2816 (1408 * (t.val % 2) + f.val)) d := by
    funext a
    apply Fin.ext
    match a with
    | ⟨0, _⟩ => show ((grid0.coords t 1).val % 2 ^ 32) * 1408 + 1 * f.val = (1408 * (t.val % 2) + f.val) % 2816; omega
    | ⟨1, _⟩ => show 0 * 1024 + 1 * d.val = d.val; omega
  show V m c (Pipeline.arrRef spec0 4) (((cfg0.win 4).blk t).view.emb (ix2 f d)) = _
  rw [hb]
  show V m c main_v2 _ = _
  entry_read
  pointwise []
  rfl

end Cert.Kernel3Ideal.Dense

end
-- ==== Proof.DenseValue.lean ====
/- The dense pipeline's output array over the reals: the layer's result. -/
module

public import proofs.«01_k».proof.Proof.DenseBlocks
public import proofs.«01_k».proof.Proof.Gen.Kernel3Ideal.Points
public import Idealize.ShloMosaic.Lib.Claim

@[expose] public section

noncomputable section

namespace Cert.Kernel3Ideal.Dense

open Idealize.ShloMosaic Idealize.ShloMosaic.TcCoe Idealize.SL.Sem
open Cert.Kernel3Ideal Cert.Kernel3Ideal.Gen Cert.Experts Cert.Dense

variable (m : (ℓ : Loc nD τ sig) → Buf (Elt Ideal) ℓ) (ρ : Dev nD → PrngReg) (c : Dev nD)

/-- The layer's result for token `r` at column `d`. -/
def resultAt (r : Fin 65536) (d : Fin 1024) : EReal := layerRow (aX m c r) (aN m c) (aG m c) (aU m c) (aD m c) d

/-- The output array. -/
def G6 (c : Dev nD) : Buf (Elt Ideal) ((c : Thread nD τ).loc main_v5) := fun (i : S65536x1024.Idx) => resultAt m c (i 0) (i 1)

/-- What the last point of a tile leaves in the output block. -/
theorem out_apply (t : Fin cfg0.N) (h1 : t.val % 2 = 1) (q d : Fin 1024) :
    (outAt m c t : FVec Ideal S1024x1024 .f32) (ix2 q d) = resultAt m c (Fin.ofNat 65536 (1024 * (t.val / 2) + q.val)) d := by
  have hN : t.val < 128 := Nat.lt_of_lt_of_eq t.isLt N_0
  have hd : (prev t).val / 2 = t.val / 2 := by show (t.val - 1) / 2 = _; omega
  have hm : (prev t).val % 2 = 0 := by show (t.val - 1) % 2 = _; omega
  have hrow : ∀ k : Fin 1024, b0 m c (prev t) (ix2 q k) = aX m c (Fin.ofNat 65536 (1024 * (t.val / 2) + q.val)) k := fun k => by
    rw [b0_apply, hd]
  have hnorm : norm (fun k => b0 m c (prev t) (ix2 q k)) (fun k => b1 m c (prev t) (ix2 0 k)) = norm (aX m c (Fin.ofNat 65536 (1024 * (t.val / 2) + q.val))) (aN m c) :=
    congr (congrArg norm (funext hrow)) (funext fun k => b1_apply m c (prev t) 0 k)
  have e : (outAt m c t : FVec Ideal S1024x1024 .f32) (ix2 q d)
      = (k0_pay4 (F := Ideal) (k0_pay3 (F := Ideal) (b0 m c (prev t)) (b1 m c (prev t)) (b2 m c (prev t)) (b3 m c (prev t)) (b4 m c (prev t))) (k0_pay2 (F := Ideal) (b0 m c (prev t)) (b1 m c (prev t))) (b2 m c t) (b3 m c t) (b4 m c t) : FVec Ideal S1024x1024 .f32) (ix2 q d) := rfl
  have hp2 : (fun k => (k0_pay2 (b0 m c (prev t)) (b1 m c (prev t)) : FVec Ideal S1024x1024 .bf16) (ix2 q k)) = norm (aX m c (Fin.ofNat 65536 (1024 * (t.val / 2) + q.val))) (aN m c) := by
    funext k
    rw [pay2_apply, hnorm]
  rw [e, pay4_apply, pay3_apply, hp2, hnorm, hrow]
  unfold resultAt
  rw [layerRow_blocks]
  refine congrArg₂ (fun a b : EReal => a + b) (congrArg (fun a : EReal => _ + a) (Finset.sum_congr rfl fun f _ => ?_)) (Finset.sum_congr rfl fun f _ => ?_)
  · simp only [b2_apply, b3_apply, b4_apply, hm, Nat.mul_zero, Nat.zero_add]
  · simp only [b2_apply, b3_apply, b4_apply, h1, Nat.mul_one]

theorem emb6 (t : Fin cfg0.N) (q d : Fin 1024) :
    ((cfg0.win 6).blk t).view.emb (ix2 q d) = ix2 (n0 := 65536) (n1 := 1024) (Fin.ofNat 65536 (1024 * (t.val / 2) + q.val)) d := by
  have hN : t.val < 128 := Nat.lt_of_lt_of_eq t.isLt N_0
  have hc := coord0 t
  funext a
  apply Fin.ext
  match a with
  | ⟨0, _⟩ =>
    show ((grid0.coords t 0).val % 2 ^ 32) * 1024 + 1 * q.val = (1024 * (t.val / 2) + q.val) % 65536
    omega
  | ⟨1, _⟩ => show 0 * 1024 + 1 * d.val = d.val; omega

theorem xinj6 (t : Fin cfg0.N) (q d : Fin 1024) :
    ((cfg0.win 6).xinj (grid0.coords t) (ix2 q d) : S1024x1024.Idx) = ix2 q d := by
  funext a
  match a with
  | ⟨0, _⟩ => rfl
  | ⟨1, _⟩ => rfl

/-- What a grid point writes back is its block of the output array. -/
theorem flushed6_eq (t : Fin cfg0.N) (hf : (cfg0.win 6).flush t = true) :
    (dats m 0 c).flushed 6 t = ((cfg0.win 6).blk t).view.read (Elt Ideal) (G6 m c) := by
  have h1 : t.val % 2 = 1 := (flush0_6 t).mp hf
  show (cfg0.win 6).cut (grid0.coords t) ((dats m 0 c).after 6 t) = _
  rw [after0_6]
  refine funext fun (y : S1024x1024.Idx) => ?_
  obtain ⟨q, d, rfl⟩ : ∃ (q d : Fin 1024), y = ix2 q d := by
    refine ⟨y 0, y 1, funext fun a => ?_⟩
    match a with
    | ⟨0, _⟩ => rfl
    | ⟨1, _⟩ => rfl
  have e1 : (outAt m c t : FVec Ideal S1024x1024 .f32) ((cfg0.win 6).xinj (grid0.coords t) (ix2 q d)) = (outAt m c t : FVec Ideal S1024x1024 .f32) (ix2 q d) :=
    congrArg (outAt m c t : FVec Ideal S1024x1024 .f32) (xinj6 t q d)
  have e2 : G6 m c (((cfg0.win 6).blk t).view.emb (ix2 q d)) = G6 m c (ix2 (n0 := 65536) (n1 := 1024) (Fin.ofNat 65536 (1024 * (t.val / 2) + q.val)) d) :=
    congrArg (G6 m c) (emb6 t q d)
  refine e1.trans (Eq.trans ?_ e2.symm)
  exact out_apply m c t h1 q d

theorem mem_blk6 (t : Fin cfg0.N) (i : S65536x1024.Idx) :
    i ∈ ((cfg0.win 6).blk t).view.set ↔ ∀ a : Fin 2, cc0_transform_6 (grid0.coords t) a * S1024x1024.size a ≤ (i a).val ∧ (i a).val < cc0_transform_6 (grid0.coords t) a * S1024x1024.size a + S1024x1024.size a := by
  show i ∈ ((View.whole main_v5).slice (Rect.block (s := S65536x1024) S1024x1024.size (cc0_transform_6 (grid0.coords t)) (hinb0_6 (grid0.coords t)))).set ↔ _
  rw [View.set_slice_whole]
  exact Rect.mem_set_unit ..

/-- Every entry of the output array is in a block some point writes back. -/
theorem cover6 (i : S65536x1024.Idx) : ∃ t : Fin cfg0.N, (cfg0.win 6).flush t = true ∧ i ∈ ((cfg0.win 6).blk t).view.set := by
  have h0 : (i 0).val < 65536 := (i 0).isLt
  have h1 : (i 1).val < 1024 := (i 1).isLt
  have hN : 2 * ((i 0).val / 1024) + 1 < grid0.N := lt_of_lt_of_eq (by omega) N_0.symm
  have hc : (grid0.coords (⟨2 * ((i 0).val / 1024) + 1, hN⟩ : Fin grid0.N) 0).val = (2 * ((i 0).val / 1024) + 1) / 2 := coord0 _
  refine ⟨⟨2 * ((i 0).val / 1024) + 1, hN⟩, (flush0_6 _).mpr (by show (2 * ((i 0).val / 1024) + 1) % 2 = 1; omega), (mem_blk6 _ i).mpr fun a => ?_⟩
  match a with
  | ⟨0, _⟩ =>
    show (grid0.coords (⟨2 * ((i 0).val / 1024) + 1, hN⟩ : Fin grid0.N) 0).val % 2 ^ 32 * 1024 ≤ (i 0).val
      ∧ (i 0).val < (grid0.coords (⟨2 * ((i 0).val / 1024) + 1, hN⟩ : Fin grid0.N) 0).val % 2 ^ 32 * 1024 + 1024
    omega
  | ⟨1, _⟩ => show 0 * 1024 ≤ (i 1).val ∧ (i 1).val < 0 * 1024 + 1024; omega

/-- The output array after the run. -/
theorem final6 : (dats m 0 c).arrAt 6 cfg0.N = G6 m c :=
  (dats m 0 c).arrAt_eq_of_cover 6 _ (fun t hf => flushed6_eq m c t hf) cover6

/-- The run, with the output array at the layer's result. -/
theorem run_value : θ_run defs (onTc (τ := τ) (main (F := Ideal))) ⟨m, fun _ => 0, ρ⟩ fun r => ∀ c : Dev nD,
    r.2.mem ((c : Thread nD τ).loc main_v5) = G6 m c :=
  (θ_run defs _ _).mono (fun r h c => ((h c).1 6).trans (final6 m c)) (run_main m ρ)

end Cert.Kernel3Ideal.Dense

end
-- ==== Proof.DenseRef.lean ====
/- The dense layer's reference at an index: the row's result. -/
module

public import proofs.«01_k».proof.Proof.Gen.Reference3Ideal.Run
public import proofs.«01_k».proof.Proof.DenseModel
public import Idealize.ShloMosaic.Lib.Pointwise
public import Idealize.ShloMosaic.Lib.Claim

@[expose] public section

set_option maxRecDepth 16384

noncomputable section

namespace Cert.Reference3Ideal.Dense

open Idealize.ShloMosaic Idealize.ShloMosaic.TcCoe Idealize.SL.Sem
open Idealize.ShloMosaic.StableHlo
open Cert.Reference3Ideal Cert.Reference3Ideal.Gen Cert.Experts Cert.Dense

/-- The normed rows. -/
def normed (x : FVec Ideal S65536x1024 .f32) (n : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 n))

theorem normed_apply (x : FVec Ideal S65536x1024 .f32) (n : FVec Ideal S1024 .f32) (r : Fin 65536) (k : Fin 1024) :
    normed x n (ix2 r k) = norm (fun k => x (ix2 r k)) (fun k => n (ix1 k)) k := by
  pointwise [normed]
  rfl

/-- The normed rows through a matrix. -/
def proj (x : FVec Ideal S65536x1024 .f32) (n : FVec Ideal S1024 .f32) (g : FVec Ideal S1024x2816 .f32) : FVec Ideal S65536x2816 .f32 :=
  Host.dotGeneral dot_S65536x1024_S1024x2816_S65536x2816_1_0_0_1_n_n none (normed x n) g

theorem proj_apply (x : FVec Ideal S65536x1024 .f32) (n : FVec Ideal S1024 .f32) (g : FVec Ideal S1024x2816 .f32) (r : Fin 65536) (f : Fin 2816) :
    proj x n g (ix2 r f) = ∑ k, norm (fun k => x (ix2 r k)) (fun k => n (ix1 k)) k * g (ix2 k f) := by
  unfold proj
  generalize hy : normed x n = y
  have hn : norm (fun k => x (ix2 r k)) (fun k => n (ix1 k)) = fun k => y (ix2 r k) := funext fun k => by
    rw [← hy]; exact (normed_apply x n r k).symm
  rw [hn]
  pointwise []

/-- The reference's result. -/
def result (x : FVec Ideal S65536x1024 .f32) (n : FVec Ideal S1024 .f32) (g u : FVec Ideal S1024x2816 .f32) (d : FVec Ideal S2816x1024 .f32) : FVec Ideal S65536x1024 .f32 :=
  addf x (Host.dotGeneral dot_S65536x2816_S2816x1024_S65536x1024_1_0_0_1_n_n none (mulf (mulf (proj x n g) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (proj x n g)))))) (proj x n u)) d)

theorem result_apply (x : FVec Ideal S65536x1024 .f32) (n : FVec Ideal S1024 .f32) (g u : FVec Ideal S1024x2816 .f32) (d : FVec Ideal S2816x1024 .f32) (r : Fin 65536) (e : Fin 1024) :
    result x n g u d (ix2 r e) = layerRow (fun k => x (ix2 r k)) (fun k => n (ix1 k)) (fun k f => g (ix2 k f)) (fun k f => u (ix2 k f)) (fun f e => d (ix2 f e)) e := by
  unfold result layerRow feat
  have hg := proj_apply x n g r
  have hu := proj_apply x n u r
  simp only [← hg, ← hu]
  generalize proj x n g = p
  generalize proj x n u = s
  pointwise []
  rfl

end Cert.Reference3Ideal.Dense

end
-- ==== Proof.DenseClaim.lean ====
/- The claims about the dense layer. -/
module

public import proofs.«01_k».proof.Defs
public import proofs.«01_k».proof.Proof.Gen.Kernel3
public import proofs.«01_k».proof.Proof.DenseValue
public import proofs.«01_k».proof.Proof.DenseRef

@[expose] public section

noncomputable section

namespace Cert.Dense

open Idealize.ShloMosaic Idealize.ShloMosaic.TcCoe Idealize.SL.Sem

/-- The two programs have one table of bodies. -/
theorem bodies_eq {F : FTy → Type} [FloatOps F] : Cert.Kernel3.defs₀ (F := F) = Cert.Kernel3Ideal.defs₀ (F := F) := by
  refine congrArg Defs.onTc (funext fun l => ?_)
  match l with
  | 0 => rfl

/-- The two programs have one table of procedures. -/
theorem defs_eq {F : FTy → Type} [FloatOps F] : Cert.Kernel3.defs (F := F) = Cert.Kernel3Ideal.defs (F := F) :=
  congrArg (Pipeline.defs Cert.Kernel3Ideal.pcfgs) bodies_eq

/-- The kernel's frame: its text is the ideal kernel's, whose run holds for any float values. -/
theorem frame_kernel : Cert.quiescent_Kernel3 := fun m ρ _ => by
  have hf := Cert.Kernel3Ideal.Dense.frame (F := Bits) m ρ
  rw [← defs_eq] at hf
  exact hf

/-- The ideal kernel's frame. -/
theorem frame_ideal : Cert.quiescent_Kernel3Ideal := fun m ρ _ => Cert.Kernel3Ideal.Dense.frame (F := Ideal) m ρ

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference make the layer's result. -/
theorem algebraic : Cert.algebraic_Kernel3Ideal_Reference3Ideal := fun m g m' g' _ hargs => by
  refine ⟨fun c => Cert.Kernel3Ideal.Dense.G6 m c, ?_, ?_⟩
  · exact (θ_run _ _ _).mono (fun r h c => ⟨h.1 c, h.2.1 c⟩)
      (θ_run_and (Cert.Kernel3Ideal.Dense.run_value m g) (Cert.Kernel3Ideal.Dense.frame m g))
  · refine (θ_run _ _ _).mono (fun r h c => ⟨?_, (h c).2⟩) (Cert.Reference3Ideal.Value.run m' g')
    refine (h c).1.trans (funext fun i => ?_)
    obtain ⟨h0, h1, h2, h3, h4, h5⟩ := hargs c
    obtain ⟨b, t, rfl⟩ : ∃ (b : Fin 65536) (t : Fin 1024), i = ix2 b t := by
      refine ⟨i 0, i 1, funext fun a => ?_⟩
      match a with
      | ⟨0, _⟩ => rfl
      | ⟨1, _⟩ => rfl
    refine (Cert.Reference3Ideal.Dense.result_apply _ _ _ _ _ b t).trans ?_
    rw [h0, h1, h2, h3, h4]
    rfl

end Cert.Dense

end
-- ==== Proof.MergeModel.lean ====
/- The three branches' merge as entries over the reals: the gated sum of the branches through the output matrix. -/
module

public import proofs.«01_k».proof.Proof.DenseModel

@[expose] public section

noncomputable section

namespace Cert.Merge

open Idealize.ShloMosaic

/-- Entry `k` of the gated sum of the branches: each branch's row through its matrix, times the logistic of its gate. -/
def gated (a b c : Fin 512 → EReal) (g h l : Fin 1024 → EReal) (A B C : Fin 512 → Fin 1024 → EReal) (k : Fin 1024) : EReal :=
  Ideal.logistic (g k) * (∑ j, a j * A j k) + Ideal.logistic (h k) * (∑ j, b j * B j k) + Ideal.logistic (l k) * (∑ j, c j * C j k)

/-- Entry `d` of a row's result: the row with its merged branches added. -/
def mergeRow (x : Fin 1024 → EReal) (a b c : Fin 512 → EReal) (g h l : Fin 1024 → EReal) (A B C : Fin 512 → Fin 1024 → EReal) (W : Fin 1024 → Fin 1024 → EReal) (d : Fin 1024) : EReal :=
  x d + ∑ k, gated a b c g h l A B C k * W k d

end Cert.Merge

end
-- ==== Proof.MergeBlocks.lean ====
/- The merge pipeline's blocks and payload read at an index over the reals. -/
module

public import proofs.«01_k».proof.Proof.Gen.Kernel4Ideal.Frame
public import proofs.«01_k».proof.Proof.MergeModel
public import Idealize.ShloMosaic.Lib.Pointwise
public import Idealize.ShloMosaic.Lib.Tactic.CleanTypes

@[expose] public section

noncomputable section

namespace Cert.Kernel4Ideal.Merge

open Idealize.ShloMosaic Idealize.ShloMosaic.TcCoe
open Cert.Kernel4Ideal Cert.Kernel4Ideal.Gen Cert.Merge

theorem pay1_apply (g : FVec Ideal S512x1024 .bf16) (a : FVec Ideal S512x512 .bf16) (A : FVec Ideal S512x1024 .bf16) (h : FVec Ideal S512x1024 .bf16) (b : FVec Ideal S512x512 .bf16) (B : FVec Ideal S512x1024 .bf16)
    (l : FVec Ideal S512x1024 .bf16) (c : FVec Ideal S512x512 .bf16) (C : FVec Ideal S512x1024 .bf16) (x : FVec Ideal S512x1024 .f32) (W : FVec Ideal S1024x1024 .bf16) (q : Fin 512) (d : Fin 1024) :
    (k0_pay1 g a A h b B l c C x W : FVec Ideal S512x1024 .f32) (ix2 q d) =
      mergeRow (fun k => x (ix2 q k)) (fun j => a (ix2 q j)) (fun j => b (ix2 q j)) (fun j => c (ix2 q j)) (fun k => g (ix2 q k)) (fun k => h (ix2 q k)) (fun k => l (ix2 q k))
        (fun j k => A (ix2 j k)) (fun j k => B (ix2 j k)) (fun j k => C (ix2 j k)) (fun k d => W (ix2 k d)) d := by
  unfold mergeRow gated
  pointwise [k0_pay1]

theorem coord0 (t : Fin grid0.N) : (grid0.coords t 0).val = t.val := by
  have ht : t.val < 128 := Nat.lt_of_lt_of_eq t.isLt N_0
  have e0 : (grid0.coords t 0).val = t.val / 1 % 128 := Pipeline.Grid.coords_val t 0 (by decide) rfl
  omega

variable (m : (ℓ : Loc nD τ sig) → Buf (Elt Ideal) ℓ) (c : Dev nD)

def aX (r : Fin 65536) (k : Fin 1024) : EReal := (m ((c : Thread nD τ).loc main_arg0) : S65536x1024.Idx → EReal) (ix2 r k)
def aA (r : Fin 65536) (k : Fin 512) : EReal := (m ((c : Thread nD τ).loc main_arg1) : S65536x512.Idx → EReal) (ix2 r k)
def aB (r : Fin 65536) (k : Fin 512) : EReal := (m ((c : Thread nD τ).loc main_arg2) : S65536x512.Idx → EReal) (ix2 r k)
def aC (r : Fin 65536) (k : Fin 512) : EReal := (m ((c : Thread nD τ).loc main_arg3) : S65536x512.Idx → EReal) (ix2 r k)
def aP (r : Fin 65536) (k : Fin 8192) : EReal := (m ((c : Thread nD τ).loc main_arg4) : S65536x8192.Idx → EReal) (ix2 r k)
def wA (r : Fin 512) (k : Fin 1024) : EReal := (m ((c : Thread nD τ).loc main_arg5) : S512x1024.Idx → EReal) (ix2 r k)
def wB (r : Fin 512) (k : Fin 1024) : EReal := (m ((c : Thread nD τ).loc main_arg6) : S512x1024.Idx → EReal) (ix2 r k)
def wC (r : Fin 512) (k : Fin 1024) : EReal := (m ((c : Thread nD τ).loc main_arg7) : S512x1024.Idx → EReal) (ix2 r k)
def wO (r : Fin 1024) (k : Fin 1024) : EReal := (m ((c : Thread nD τ).loc main_arg8) : S1024x1024.Idx → EReal) (ix2 r k)

def b0 (t : Fin cfg0.N) : FVec Ideal S512x1024 .f32 := iblk m c 0 t

theorem b0_apply (t : Fin cfg0.N) (q : Fin 512) (k : Fin 1024) : b0 m c t (ix2 q k) = aX m c (Fin.ofNat 65536 (512 * t.val + q.val)) k := by
  have hN : t.val < 128 := Nat.lt_of_lt_of_eq t.isLt N_0
  have hc0 := coord0 t
  have hb : ((cfg0.win 0).blk t).view.emb (ix2 q k) = ix2 (n0 := 65536) (n1 := 1024) (Fin.ofNat 65536 (512 * t.val + q.val)) k := by
    funext a
    apply Fin.ext
    match a with
    | ⟨0, _⟩ => show ((grid0.coords t 0).val % 2 ^ 32) * 512 + 1 * q.val = (512 * t.val + q.val) % 65536; omega
    | ⟨1, _⟩ => show 0 * 1024 + 1 * k.val = k.val; omega
  show V m c (Pipeline.arrRef spec0 0) (((cfg0.win 0).blk t).view.emb (ix2 q k)) = _
  rw [hb]
  show V m c main_arg0 _ = _
  rw [V_main_arg0]
  rfl

def b1 (t : Fin cfg0.N) : FVec Ideal S512x512 .bf16 := iblk m c 1 t

theorem b1_apply (t : Fin cfg0.N) (q : Fin 512) (k : Fin 512) : b1 m c t (ix2 q k) = aA m c (Fin.ofNat 65536 (512 * t.val + q.val)) k := by
  have hN : t.val < 128 := Nat.lt_of_lt_of_eq t.isLt N_0
  have hc0 := coord0 t
  have hb : ((cfg0.win 1).blk t).view.emb (ix2 q k) = ix2 (n0 := 65536) (n1 := 512) (Fin.ofNat 65536 (512 * t.val + q.val)) k := by
    funext a
    apply Fin.ext
    match a with
    | ⟨0, _⟩ => show ((grid0.coords t 0).val % 2 ^ 32) * 512 + 1 * q.val = (512 * t.val + q.val) % 65536; omega
    | ⟨1, _⟩ => show 0 * 512 + 1 * k.val = k.val; omega
  show V m c (Pipeline.arrRef spec0 1) (((cfg0.win 1).blk t).view.emb (ix2 q k)) = _
  rw [hb]
  show V m c main_arg1 _ = _
  rw [V_main_arg1]
  rfl

def b2 (t : Fin cfg0.N) : FVec Ideal S512x512 .bf16 := iblk m c 2 t

theorem b2_apply (t : Fin cfg0.N) (q : Fin 512) (k : Fin 512) : b2 m c t (ix2 q k) = aB m c (Fin.ofNat 65536 (512 * t.val + q.val)) k := by
  have hN : t.val < 128 := Nat.lt_of_lt_of_eq t.isLt N_0
  have hc0 := coord0 t
  have hb : ((cfg0.win 2).blk t).view.emb (ix2 q k) = ix2 (n0 := 65536) (n1 := 512) (Fin.ofNat 65536 (512 * t.val + q.val)) k := by
    funext a
    apply Fin.ext
    match a with
    | ⟨0, _⟩ => show ((grid0.coords t 0).val % 2 ^ 32) * 512 + 1 * q.val = (512 * t.val + q.val) % 65536; omega
    | ⟨1, _⟩ => show 0 * 512 + 1 * k.val = k.val; omega
  show V m c (Pipeline.arrRef spec0 2) (((cfg0.win 2).blk t).view.emb (ix2 q k)) = _
  rw [hb]
  show V m c main_arg2 _ = _
  rw [V_main_arg2]
  rfl

def b3 (t : Fin cfg0.N) : FVec Ideal S512x512 .bf16 := iblk m c 3 t

theorem b3_apply (t : Fin cfg0.N) (q : Fin 512) (k : Fin 512) : b3 m c t (ix2 q k) = aC m c (Fin.ofNat 65536 (512 * t.val + q.val)) k := by
  have hN : t.val < 128 := Nat.lt_of_lt_of_eq t.isLt N_0
  have hc0 := coord0 t
  have hb : ((cfg0.win 3).blk t).view.emb (ix2 q k) = ix2 (n0 := 65536) (n1 := 512) (Fin.ofNat 65536 (512 * t.val + q.val)) k := by
    funext a
    apply Fin.ext
    match a with
    | ⟨0, _⟩ => show ((grid0.coords t 0).val % 2 ^ 32) * 512 + 1 * q.val = (512 * t.val + q.val) % 65536; omega
    | ⟨1, _⟩ => show 0 * 512 + 1 * k.val = k.val; omega
  show V m c (Pipeline.arrRef spec0 3) (((cfg0.win 3).blk t).view.emb (ix2 q k)) = _
  rw [hb]
  show V m c main_arg3 _ = _
  rw [V_main_arg3]
  rfl

def b4 (t : Fin cfg0.N) : FVec Ideal S512x1024 .bf16 := iblk m c 4 t

theorem b4_apply (t : Fin cfg0.N) (q : Fin 512) (k : Fin 1024) : b4 m c t (ix2 q k) = aP m c (Fin.ofNat 65536 (512 * t.val + q.val)) (Fin.ofNat 8192 (5120 + k.val)) := by
  have hN : t.val < 128 := Nat.lt_of_lt_of_eq t.isLt N_0
  have hc0 := coord0 t
  have hb : ((cfg0.win 4).blk t).view.emb (ix2 q k) = ix2 (n0 := 65536) (n1 := 8192) (Fin.ofNat 65536 (512 * t.val + q.val)) (Fin.ofNat 8192 (5120 + k.val)) := by
    funext a
    apply Fin.ext
    match a with
    | ⟨0, _⟩ => show ((grid0.coords t 0).val % 2 ^ 32) * 512 + 1 * q.val = (512 * t.val + q.val) % 65536; omega
    | ⟨1, _⟩ => show 5 * 1024 + 1 * k.val = (5120 + k.val) % 8192; omega
  show V m c (Pipeline.arrRef spec0 4) (((cfg0.win 4).blk t).view.emb (ix2 q k)) = _
  rw [hb]
  show V m c main_arg4 _ = _
  rw [V_main_arg4]
  rfl

def b5 (t : Fin cfg0.N) : FVec Ideal S512x1024 .bf16 := iblk m c 5 t

theorem b5_apply (t : Fin cfg0.N) (q : Fin 512) (k : Fin 1024) : b5 m c t (ix2 q k) = aP m c (Fin.ofNat 65536 (512 * t.val + q.val)) (Fin.ofNat 8192 (6144 + k.val)) := by
  have hN : t.val < 128 := Nat.lt_of_lt_of_eq t.isLt N_0
  have hc0 := coord0 t
  have hb : ((cfg0.win 5).blk t).view.emb (ix2 q k) = ix2 (n0 := 65536) (n1 := 8192) (Fin.ofNat 65536 (512 * t.val + q.val)) (Fin.ofNat 8192 (6144 + k.val)) := by
    funext a
    apply Fin.ext
    match a with
    | ⟨0, _⟩ => show ((grid0.coords t 0).val % 2 ^ 32) * 512 + 1 * q.val = (512 * t.val + q.val) % 65536; omega
    | ⟨1, _⟩ => show 6 * 1024 + 1 * k.val = (6144 + k.val) % 8192; omega
  show V m c (Pipeline.arrRef spec0 5) (((cfg0.win 5).blk t).view.emb (ix2 q k)) = _
  rw [hb]
  show V m c main_arg4 _ = _
  rw [V_main_arg4]
  rfl

def b6 (t : Fin cfg0.N) : FVec Ideal S512x1024 .bf16 := iblk m c 6 t

theorem b6_apply (t : Fin cfg0.N) (q : Fin 512) (k : Fin 1024) : b6 m c t (ix2 q k) = aP m c (Fin.ofNat 65536 (512 * t.val + q.val)) (Fin.ofNat 8192 (7168 + k.val)) := by
  have hN : t.val < 128 := Nat.lt_of_lt_of_eq t.isLt N_0
  have hc0 := coord0 t
  have hb : ((cfg0.win 6).blk t).view.emb (ix2 q k) = ix2 (n0 := 65536) (n1 := 8192) (Fin.ofNat 65536 (512 * t.val + q.val)) (Fin.ofNat 8192 (7168 + k.val)) := by
    funext a
    apply Fin.ext
    match a with
    | ⟨0, _⟩ => show ((grid0.coords t 0).val % 2 ^ 32) * 512 + 1 * q.val = (512 * t.val + q.val) % 65536; omega
    | ⟨1, _⟩ => show 7 * 1024 + 1 * k.val = (7168 + k.val) % 8192; omega
  show V m c (Pipeline.arrRef spec0 6) (((cfg0.win 6).blk t).view.emb (ix2 q k)) = _
  rw [hb]
  show V m c main_arg4 _ = _
  rw [V_main_arg4]
  rfl

def b7 (t : Fin cfg0.N) : FVec Ideal S512x1024 .bf16 := iblk m c 7 t

theorem b7_apply (t : Fin cfg0.N) (q : Fin 512) (k : Fin 1024) : b7 m c t (ix2 q k) = wA m c q k := by
  have hN : t.val < 128 := Nat.lt_of_lt_of_eq t.isLt N_0
  have hc0 := coord0 t
  have hb : ((cfg0.win 7).blk t).view.emb (ix2 q k) = ix2 (n0 := 512) (n1 := 1024) q k := by
    funext a
    apply Fin.ext
    match a with
    | ⟨0, _⟩ => show 0 * 512 + 1 * q.val = q.val; omega
    | ⟨1, _⟩ => show 0 * 1024 + 1 * k.val = k.val; omega
  show V m c (Pipeline.arrRef spec0 7) (((cfg0.win 7).blk t).view.emb (ix2 q k)) = _
  rw [hb]
  show V m c main_v0 _ = _
  entry_read
  pointwise []
  rfl

def b8 (t : Fin cfg0.N) : FVec Ideal S512x1024 .bf16 := iblk m c 8 t

theorem b8_apply (t : Fin cfg0.N) (q : Fin 512) (k : Fin 1024) : b8 m c t (ix2 q k) = wB m c q k := by
  have hN : t.val < 128 := Nat.lt_of_lt_of_eq t.isLt N_0
  have hc0 := coord0 t
  have hb : ((cfg0.win 8).blk t).view.emb (ix2 q k) = ix2 (n0 := 512) (n1 := 1024) q k := by
    funext a
    apply Fin.ext
    match a with
    | ⟨0, _⟩ => show 0 * 512 + 1 * q.val = q.val; omega
    | ⟨1, _⟩ => show 0 * 1024 + 1 * k.val = k.val; omega
  show V m c (Pipeline.arrRef spec0 8) (((cfg0.win 8).blk t).view.emb (ix2 q k)) = _
  rw [hb]
  show V m c main_v1 _ = _
  entry_read
  pointwise []
  rfl

def b9 (t : Fin cfg0.N) : FVec Ideal S512x1024 .bf16 := iblk m c 9 t

theorem b9_apply (t : Fin cfg0.N) (q : Fin 512) (k : Fin 1024) : b9 m c t (ix2 q k) = wC m c q k := by
  have hN : t.val < 128 := Nat.lt_of_lt_of_eq t.isLt N_0
  have hc0 := coord0 t
  have hb : ((cfg0.win 9).blk t).view.emb (ix2 q k) = ix2 (n0 := 512) (n1 := 1024) q k := by
    funext a
    apply Fin.ext
    match a with
    | ⟨0, _⟩ => show 0 * 512 + 1 * q.val = q.val; omega
    | ⟨1, _⟩ => show 0 * 1024 + 1 * k.val = k.val; omega
  show V m c (Pipeline.arrRef spec0 9) (((cfg0.win 9).blk t).view.emb (ix2 q k)) = _
  rw [hb]
  show V m c main_v2 _ = _
  entry_read
  pointwise []
  rfl

def b10 (t : Fin cfg0.N) : FVec Ideal S1024x1024 .bf16 := iblk m c 10 t

theorem b10_apply (t : Fin cfg0.N) (q : Fin 1024) (k : Fin 1024) : b10 m c t (ix2 q k) = wO m c q k := by
  have hN : t.val < 128 := Nat.lt_of_lt_of_eq t.isLt N_0
  have hc0 := coord0 t
  have hb : ((cfg0.win 10).blk t).view.emb (ix2 q k) = ix2 (n0 := 1024) (n1 := 1024) q k := by
    funext a
    apply Fin.ext
    match a with
    | ⟨0, _⟩ => show 0 * 1024 + 1 * q.val = q.val; omega
    | ⟨1, _⟩ => show 0 * 1024 + 1 * k.val = k.val; omega
  show V m c (Pipeline.arrRef spec0 10) (((cfg0.win 10).blk t).view.emb (ix2 q k)) = _
  rw [hb]
  show V m c main_v3 _ = _
  entry_read
  pointwise []
  rfl

end Cert.Kernel4Ideal.Merge

end
-- ==== Proof.MergeValue.lean ====
/- The merge pipeline's output array over the reals: the merged rows. -/
module

public import proofs.«01_k».proof.Proof.MergeBlocks
public import proofs.«01_k».proof.Proof.Gen.Kernel4Ideal.Points
public import Idealize.ShloMosaic.Lib.Claim

@[expose] public section

noncomputable section

namespace Cert.Kernel4Ideal.Merge

open Idealize.ShloMosaic Idealize.ShloMosaic.TcCoe Idealize.SL.Sem
open Cert.Kernel4Ideal Cert.Kernel4Ideal.Gen Cert.Merge

variable (m : (ℓ : Loc nD τ sig) → Buf (Elt Ideal) ℓ) (ρ : Dev nD → PrngReg) (c : Dev nD)

/-- The merged row `r` at column `d`. -/
def resultAt (r : Fin 65536) (d : Fin 1024) : EReal :=
  mergeRow (aX m c r) (aA m c r) (aB m c r) (aC m c r) (fun k => aP m c r (Fin.ofNat 8192 (5120 + k.val))) (fun k => aP m c r (Fin.ofNat 8192 (6144 + k.val))) (fun k => aP m c r (Fin.ofNat 8192 (7168 + k.val)))
    (wA m c) (wB m c) (wC m c) (wO m c) d

/-- The output array. -/
def G11 (c : Dev nD) : Buf (Elt Ideal) ((c : Thread nD τ).loc main_v4) := fun (i : S65536x1024.Idx) => resultAt m c (i 0) (i 1)

/-- The body's one store is the payload of the whole blocks. -/
theorem out_eq (x0 : FVec Ideal S512x1024 .f32) (x1 x2 x3 : FVec Ideal S512x512 .bf16) (x4 x5 x6 x7 x8 x9 : FVec Ideal S512x1024 .bf16) (x10 : FVec Ideal S1024x1024 .bf16) :
    out0_11 (F := Ideal) x0 x1 x2 x3 x4 x5 x6 x7 x8 x9 x10 = k0_pay1 (F := Ideal) x4 x1 x7 x5 x2 x8 x6 x3 x9 x0 x10 := by
  have hz : (![0, 0] : Fin S512x1024.rank → Nat) = fun _ => 0 := funext fun a => by fin_cases a <;> rfl
  have hz1 : (![0, 0] : Fin S512x512.rank → Nat) = fun _ => 0 := funext fun a => by fin_cases a <;> rfl
  have hz2 : (![0, 0] : Fin S1024x1024.rank → Nat) = fun _ => 0 := funext fun a => by fin_cases a <;> rfl
  unfold out0_11
  rw [View.canon_unit_zero hz, View.ld_unit_zero hz, View.ld_unit_zero hz1, View.ld_unit_zero hz, View.ld_unit_zero hz, View.ld_unit_zero hz1, View.ld_unit_zero hz, View.ld_unit_zero hz, View.ld_unit_zero hz1, View.ld_unit_zero hz, View.ld_unit_zero hz, View.ld_unit_zero hz2]

/-- What a point leaves in the output block. -/
theorem out_apply (t : Fin cfg0.N) (q : Fin 512) (d : Fin 1024) :
    (out0_11 (F := Ideal) (b0 m c t) (b1 m c t) (b2 m c t) (b3 m c t) (b4 m c t) (b5 m c t) (b6 m c t) (b7 m c t) (b8 m c t) (b9 m c t) (b10 m c t) : FVec Ideal S512x1024 .f32) (ix2 q d)
      = resultAt m c (Fin.ofNat 65536 (512 * t.val + q.val)) d := by
  rw [out_eq, pay1_apply]
  unfold resultAt
  simp only [b0_apply, b1_apply, b2_apply, b3_apply, b4_apply, b5_apply, b6_apply, b7_apply, b8_apply, b9_apply, b10_apply]

theorem emb11 (t : Fin cfg0.N) (q : Fin 512) (d : Fin 1024) :
    ((cfg0.win 11).blk t).view.emb (ix2 q d) = ix2 (n0 := 65536) (n1 := 1024) (Fin.ofNat 65536 (512 * t.val + q.val)) d := by
  have hN : t.val < 128 := Nat.lt_of_lt_of_eq t.isLt N_0
  have hc := coord0 t
  funext a
  apply Fin.ext
  match a with
  | ⟨0, _⟩ =>
    show ((grid0.coords t 0).val % 2 ^ 32) * 512 + 1 * q.val = (512 * t.val + q.val) % 65536
    omega
  | ⟨1, _⟩ => show 0 * 1024 + 1 * d.val = d.val; omega

theorem xinj11 (t : Fin cfg0.N) (q : Fin 512) (d : Fin 1024) :
    ((cfg0.win 11).xinj (grid0.coords t) (ix2 q d) : S512x1024.Idx) = ix2 q d := by
  funext a
  match a with
  | ⟨0, _⟩ => rfl
  | ⟨1, _⟩ => rfl

/-- What a grid point writes back is its block of the output array. -/
theorem flushed11_eq (t : Fin cfg0.N) :
    (dats m 0 c).flushed 11 t = ((cfg0.win 11).blk t).view.read (Elt Ideal) (G11 m c) := by
  show (cfg0.win 11).cut (grid0.coords t) ((dats m 0 c).after 11 t) = _
  rw [after0_11]
  refine funext fun (y : S512x1024.Idx) => ?_
  obtain ⟨q, d, rfl⟩ : ∃ (q : Fin 512) (d : Fin 1024), y = ix2 q d := by
    refine ⟨y 0, y 1, funext fun a => ?_⟩
    match a with
    | ⟨0, _⟩ => rfl
    | ⟨1, _⟩ => rfl
  have e1 := congrArg (out0_11 (F := Ideal) (b0 m c t) (b1 m c t) (b2 m c t) (b3 m c t) (b4 m c t) (b5 m c t) (b6 m c t) (b7 m c t) (b8 m c t) (b9 m c t) (b10 m c t) : FVec Ideal S512x1024 .f32) (xinj11 t q d)
  have e2 : G11 m c (((cfg0.win 11).blk t).view.emb (ix2 q d)) = G11 m c (ix2 (n0 := 65536) (n1 := 1024) (Fin.ofNat 65536 (512 * t.val + q.val)) d) :=
    congrArg (G11 m c) (emb11 t q d)
  refine e1.trans (Eq.trans ?_ e2.symm)
  exact out_apply m c t q d

theorem mem_blk11 (t : Fin cfg0.N) (i : S65536x1024.Idx) :
    i ∈ ((cfg0.win 11).blk t).view.set ↔ ∀ a : Fin 2, cc0_transform_11 (grid0.coords t) a * S512x1024.size a ≤ (i a).val ∧ (i a).val < cc0_transform_11 (grid0.coords t) a * S512x1024.size a + S512x1024.size a := by
  show i ∈ ((View.whole main_v4).slice (Rect.block (s := S65536x1024) S512x1024.size (cc0_transform_11 (grid0.coords t)) (hinb0_11 (grid0.coords t)))).set ↔ _
  rw [View.set_slice_whole]
  exact Rect.mem_set_unit ..

/-- Every entry of the output array is in a block some point writes back. -/
theorem cover11 (i : S65536x1024.Idx) : ∃ t : Fin cfg0.N, (cfg0.win 11).flush t = true ∧ i ∈ ((cfg0.win 11).blk t).view.set := by
  have h0 : (i 0).val < 65536 := (i 0).isLt
  have h1 : (i 1).val < 1024 := (i 1).isLt
  have hN : (i 0).val / 512 < grid0.N := lt_of_lt_of_eq (by omega) N_0.symm
  have hc : (grid0.coords (⟨(i 0).val / 512, hN⟩ : Fin grid0.N) 0).val = (i 0).val / 512 := coord0 _
  refine ⟨⟨(i 0).val / 512, hN⟩, flush0_11 _, (mem_blk11 _ i).mpr fun a => ?_⟩
  match a with
  | ⟨0, _⟩ =>
    show (grid0.coords (⟨(i 0).val / 512, hN⟩ : Fin grid0.N) 0).val % 2 ^ 32 * 512 ≤ (i 0).val
      ∧ (i 0).val < (grid0.coords (⟨(i 0).val / 512, hN⟩ : Fin grid0.N) 0).val % 2 ^ 32 * 512 + 512
    omega
  | ⟨1, _⟩ => show 0 * 1024 ≤ (i 1).val ∧ (i 1).val < 0 * 1024 + 1024; omega

/-- The output array after the run. -/
theorem final11 : (dats m 0 c).arrAt 11 cfg0.N = G11 m c :=
  (dats m 0 c).arrAt_eq_of_cover 11 _ (fun t _ => flushed11_eq m c t) cover11

/-- The run, with the output array at the merged rows. -/
theorem run_value : θ_run defs (onTc (τ := τ) (main (F := Ideal))) ⟨m, fun _ => 0, ρ⟩ fun r => ∀ c : Dev nD,
    r.2.mem ((c : Thread nD τ).loc main_v4) = G11 m c :=
  (θ_run defs _ _).mono (fun r h c => ((h c).1 11).trans (final11 m c)) (run_main m ρ)

end Cert.Kernel4Ideal.Merge

end
-- ==== Proof.MergeRef.lean ====
/- The merge's reference at an index: the merged row. -/
module

public import proofs.«01_k».proof.Proof.Gen.Reference4Ideal.Run
public import proofs.«01_k».proof.Proof.MergeModel
public import Idealize.ShloMosaic.Lib.Pointwise
public import Idealize.ShloMosaic.Lib.Claim

@[expose] public section

set_option maxRecDepth 16384

noncomputable section

namespace Cert.Reference4Ideal.Merge

open Idealize.ShloMosaic Idealize.ShloMosaic.TcCoe Idealize.SL.Sem
open Idealize.ShloMosaic.StableHlo
open Cert.Reference4Ideal Cert.Reference4Ideal.Gen Cert.Merge

/-- The gates of all three branches. -/
def gates (p : FVec Ideal S65536x8192 .bf16) : FVec Ideal S65536x3072 .f32 :=
  Host.divf (broadcastInDim S65536x3072 ![] bcast_S_S65536x3072 (constant S_ .f32 0x3F800000#32)) (addf (broadcastInDim S65536x3072 ![] bcast_S_S65536x3072 (constant S_ .f32 0x3F800000#32)) (Host.exp (Host.negf (extf .f32 (extractStridedSlice S65536x3072 ![0, 5120] p slices_S65536x8192_S65536x3072_0_5120) bitsLt_bf16_f32))))

theorem gates_apply (p : FVec Ideal S65536x8192 .bf16) (r : Fin 65536) (f : Fin 3072) :
    gates p (ix2 r f) = Ideal.logistic (p (ix2 r (Fin.ofNat 8192 (5120 + f.val)))) := by
  have hf : (⟨5120 + f.val, by omega⟩ : Fin 8192) = Fin.ofNat 8192 (5120 + f.val) := Fin.ext (Nat.mod_eq_of_lt (by omega)).symm
  rw [← hf]
  pointwise [gates]
  rfl

/-- The merged rows before the output matrix. -/
def merged (a b c : FVec Ideal S65536x512 .bf16) (p : FVec Ideal S65536x8192 .bf16) (A B C : FVec Ideal S512x1024 .f32) : FVec Ideal S65536x1024 .f32 :=
  addf (addf (mulf (extractStridedSlice S65536x1024 ![0, 0] (gates p) slices_S65536x3072_S65536x1024_0_0) (Host.dotGeneral dot_S65536x512_S512x1024_S65536x1024_1_0_0_1_n_n none (extf .f32 a bitsLt_bf16_f32) A)) (mulf (extractStridedSlice S65536x1024 ![0, 1024] (gates p) slices_S65536x3072_S65536x1024_0_1024) (Host.dotGeneral dot_S65536x512_S512x1024_S65536x1024_1_0_0_1_n_n none (extf .f32 b bitsLt_bf16_f32) B))) (mulf (extractStridedSlice S65536x1024 ![0, 2048] (gates p) slices_S65536x3072_S65536x1024_0_2048) (Host.dotGeneral dot_S65536x512_S512x1024_S65536x1024_1_0_0_1_n_n none (extf .f32 c bitsLt_bf16_f32) C))

theorem merged_apply (a b c : FVec Ideal S65536x512 .bf16) (p : FVec Ideal S65536x8192 .bf16) (A B C : FVec Ideal S512x1024 .f32) (r : Fin 65536) (k : Fin 1024) :
    merged a b c p A B C (ix2 r k) = gated (fun j => a (ix2 r j)) (fun j => b (ix2 r j)) (fun j => c (ix2 r j)) (fun k => p (ix2 r (Fin.ofNat 8192 (5120 + k.val)))) (fun k => p (ix2 r (Fin.ofNat 8192 (6144 + k.val)))) (fun k => p (ix2 r (Fin.ofNat 8192 (7168 + k.val))))
      (fun j k => A (ix2 j k)) (fun j k => B (ix2 j k)) (fun j k => C (ix2 j k)) k := by
  have h0 := gates_apply p r ⟨k.val, by omega⟩
  have h1 := gates_apply p r ⟨1024 + k.val, by omega⟩
  have h2 := gates_apply p r ⟨2048 + k.val, by omega⟩
  simp only [← Nat.add_assoc] at h1 h2
  unfold merged gated
  generalize gates p = y at h0 h1 h2 ⊢
  simp only [← h0, ← h1, ← h2]
  pointwise []

/-- The reference's result. -/
def result (x : FVec Ideal S65536x1024 .f32) (a b c : FVec Ideal S65536x512 .bf16) (p : FVec Ideal S65536x8192 .bf16) (A B C : FVec Ideal S512x1024 .f32) (W : FVec Ideal S1024x1024 .f32) : FVec Ideal S65536x1024 .f32 :=
  addf x (Host.dotGeneral dot_S65536x1024_S1024x1024_S65536x1024_1_0_0_1_n_n none (merged a b c p A B C) W)

theorem result_apply (x : FVec Ideal S65536x1024 .f32) (a b c : FVec Ideal S65536x512 .bf16) (p : FVec Ideal S65536x8192 .bf16) (A B C : FVec Ideal S512x1024 .f32) (W : FVec Ideal S1024x1024 .f32) (r : Fin 65536) (d : Fin 1024) :
    result x a b c p A B C W (ix2 r d) = mergeRow (fun k => x (ix2 r k)) (fun j => a (ix2 r j)) (fun j => b (ix2 r j)) (fun j => c (ix2 r j)) (fun k => p (ix2 r (Fin.ofNat 8192 (5120 + k.val)))) (fun k => p (ix2 r (Fin.ofNat 8192 (6144 + k.val)))) (fun k => p (ix2 r (Fin.ofNat 8192 (7168 + k.val))))
      (fun j k => A (ix2 j k)) (fun j k => B (ix2 j k)) (fun j k => C (ix2 j k)) (fun k d => W (ix2 k d)) d := by
  have hm := merged_apply a b c p A B C r
  unfold result mergeRow
  simp only [← hm]
  generalize merged a b c p A B C = y
  pointwise []

end Cert.Reference4Ideal.Merge

end
-- ==== Proof.MergeClaim.lean ====
/- The claims about the merge. -/
module

public import proofs.«01_k».proof.Defs
public import proofs.«01_k».proof.Proof.Gen.Kernel4
public import proofs.«01_k».proof.Proof.MergeValue
public import proofs.«01_k».proof.Proof.MergeRef

@[expose] public section

noncomputable section

namespace Cert.Merge

open Idealize.ShloMosaic Idealize.ShloMosaic.TcCoe Idealize.SL.Sem

/-- The two programs have one table of bodies. -/
theorem bodies_eq {F : FTy → Type} [FloatOps F] : Cert.Kernel4.defs₀ (F := F) = Cert.Kernel4Ideal.defs₀ (F := F) := by
  refine congrArg Defs.onTc (funext fun l => ?_)
  match l with
  | 0 => rfl

/-- The two programs have one table of procedures. -/
theorem defs_eq {F : FTy → Type} [FloatOps F] : Cert.Kernel4.defs (F := F) = Cert.Kernel4Ideal.defs (F := F) :=
  congrArg (Pipeline.defs Cert.Kernel4Ideal.pcfgs) bodies_eq

/-- The kernel's frame: its text is the ideal kernel's, whose run holds for any float values. -/
theorem frame_kernel : Cert.quiescent_Kernel4 := fun m ρ _ => by
  have hf := Cert.Kernel4Ideal.Gen.frame (F := Bits) m ρ
  rw [← defs_eq] at hf
  exact hf

/-- The ideal kernel's frame. -/
theorem frame_ideal : Cert.quiescent_Kernel4Ideal := fun m ρ _ => Cert.Kernel4Ideal.Gen.frame (F := Ideal) m ρ

/-- The reference's frame. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference make the merged rows. -/
theorem algebraic : Cert.algebraic_Kernel4Ideal_Reference4Ideal := fun m g m' g' _ hargs => by
  refine ⟨fun c => Cert.Kernel4Ideal.Merge.G11 m c, ?_, ?_⟩
  · exact (θ_run _ _ _).mono (fun r h c => ⟨h.1 c, h.2.1 c⟩)
      (θ_run_and (Cert.Kernel4Ideal.Merge.run_value m g) (Cert.Kernel4Ideal.Gen.frame m g))
  · refine (θ_run _ _ _).mono (fun r h c => ⟨?_, (h c).2⟩) (Cert.Reference4Ideal.Value.run m' g')
    refine (h c).1.trans (funext fun i => ?_)
    obtain ⟨h0, h1, h2, h3, h4, h5, h6, h7, h8⟩ := hargs c
    obtain ⟨b, t, rfl⟩ : ∃ (b : Fin 65536) (t : Fin 1024), i = ix2 b t := by
      refine ⟨i 0, i 1, funext fun a => ?_⟩
      match a with
      | ⟨0, _⟩ => rfl
      | ⟨1, _⟩ => rfl
    refine (Cert.Reference4Ideal.Merge.result_apply _ _ _ _ _ _ _ _ _ b t).trans ?_
    rw [h0, h1, h2, h3, h4, h5, h6, h7, h8]
    rfl

end Cert.Merge

end
-- ==== Proof.InProjRun.lean ====
/- The body of the input projection's kernel, run at a grid point: the first of a row tile norms the rows, stores the
   rotated queries and keys and the gates; the others store a block of columns of the product. -/
module

public import proofs.«01_k».proof.Proof.Gen.Kernel5Ideal.Frame
public import proofs.«01_k».proof.Proof.Gen.Kernel5Ideal.Skeleton
public import Idealize.ShloMosaic.Lib.VecWindow
public import Idealize.ShloMosaic.Lib.Pipeline.ValueKit.Tiles

@[expose] public section

set_option maxRecDepth 16384

noncomputable section

namespace Cert.Kernel5Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F] [Named F]

local notation "𝕄" => MT nD τ sig Unit (Elt F) ℕ (UR sig nD τ) ℕ

/-- The lanes of a head's first half. -/
def firstHalf : IVec S1024x128 1 := k0_pay12 (Scalar.select (Scalar.cmpi .eq 64#32 0#32) 1#32 64#32) k0_pay8 k0_pay9 k0_pay10 k0_pay11

/-- The block of queries and keys, as the first point of a row tile stores it, a head at a time. -/
def rotated (x0 : Vec F S1024x1024 .f32) (x1 : Vec F S1x1024 .f32) (x2 : Vec F S1024x1024 .bf16) (x4 : Vec F S1024x128 .f32) (x5 : Vec F S1024x128 .f32) : Vec F S1024x1024 .bf16 :=
  View.canon (Val := Elt F) (s := S1024x1024) (e := .bf16) [
    ⟨Rect.unit (s := S1024x1024) ![0, 896] S1024x128.size inb_S1024x1024_S1024x128_0_896, k0_pay21 (k0_pay6 x4) (k0_pay7 x5) firstHalf (k0_pay20 (k0_pay5 x0 x1 x2))⟩,
    ⟨Rect.unit (s := S1024x1024) ![0, 768] S1024x128.size inb_S1024x1024_S1024x128_0_768, k0_pay19 (k0_pay5 x0 x1 x2) (k0_pay6 x4) (k0_pay7 x5) firstHalf⟩,
    ⟨Rect.unit (s := S1024x1024) ![0, 640] S1024x128.size inb_S1024x1024_S1024x128_0_640, k0_pay18 (k0_pay5 x0 x1 x2) (k0_pay6 x4) (k0_pay7 x5) firstHalf⟩,
    ⟨Rect.unit (s := S1024x1024) ![0, 512] S1024x128.size inb_S1024x1024_S1024x128_0_512, k0_pay17 (k0_pay5 x0 x1 x2) (k0_pay6 x4) (k0_pay7 x5) firstHalf⟩,
    ⟨Rect.unit (s := S1024x1024) ![0, 384] S1024x128.size inb_S1024x1024_S1024x128_0_384, k0_pay16 (k0_pay5 x0 x1 x2) (k0_pay6 x4) (k0_pay7 x5) firstHalf⟩,
    ⟨Rect.unit (s := S1024x1024) ![0, 256] S1024x128.size inb_S1024x1024_S1024x128_0_256, k0_pay15 (k0_pay5 x0 x1 x2) (k0_pay6 x4) (k0_pay7 x5) (Scalar.select (Scalar.cmpi .eq 64#32 0#32) 1#32 64#32) k0_pay8 k0_pay9 k0_pay10 k0_pay11⟩,
    ⟨Rect.unit (s := S1024x1024) ![0, 128] S1024x128.size inb_S1024x1024_S1024x128_0_128, k0_pay14 (k0_pay5 x0 x1 x2) (k0_pay6 x4) (k0_pay7 x5) (Scalar.select (Scalar.cmpi .eq 64#32 0#32) 1#32 64#32) k0_pay8 k0_pay9 k0_pay10 k0_pay11⟩,
    ⟨Rect.unit (s := S1024x1024) ![0, 0] S1024x128.size inb_S1024x1024_S1024x128_0_0, k0_pay13 (k0_pay5 x0 x1 x2) (k0_pay6 x4) (k0_pay7 x5) (Scalar.select (Scalar.cmpi .eq 64#32 0#32) 1#32 64#32) k0_pay8 k0_pay9 k0_pay10 k0_pay11⟩]

/-- The gates of the linear-attention branch, as the first point of a row tile stores them. -/
def gates (x0 : Vec F S1024x1024 .f32) (x1 : Vec F S1x1024 .f32) (x3 : Vec F S1024x128 .bf16) (x6 : Vec F S1x128 .f32) (x7 : Vec F S1x128 .f32) : Vec F S1024x128 .f32 :=
  let h := k0_pay3 x0 x1
  let a := k0_pay24 h x3 x6 x7
  let b := k0_pay25 h x3
  let l : FVec F S64x64 .bf16 := k0_pay26
  k0_pay1 (k0_pay30 k0_pay23 b l (k0_pay27 h x3 x6 x7) (k0_pay28 h x3 x6 x7) (k0_pay29 h x3 x6 x7))
    (k0_pay31 k0_pay23 a b l) (k0_pay32 k0_pay23 a b l)
    (k0_pay37 k0_pay23 b l (k0_pay33 a) (k0_pay34 a) (k0_pay35 a) (k0_pay36 a))
    (k0_pay38 k0_pay23 a b l) (k0_pay39 k0_pay23 a b l)
    (k0_pay44 k0_pay23 b l (k0_pay40 a) (k0_pay42 a) (k0_pay43 a) (constant S64x128 .f32 0x00000000#32))
    (k0_pay45 k0_pay23 a b l) (k0_pay46 k0_pay23 a b l)
    (k0_pay53 k0_pay23 b l (k0_pay50 a) (k0_pay51 a l) (k0_pay52 a l))
    (k0_pay54 k0_pay23 a b l) (k0_pay55 k0_pay23 a b l)
    (k0_pay61 k0_pay23 b (k0_pay59 a l) (k0_pay60 a l))
    (k0_pay62 k0_pay23 a b l) (k0_pay63 k0_pay23 a b l) (k0_pay64 k0_pay23 a b l)

set_option maxHeartbeats 16000000 in
/-- First point of a row tile. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x1024 .bf16) (harg12 : arg12.IsWhole)
    (x0 : Vec F S1024x1024 .f32) (x1 : Vec F S1x1024 .f32) (x2 : Vec F S1024x1024 .bf16) (x3 : Vec F S1024x128 .bf16) (x4 : Vec F S1024x128 .f32) (x5 : Vec F S1024x128 .f32) (x6 : Vec F S1x128 .f32) (x7 : Vec F S1x128 .f32) (o : Vec F S1024x1024 .bf16) (g : Vec F S1024x128 .f32) (h : Vec F S1024x1024 .bf16)
    (hc0 : k0_cond1 i = 1#1) (hc1 : ¬k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare g ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (rotated x0 x1 x2 x4 x5) ∗ owns (c : Thread nD τ) arg11 fullShare (gates x0 x1 x3 x6 x7) ∗ owns (c : Thread nD τ) arg12 fullShare (k0_pay4 x0 x1)) -∗ K ⟨⟩))
      ⊢ wp frame (wpE (defs₀ (F := F)) Variants.none c none) E (cc0_mixer_in_proj i arg2 harg2 arg3 harg3 arg4 harg4 arg5 harg5 arg6 harg6 arg7 harg7 arg8 harg8 arg9 harg9 arg10 harg10 arg11 harg11 arg12 harg12) K := by
  simp only [cc0_mixer_in_proj_eq_skeleton]; unfold cc0_mixer_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have e0 := (View.readAt_full (s := S1024x1024) arg2.view (harg2.unread x0) inb_S1024x1024_S1024x1024_0_0).trans hf0
  have e1 := (View.readAt_full (s := S1x1024) arg3.view (harg3.unread x1) inb_S1x1024_S1x1024_0_0).trans hf1
  have e2 := (View.readAt_full (s := S1024x1024) arg4.view (harg4.unread x2) inb_S1024x1024_S1024x1024_0_0).trans hf2
  have e3 := (View.readAt_full (s := S1024x128) arg5.view (harg5.unread x3) inb_S1024x128_S1024x128_0_0).trans hf3
  have e4 := (View.readAt_full (s := S1024x128) arg6.view (harg6.unread x4) inb_S1024x128_S1024x128_0_0).trans hf4
  have e5 := (View.readAt_full (s := S1024x128) arg7.view (harg7.unread x5) inb_S1024x128_S1024x128_0_0).trans hf5
  have e6 := (View.readAt_full (s := S1x128) arg8.view (harg8.unread x6) inb_S1x128_S1x128_0_0).trans hf6
  have e7 := (View.readAt_full (s := S1x128) arg9.view (harg9.unread x7) inb_S1x128_S1x128_0_0).trans hf7
  isplitl [H8]
  · iexists _; isplitr
    swap; · iexact H8
    ipureintro
    refine (View.read_writes_eq_canon _ _ _ (View.cover_of_tiled_head _ _ _ (by rfl))).trans ?_
    rw [e0, e1, e2, e4, e5]; rfl
  isplitl [H9]
  · iexists _; isplitr
    swap; · iexact H9
    ipureintro
    refine (View.read_writes_full (s := S1024x128) _ _ _ _ []).trans ?_
    rw [e0, e1, e3, e6, e7]; rfl
  iexists _; isplitr
  swap; · iexact H10
  ipureintro
  refine (View.read_writes_full (s := S1024x1024) _ _ _ _ []).trans ?_
  rw [e0, e1]

set_option maxHeartbeats 16000000 in
/-- Another point of a row tile. -/
theorem run_rest (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S1024x128 .f32) (harg11 : arg11.IsWhole) (arg12 : Memref sig .tc .vmem S1024x1024 .bf16) (harg12 : arg12.IsWhole)
    (x0 : Vec F S1024x1024 .f32) (x1 : Vec F S1x1024 .f32) (x2 : Vec F S1024x1024 .bf16) (x3 : Vec F S1024x128 .bf16) (x4 : Vec F S1024x128 .f32) (x5 : Vec F S1024x128 .f32) (x6 : Vec F S1x128 .f32) (x7 : Vec F S1x128 .f32) (o : Vec F S1024x1024 .bf16) (g : Vec F S1024x128 .f32) (h : Vec F S1024x1024 .bf16)
    (hc0 : ¬k0_cond1 i = 1#1) (hc1 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare g ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 h x2) ∗ owns (c : Thread nD τ) arg11 fullShare g ∗ owns (c : Thread nD τ) arg12 fullShare h) -∗ K ⟨⟩))
      ⊢ wp frame (wpE (defs₀ (F := F)) Variants.none c none) E (cc0_mixer_in_proj i arg2 harg2 arg3 harg3 arg4 harg4 arg5 harg5 arg6 harg6 arg7 harg7 arg8 harg8 arg9 harg9 arg10 harg10 arg11 harg11 arg12 harg12) K := by
  simp only [cc0_mixer_in_proj_eq_skeleton]; unfold cc0_mixer_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_full (s := S1024x1024) _ _ _ _ []).trans ?_
    rw [View.readAt_full (s := S1024x1024), View.readAt_full (s := S1024x1024), hf10, hf2]
  isplitl [H9]
  · iexists _; isplitr; · ipureintro; exact harg11.read_unread _
    iexact H9
  iexists _; isplitr; · ipureintro; exact harg12.read_unread _
  iexact H10

end Cert.Kernel5Ideal.InProj

end
-- ==== Proof.InProjFrame.lean ====
/- The run of the input projection's pipeline: what the scratch buffer and the output blocks hold after each grid point, the
   body obligation at a generic point, and the run of the whole program. -/
module

public import proofs.«01_k».proof.Proof.InProjRun
public import Idealize.ShloMosaic.Lib.Claim
public import Idealize.ShloMosaic.Lib.Pipeline.TableIdle

@[expose] public section

set_option maxRecDepth 16384

noncomputable section

namespace Cert.Kernel5Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points: row tile `t / 8`, block of columns `t % 8` -/

theorem coord0 (t : Fin grid0.N) : (grid0.coords t 0).val = t.val / 8 := by
  have ht : t.val < 512 := Nat.lt_of_lt_of_eq t.isLt N_0
  have e0 : (grid0.coords t 0).val = t.val / 8 % 64 := Pipeline.Grid.coords_val t 0 (by decide) rfl
  omega
theorem coord1 (t : Fin grid0.N) : (grid0.coords t 1).val = t.val % 8 := by
  have e1 : (grid0.coords t 1).val = t.val / 1 % 8 := Pipeline.Grid.coords_val t 1 (by decide) rfl
  omega

theorem cond_first (t : Fin grid0.N) : k0_cond1 (grid0.coords t) = 1#1 ↔ t.val % 8 = 0 := by
  have ht : t.val < 512 := Nat.lt_of_lt_of_eq t.isLt N_0
  have e1 : (grid0.coords t 1).val = t.val / 1 % 8 := Pipeline.Grid.coords_val t 1 (by decide) rfl
  simp only [k0_cond1, e1]
  word_cmp
theorem cond_rest : ∀ t : Fin grid0.N, k0_cond2 (grid0.coords t) = 1#1 ↔ t.val % 8 ≠ 0 := by decide +kernel

theorem idle8 : ∀ t : Fin grid0.N, idle0 8 (grid0.coords t) = false := by decide +kernel
theorem idle9 : ∀ t : Fin grid0.N, idle0 9 (grid0.coords t) = true ↔ t.val % 8 ≠ 0 := by decide +kernel

/-- The point before. -/
abbrev prev (t : Fin cfg0.N) : Fin cfg0.N := ⟨t.val - 1, Nat.lt_of_le_of_lt (Nat.sub_le _ _) t.isLt⟩

/-- The first point of the row tile of point `t`. -/
abbrev head (t : Fin cfg0.N) : Fin cfg0.N := ⟨t.val / 8 * 8, Nat.lt_of_le_of_lt (Nat.div_mul_le_self _ _) t.isLt⟩

/-- The normed rows of the tile, as its first point leaves them. -/
def rows (c : Dev nD) (t : Fin cfg0.N) : Vec F S1024x1024 .bf16 := k0_pay4 (iblk m c 0 (head t)) (iblk m c 1 (head t))

/-- The output block after point `t`. -/
def outAt (c : Dev nD) (t : Fin cfg0.N) : Vec F S1024x1024 .bf16 :=
  if t.val % 8 = 0 then rotated (iblk m c 0 t) (iblk m c 1 t) (iblk m c 2 t) (iblk m c 4 t) (iblk m c 5 t)
  else k0_pay2 (rows m c t) (iblk m c 2 t)

/-- The block of gates after point `t`. -/
def gateAt (c : Dev nD) (t : Fin cfg0.N) : Vec F S1024x128 .f32 :=
  gates (iblk m c 0 (head t)) (iblk m c 1 (head t)) (iblk m c 3 (head t)) (iblk m c 6 (head t)) (iblk m c 7 (head t))

theorem head_prev (t : Fin cfg0.N) (h : t.val % 8 ≠ 0) : head (prev t) = head t := Fin.ext (by simp only; omega)
theorem head_of (t : Fin cfg0.N) (h : t.val % 8 = 0) : head t = t := Fin.ext (by simp only; omega)

/-- What is known of the scratch buffer before point `n`: inside a row tile it holds the normed rows. -/
def Inv (c : Dev nD) (n : ℕ) (h : Vec F S1024x1024 .bf16) : Prop :=
  ∀ hn : n < cfg0.N, n % 8 ≠ 0 → h = rows m c ⟨n, hn⟩

theorem rows_next (c : Dev nD) (t : Fin cfg0.N) (hn : t.val + 1 < cfg0.N) (h : (t.val + 1) % 8 ≠ 0) : rows m c t = rows m c ⟨t.val + 1, hn⟩ := by
  unfold rows
  rw [show head ⟨t.val + 1, hn⟩ = head t from Fin.ext (by simp only; omega)]

/-! ## The pipeline's proof data -/

/-- Each window's staging memref at a point. -/
abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x128 .bf16 := win0_3.stage (cfg0.slots t 3)
abbrev ms0_4 (t : Fin cfg0.N) : Memref sig .tc .vmem S1024x128 .f32 := win0_4.stage (cfg0.slots t 4)
abbrev ms0_5 (t : Fin cfg0.N) : Memref sig .tc .vmem S1024x128 .f32 := win0_5.stage (cfg0.slots t 5)
abbrev ms0_6 (t : Fin cfg0.N) : Memref sig .tc .vmem S1x128 .f32 := win0_6.stage (cfg0.slots t 6)
abbrev ms0_7 (t : Fin cfg0.N) : Memref sig .tc .vmem S1x128 .f32 := win0_7.stage (cfg0.slots t 7)
abbrev ms0_8 (t : Fin cfg0.N) : Memref sig .tc .vmem S1024x1024 .bf16 := win0_8.stage (cfg0.slots t 8)
abbrev ms0_9 (t : Fin cfg0.N) : Memref sig .tc .vmem S1024x128 .f32 := win0_9.stage (cfg0.slots t 9)
abbrev scM0_0 : Memref sig .tc .vmem S1024x1024 .bf16 := Memref.whole cc0_scratch0

theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- What is held before point `n`. -/
def PhiS (c : Dev nD) (n : ℕ) (_ : n ≤ cfg0.N) : sProp 𝕄 :=
  iprop((∃ h, ⌜Inv m c n h⌝ ∗ owns (c : Thread nD τ) scM0_0 fullShare h) ∗ (∃ r, prngReg c r))

/-- The proof data of the pipeline: the arrays as found, each input block unchanged by the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => gateAt m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem after0_9 (c : Dev nD) (t : Fin cfg0.N) : (dats m 0 c).after 9 t = gateAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Inside a row tile the gates' buffer holds what the tile's first point stored. -/
theorem fresh9 (t : Fin cfg0.N) (h : t.val % 8 ≠ 0) : cfg0.fresh 9 t.val = false := by
  refine (Pipeline.Cfg.fresh_tab cfg0 9 (fun n => decide (n % 8 = 0)) (by decide) (fun u => ?_) t.val (Nat.le_of_lt t.isLt)).trans (decide_eq_false h)
  have hf : (cfg0.win 9).flush u = true ↔ u.val % 8 = 7 := flush0_9 u
  have hi : cfg0.idle 9 (cfg0.grid.coords u) = true ↔ u.val % 8 ≠ 0 := idle9 u
  rw [Bool.eq_iff_iff]
  simp only [Bool.or_eq_true, Bool.and_eq_true, decide_eq_true_iff, hf, hi]
  omega

theorem gateAt_prev (c : Dev nD) (t : Fin cfg0.N) (h : t.val % 8 ≠ 0) : gateAt m c (prev t) = gateAt m c t := by
  unfold gateAt; rw [head_prev t h]

theorem before0_9 (c : Dev nD) (t : Fin cfg0.N) (h : t.val % 8 ≠ 0) (d) : (dats m 0 c).before 9 t d = gateAt m c t := by
  refine ((dats m 0 c).before_out_traj 9 rfl (fun _ _ => rfl) (fun u hu hi hf => ?_) t.val t rfl d).trans ?_
  · rw [after0_9, after0_9]
    exact (gateAt_prev m c u ((idle9 u).mp hi)).symm
  · rw [fresh9 t h, if_neg Bool.false_ne_true, after0_9]
    exact gateAt_prev m c t h

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]; try rfl
theorem leaves1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]; try rfl
theorem leaves2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]; try rfl
theorem leaves3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]; try rfl
theorem leaves4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]; try rfl
theorem leaves5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]; try rfl
theorem leaves6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]; try rfl
theorem leaves7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]; try rfl
theorem leaves8 (c : Dev nD) (t : Fin cfg0.N) : (dats m 0 c).leavesExact 8 t = owns (c : Thread nD τ) (ms0_8 t) fullShare (outAt m c t) := by
  unfold Dat.leavesExact; rw [show cfg0.idle 8 (cfg0.grid.coords t) = false from idle8 t, after0_8]; try rfl
theorem leaves9_first (c : Dev nD) (t : Fin cfg0.N) (h : t.val % 8 = 0) : (dats m 0 c).leavesExact 9 t = owns (c : Thread nD τ) (ms0_9 t) fullShare (gateAt m c t) := by
  unfold Dat.leavesExact
  rw [show cfg0.idle 9 (cfg0.grid.coords t) = false from by rw [Bool.eq_false_iff]; intro q; exact (idle9 t).mp q h, after0_9]; try rfl
theorem leaves9_rest (c : Dev nD) (t : Fin cfg0.N) (h : t.val % 8 ≠ 0) :
    owns (c : Thread nD τ) (ms0_9 t) fullShare (gateAt m c t) ⊢ (dats m 0 c).leavesExact 9 t := by
  unfold Dat.leavesExact
  rw [show cfg0.idle 9 (cfg0.grid.coords t) = true from (idle9 t).mpr h]
  cases hf : (cfg0.win 9).flush t
  · dsimp only
    iintro H
    iexists (gateAt m c t)
    rw [before0_9 m c t h]
    iexact H
  · dsimp only
    rw [after0_9]

set_option maxHeartbeats 8000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, leaves0, leaves1, leaves2, leaves3, leaves4, leaves5, leaves6, leaves7, leaves8]
  rw [show (dats m 0 c).Φ t.succ = PhiS m c (t.val + 1) t.isLt from rfl, PhiS_castSucc m c t]
  unfold PhiS
  by_cases h0 : t.val % 8 = 0
  · have c0 : k0_cond1 (grid0.coords t) = 1#1 := (cond_first t).mpr h0
    have c1 : ¬k0_cond2 (grid0.coords t) = 1#1 := fun q => (cond_rest t).mp q h0
    rw [leaves9_first m c t h0]
    iintro ⟨⟨⟨%h, %hi, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ h c0 c1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists (rows m c t)
        isplitr; · ipureintro; exact fun hn hh => rows_next m c t hn hh
        unfold rows; rw [head_of t h0]
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold outAt; rw [if_pos h0]; iexact H8
    unfold gateAt; rw [head_of t h0]; iexact H9
  · have c0 : ¬k0_cond1 (grid0.coords t) = 1#1 := fun q => h0 ((cond_first t).mp q)
    have c1 : k0_cond2 (grid0.coords t) = 1#1 := (cond_rest t).mpr h0
    simp only [before0_9 m c t h0]
    iintro ⟨⟨⟨%h, %hi, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hh := hi t.isLt h0
    subst hh
    iapply (run_rest c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ (rows m c t) c0 c1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists (rows m c t)
        isplitr; · ipureintro; exact fun hn hh => rows_next m c t hn hh
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold outAt; rw [if_neg h0]; iexact H8
    iapply (leaves9_rest m c t h0)
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨%h, HS⟩, Hg⟩
  isplitl [HS]
  · iexists h
    isplitr; · ipureintro; exact fun _ h0 => absurd (Nat.zero_mod 8) h0
    iexact HS
  iexact Hg

/-- After the last point the invariant gives the scratch buffer back at some contents. -/
theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS
  iintro ⟨⟨%h, -, HS⟩, Hg⟩
  isplitl [HS]
  · iexists _; iexact HS
  iexact Hg

/-! ## The run and the frame -/

set_option backward.isDefEq.respectTransparency.types false in
/-- The run of the program, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates with its arguments unchanged and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.InProj

end
-- ==== Proof.InProjModel.lean ====
/- The input projection as entries over the reals: a row's norm through the weights, queries and keys rotated by their position. -/
module

public import proofs.«01_k».proof.Proof.DenseModel

@[expose] public section

noncomputable section

namespace Cert.InProj

open Idealize.ShloMosaic Cert.Dense

/-- The angle of lane `j` at a position: the position times ten thousand to the minus `2 j / 64`. -/
def angle (p : Fin 4096) (j : Fin 32) : EReal :=
  (((BitVec.ofNat 32 p.val).toInt : ℝ) : EReal) * Ideal.div (Ideal.ofBits .f32 0x3F800000#32)
    (Ideal.pow (Ideal.ofBits .f32 0x461C4000#32) (Ideal.div (Ideal.ofBits .f32 0x00000000#32 + Ideal.ofBits .f32 0x40000000#32 * (((BitVec.ofNat 32 j.val).toInt : ℝ) : EReal)) (Ideal.ofBits .f32 0x42800000#32)))

def cosAt (p : Fin 4096) (j : Fin 32) : EReal := Ideal.cos (angle p j)
def sinAt (p : Fin 4096) (j : Fin 32) : EReal := Ideal.sin (angle p j)

/-- Entry `n` of a row of heads of 64 lanes, rotated: a lane of a head's first half goes with the lane 32 up, one of the second half with the lane 32 down. -/
def turn (y : ℕ → EReal) (p : Fin 4096) (n : ℕ) : EReal :=
  if n % 64 < 32 then y n * cosAt p (Fin.ofNat 32 n) - y (n + 32) * sinAt p (Fin.ofNat 32 n)
  else y n * cosAt p (Fin.ofNat 32 n) + y (n - 32) * sinAt p (Fin.ofNat 32 n)

/-- Entry `n` of a row through the weights. -/
def through (x g : Fin 1024 → EReal) (W : Fin 1024 → Fin 8200 → EReal) (n : ℕ) : EReal :=
  ∑ k, norm x g k * W k (Fin.ofNat 8200 n)

/-- Entry `n` of a row of the result: the queries rotated and scaled, the keys rotated, and the other columns but the eight of the gates. -/
def entry (y : ℕ → EReal) (p : Fin 4096) (n : ℕ) : EReal :=
  if n < 512 then Ideal.div (turn y p n * Ideal.ofBits .f32 0x3E000000#32) (Ideal.log (Ideal.ofBits .f32 0x40000000#32))
  else if n < 1024 then turn y p n
  else if n < 5120 then y n
  else y (n + 8)

end Cert.InProj

end
-- ==== Proof.InProjBlocks.lean ====
/- The input projection's blocks and payloads read at an index over the reals. -/
module

public import proofs.«01_k».proof.Proof.InProjFrame
public import proofs.«01_k».proof.Proof.InProjModel
public import Idealize.ShloMosaic.Lib.Pointwise
public import Idealize.ShloMosaic.Lib.KernelVsHost
public import Idealize.ShloMosaic.Lib.Tactic.CleanTypes

@[expose] public section

set_option maxRecDepth 16384

noncomputable section

namespace Cert.Kernel5Ideal.InProj

open Idealize.ShloMosaic Idealize.ShloMosaic.TcCoe
open Cert.Kernel5Ideal Cert.Kernel5Ideal.Gen Cert.Dense Cert.InProj

/-! ## The payloads -/

theorem pay3_apply (x : FVec Ideal S1024x1024 .f32) (g : FVec Ideal S1x1024 .f32) (q k : Fin 1024) :
    (k0_pay3 x g : FVec Ideal S1024x1024 .bf16) (ix2 q k) = norm (fun k => x (ix2 q k)) (fun k => g (ix2 0 k)) k := by
  pointwise [k0_pay3]
  rfl

theorem pay4_apply (x : FVec Ideal S1024x1024 .f32) (g : FVec Ideal S1x1024 .f32) (q k : Fin 1024) :
    (k0_pay4 x g : FVec Ideal S1024x1024 .bf16) (ix2 q k) = norm (fun k => x (ix2 q k)) (fun k => g (ix2 0 k)) k := by
  unfold k0_pay4
  rw [show shapeCast S1024x1024 (k0_pay3 x g : FVec Ideal S1024x1024 .bf16) shapeCasts_S1024x1024_S1024x1024 = k0_pay3 x g from shapeCast_self ..]
  exact pay3_apply x g q k

theorem pay5_apply (x : FVec Ideal S1024x1024 .f32) (g : FVec Ideal S1x1024 .f32) (w : FVec Ideal S1024x1024 .bf16) (q n : Fin 1024) :
    (k0_pay5 x g w : FVec Ideal S1024x1024 .f32) (ix2 q n) = ∑ k, norm (fun k => x (ix2 q k)) (fun k => g (ix2 0 k)) k * w (ix2 k n) := by
  unfold k0_pay5
  generalize hy : (k0_pay3 x g : FVec Ideal S1024x1024 .bf16) = y
  have hn : norm (fun k => x (ix2 q k)) (fun k => g (ix2 0 k)) = fun k => y (ix2 q k) := funext fun k => by
    rw [← hy]; exact (pay3_apply x g q k).symm
  rw [hn]
  pointwise []

theorem pay2_apply (y w : FVec Ideal S1024x1024 .bf16) (q n : Fin 1024) :
    (k0_pay2 y w : FVec Ideal S1024x1024 .bf16) (ix2 q n) = ∑ k, HMul.hMul (α := EReal) (β := EReal) (y (ix2 q k)) (w (ix2 k n)) := by
  pointwise [k0_pay2]

/-! ## The rotation of a block of heads -/

theorem firstHalf_apply (q : Fin 1024) (l : Fin 128) : firstHalf (ix2 q l) = if l.val % 64 < 32 then 1#1 else 0#1 := by
  have h : ∀ l : Fin 128, (firstHalf (ix2 0 l) : BitVec 1) = if l.val % 64 < 32 then 1#1 else 0#1 := by
    intro l
    pointwise [firstHalf, k0_pay12, k0_pay8, k0_pay9, k0_pay10, k0_pay11]
    revert l
    decide +kernel
  exact h l

/-- A block of heads times the cosines, plus the block with the halves of each head exchanged times the signed sines. -/
def ropeBlk (y u v : FVec Ideal S1024x128 .f32) : FVec Ideal S1024x128 .f32 :=
  addf (mulf y u) (mulf (select firstHalf (dynamicRotate 1 96#32 none y rotates_S1024x128_d1) (dynamicRotate 1 32#32 none y rotates_S1024x128_d1)) v)

theorem ropeBlk_apply (y u v : FVec Ideal S1024x128 .f32) (q : Fin 1024) (l : Fin 128) :
    ropeBlk y u v (ix2 q l) = y (ix2 q l) * u (ix2 q l) + (if l.val % 64 < 32 then y (ix2 q (Fin.ofNat 128 (l.val + 32))) else y (ix2 q (Fin.ofNat 128 (l.val + 96)))) * v (ix2 q l) := by
  have r1 : dynamicRotate 1 96#32 none y rotates_S1024x128_d1 (ix2 q l) = y (ix2 q (Fin.ofNat 128 (l.val + 32))) :=
    dynamicRotate_apply (s := S1024x128) (1 : Fin 2) 96#32 y rotates_S1024x128_d1 (ix2 q l) (ix2 q (Fin.ofNat 128 (l.val + 32))) (fun b => by
      match b with
      | ⟨0, _⟩ => rfl
      | ⟨1, _⟩ => show (l.val + 32) % 128 = (l.val + 128 - 96 % 128) % 128; omega)
  have r2 : dynamicRotate 1 32#32 none y rotates_S1024x128_d1 (ix2 q l) = y (ix2 q (Fin.ofNat 128 (l.val + 96))) :=
    dynamicRotate_apply (s := S1024x128) (1 : Fin 2) 32#32 y rotates_S1024x128_d1 (ix2 q l) (ix2 q (Fin.ofNat 128 (l.val + 96))) (fun b => by
      match b with
      | ⟨0, _⟩ => rfl
      | ⟨1, _⟩ => show (l.val + 96) % 128 = (l.val + 128 - 32 % 128) % 128; omega)
  show y (ix2 q l) * u (ix2 q l) + Scalar.select (firstHalf (ix2 q l)) (dynamicRotate 1 96#32 none y rotates_S1024x128_d1 (ix2 q l)) (dynamicRotate 1 32#32 none y rotates_S1024x128_d1 (ix2 q l)) * v (ix2 q l) = _
  rw [r1, r2, firstHalf_apply]
  by_cases h : l.val % 64 < 32
  · rw [if_pos h, if_pos h]; rfl
  · rw [if_neg h, if_neg h]; rfl

/-- Column `n` of a block of rows, rotated. -/
def turnBlk (y : FVec Ideal S1024x1024 .f32) (u v : FVec Ideal S1024x128 .f32) (q : Fin 1024) (n : ℕ) : EReal :=
  y (ix2 q (Fin.ofNat 1024 n)) * u (ix2 q (Fin.ofNat 128 n)) + (if n % 64 < 32 then y (ix2 q (Fin.ofNat 1024 (n + 32))) else y (ix2 q (Fin.ofNat 1024 (n - 32)))) * v (ix2 q (Fin.ofNat 128 n))

theorem ropeBlk_slice (o : ℕ) (ho : o % 128 = 0) (ho' : o + 128 ≤ 1024) (h : S1024x1024.Slices ![0, o] S1024x128) (y : FVec Ideal S1024x1024 .f32) (u v : FVec Ideal S1024x128 .f32) (q : Fin 1024) (l : Fin 128) :
    ropeBlk (extractStridedSlice S1024x128 ![0, o] y h) u v (ix2 q l) = turnBlk y u v q (o + l.val) := by
  have hs : ∀ k : Fin 128, extractStridedSlice S1024x128 ![0, o] y h (ix2 q k) = y (ix2 q (Fin.ofNat 1024 (o + k.val))) := fun k =>
    extractStridedSlice_apply ![0, o] y h (ix2 q k) (ix2 q (Fin.ofNat 1024 (o + k.val))) (fun a => by
      match a with
      | ⟨0, _⟩ => show q.val = 0 + q.val; omega
      | ⟨1, _⟩ => show (o + k.val) % 1024 = o + k.val; omega)
  have e1 : Fin.ofNat 128 (o + l.val) = l := Fin.ext (by show (o + l.val) % 128 = l.val; omega)
  have e2 : (o + l.val) % 64 = l.val % 64 := by omega
  rw [ropeBlk_apply]
  unfold turnBlk
  rw [e1, e2, hs l, hs, hs]
  by_cases hl : l.val % 64 < 32
  · rw [if_pos hl, if_pos hl, show o + (Fin.ofNat 128 (l.val + 32)).val = o + l.val + 32 by show o + (l.val + 32) % 128 = _; omega]
  · rw [if_neg hl, if_neg hl, show o + (Fin.ofNat 128 (l.val + 96)).val = o + l.val - 32 by show o + (l.val + 96) % 128 = _; omega]

/-- The scale of the queries, in units of the logarithm of two. -/
def scale : EReal := ((8⁻¹ * (Real.log 2)⁻¹ : ℝ) : EReal)

/-- The block of queries and keys at a row and a column. -/
def blkAt (y : FVec Ideal S1024x1024 .f32) (u v : FVec Ideal S1024x128 .f32) (q : Fin 1024) (n : ℕ) : EReal :=
  if n < 512 then turnBlk y u v q n * scale else turnBlk y u v q n

theorem pay6_eq (x : FVec Ideal S1024x128 .f32) : (k0_pay6 x : FVec Ideal S1024x128 .f32) = x := shapeCast_self ..
theorem pay7_eq (x : FVec Ideal S1024x128 .f32) : (k0_pay7 x : FVec Ideal S1024x128 .f32) = x := shapeCast_self ..

theorem pay13_apply (y : FVec Ideal S1024x1024 .f32) (u v : FVec Ideal S1024x128 .f32) (q : Fin 1024) (l : Fin 128) :
    (k0_pay13 (F := Ideal) y u v (Scalar.select (Scalar.cmpi .eq 64#32 0#32) 1#32 64#32) k0_pay8 k0_pay9 k0_pay10 k0_pay11 : FVec Ideal S1024x128 .bf16) (ix2 q l) = blkAt y u v q (0 + l.val) := by
  have e : (k0_pay13 (F := Ideal) y u v (Scalar.select (Scalar.cmpi .eq 64#32 0#32) 1#32 64#32) k0_pay8 k0_pay9 k0_pay10 k0_pay11 : FVec Ideal S1024x128 .bf16) (ix2 q l) = ropeBlk (extractStridedSlice S1024x128 ![0, 0] y slices_S1024x1024_o0_0_S1024x128) u v (ix2 q l) * scale := rfl
  rw [e, ropeBlk_slice 0 rfl (by decide)]
  unfold blkAt
  rw [if_pos (by omega)]

theorem pay14_apply (y : FVec Ideal S1024x1024 .f32) (u v : FVec Ideal S1024x128 .f32) (q : Fin 1024) (l : Fin 128) :
    (k0_pay14 (F := Ideal) y u v (Scalar.select (Scalar.cmpi .eq 64#32 0#32) 1#32 64#32) k0_pay8 k0_pay9 k0_pay10 k0_pay11 : FVec Ideal S1024x128 .bf16) (ix2 q l) = blkAt y u v q (128 + l.val) := by
  have e : (k0_pay14 (F := Ideal) y u v (Scalar.select (Scalar.cmpi .eq 64#32 0#32) 1#32 64#32) k0_pay8 k0_pay9 k0_pay10 k0_pay11 : FVec Ideal S1024x128 .bf16) (ix2 q l) = ropeBlk (extractStridedSlice S1024x128 ![0, 128] y slices_S1024x1024_o0_128_S1024x128) u v (ix2 q l) * scale := rfl
  rw [e, ropeBlk_slice 128 rfl (by decide)]
  unfold blkAt
  rw [if_pos (by omega)]

theorem pay15_apply (y : FVec Ideal S1024x1024 .f32) (u v : FVec Ideal S1024x128 .f32) (q : Fin 1024) (l : Fin 128) :
    (k0_pay15 (F := Ideal) y u v (Scalar.select (Scalar.cmpi .eq 64#32 0#32) 1#32 64#32) k0_pay8 k0_pay9 k0_pay10 k0_pay11 : FVec Ideal S1024x128 .bf16) (ix2 q l) = blkAt y u v q (256 + l.val) := by
  have e : (k0_pay15 (F := Ideal) y u v (Scalar.select (Scalar.cmpi .eq 64#32 0#32) 1#32 64#32) k0_pay8 k0_pay9 k0_pay10 k0_pay11 : FVec Ideal S1024x128 .bf16) (ix2 q l) = ropeBlk (extractStridedSlice S1024x128 ![0, 256] y slices_S1024x1024_o0_256_S1024x128) u v (ix2 q l) * scale := rfl
  rw [e, ropeBlk_slice 256 rfl (by decide)]
  unfold blkAt
  rw [if_pos (by omega)]

theorem pay16_apply (y : FVec Ideal S1024x1024 .f32) (u v : FVec Ideal S1024x128 .f32) (q : Fin 1024) (l : Fin 128) :
    (k0_pay16 (F := Ideal) y u v firstHalf : FVec Ideal S1024x128 .bf16) (ix2 q l) = blkAt y u v q (384 + l.val) := by
  have e : (k0_pay16 (F := Ideal) y u v firstHalf : FVec Ideal S1024x128 .bf16) (ix2 q l) = ropeBlk (extractStridedSlice S1024x128 ![0, 384] y slices_S1024x1024_o0_384_S1024x128) u v (ix2 q l) * scale := rfl
  rw [e, ropeBlk_slice 384 rfl (by decide)]
  unfold blkAt
  rw [if_pos (by omega)]

theorem pay17_apply (y : FVec Ideal S1024x1024 .f32) (u v : FVec Ideal S1024x128 .f32) (q : Fin 1024) (l : Fin 128) :
    (k0_pay17 (F := Ideal) y u v firstHalf : FVec Ideal S1024x128 .bf16) (ix2 q l) = blkAt y u v q (512 + l.val) := by
  have e : (k0_pay17 (F := Ideal) y u v firstHalf : FVec Ideal S1024x128 .bf16) (ix2 q l) = ropeBlk (extractStridedSlice S1024x128 ![0, 512] y slices_S1024x1024_o0_512_S1024x128) u v (ix2 q l) := rfl
  rw [e, ropeBlk_slice 512 rfl (by decide)]
  unfold blkAt
  rw [if_neg (by omega)]

theorem pay18_apply (y : FVec Ideal S1024x1024 .f32) (u v : FVec Ideal S1024x128 .f32) (q : Fin 1024) (l : Fin 128) :
    (k0_pay18 (F := Ideal) y u v firstHalf : FVec Ideal S1024x128 .bf16) (ix2 q l) = blkAt y u v q (640 + l.val) := by
  have e : (k0_pay18 (F := Ideal) y u v firstHalf : FVec Ideal S1024x128 .bf16) (ix2 q l) = ropeBlk (extractStridedSlice S1024x128 ![0, 640] y slices_S1024x1024_o0_640_S1024x128) u v (ix2 q l) := rfl
  rw [e, ropeBlk_slice 640 rfl (by decide)]
  unfold blkAt
  rw [if_neg (by omega)]

theorem pay19_apply (y : FVec Ideal S1024x1024 .f32) (u v : FVec Ideal S1024x128 .f32) (q : Fin 1024) (l : Fin 128) :
    (k0_pay19 (F := Ideal) y u v firstHalf : FVec Ideal S1024x128 .bf16) (ix2 q l) = blkAt y u v q (768 + l.val) := by
  have e : (k0_pay19 (F := Ideal) y u v firstHalf : FVec Ideal S1024x128 .bf16) (ix2 q l) = ropeBlk (extractStridedSlice S1024x128 ![0, 768] y slices_S1024x1024_o0_768_S1024x128) u v (ix2 q l) := rfl
  rw [e, ropeBlk_slice 768 rfl (by decide)]
  unfold blkAt
  rw [if_neg (by omega)]

theorem pay21_apply (y : FVec Ideal S1024x1024 .f32) (u v : FVec Ideal S1024x128 .f32) (q : Fin 1024) (l : Fin 128) :
    (k0_pay21 (F := Ideal) u v firstHalf (k0_pay20 (F := Ideal) y) : FVec Ideal S1024x128 .bf16) (ix2 q l) = blkAt y u v q (896 + l.val) := by
  have e : (k0_pay21 (F := Ideal) u v firstHalf (k0_pay20 (F := Ideal) y) : FVec Ideal S1024x128 .bf16) (ix2 q l) = ropeBlk (extractStridedSlice S1024x128 ![0, 896] y slices_S1024x1024_o0_896_S1024x128) u v (ix2 q l) := rfl
  rw [e, ropeBlk_slice 896 rfl (by decide)]
  unfold blkAt
  rw [if_neg (by omega)]

/-! ## The arguments -/

variable (m : (ℓ : Loc nD τ sig) → Buf (Elt Ideal) ℓ) (c : Dev nD)

def aX (r : Fin 65536) (k : Fin 1024) : EReal := (m ((c : Thread nD τ).loc main_arg0) : S65536x1024.Idx → EReal) (ix2 r k)
def aN (k : Fin 1024) : EReal := (m ((c : Thread nD τ).loc main_arg1) : S1024.Idx → EReal) (ix1 k)
def aW (k : Fin 1024) (f : Fin 8200) : EReal := (m ((c : Thread nD τ).loc main_arg2) : S1024x8200.Idx → EReal) (ix2 k f)

/-! ## The tables -/

theorem v47_apply (k : Fin 1024) : (V m c main_v47 : FVec Ideal S1x1024 .f32) (ix2 0 k) = aN m c k := by
  simp only [V, hostOps0, hostOps0_1, hostOps0_2, List.flatten_cons, List.flatten_nil, List.append_nil, List.cons_append, List.nil_append]
  entry_read
  pointwise []
  rfl

theorem v17_apply (p : Fin 4096) (j : Fin 32) : (V m c main_v17 : FVec Ideal S4096x32 .f32) (ix2 p j) = cosAt p j := by
  unfold cosAt angle
  simp only [V, hostOps0, hostOps0_1, hostOps0_2, List.flatten_cons, List.flatten_nil, List.append_nil, List.cons_append, List.nil_append]
  entry_read
  pointwise []
  rfl

theorem v18_apply (p : Fin 4096) (j : Fin 32) : (V m c main_v18 : FVec Ideal S4096x32 .f32) (ix2 p j) = sinAt p j := by
  unfold sinAt angle
  simp only [V, hostOps0, hostOps0_1, hostOps0_2, List.flatten_cons, List.flatten_nil, List.append_nil, List.cons_append, List.nil_append]
  entry_read
  pointwise []
  rfl

theorem v28_apply (p : Fin 4096) (l : Fin 128) : (V m c main_v28 : FVec Ideal S4096x128 .f32) (ix2 p l) = cosAt p (Fin.ofNat 32 l.val) := by
  unfold cosAt angle
  simp only [V, hostOps0, hostOps0_1, hostOps0_2, List.flatten_cons, List.flatten_nil, List.append_nil, List.cons_append, List.nil_append]
  entry_read
  refine (shapeCast_apply _ _ (ix2 p l) (ix4 (0 : Fin 1) p (⟨l.val / 32, by omega⟩ : Fin 4) (Fin.ofNat 32 l.val)) ?_).trans ?_
  · rw [Shape.rowMajor_val_two, Shape.rowMajor_val_four]
    show ((0 * 4096 + p.val) * 4 + l.val / 32) * 32 + l.val % 32 = p.val * 128 + l.val
    omega
  generalize Fin.ofNat 32 l.val = j
  pointwise []
  rfl

theorem v31_apply (p : Fin 4096) (l : Fin 128) : (V m c main_v31 : FVec Ideal S4096x128 .f32) (ix2 p l) = sinAt p (Fin.ofNat 32 l.val) := by
  unfold sinAt angle
  simp only [V, hostOps0, hostOps0_1, hostOps0_2, List.flatten_cons, List.flatten_nil, List.append_nil, List.cons_append, List.nil_append]
  entry_read
  refine (shapeCast_apply _ _ (ix2 p l) (ix4 (0 : Fin 1) p (⟨l.val / 32, by omega⟩ : Fin 4) (Fin.ofNat 32 l.val)) ?_).trans ?_
  · rw [Shape.rowMajor_val_two, Shape.rowMajor_val_four]
    show ((0 * 4096 + p.val) * 4 + l.val / 32) * 32 + l.val % 32 = p.val * 128 + l.val
    omega
  generalize Fin.ofNat 32 l.val = j
  pointwise []
  rfl

theorem v25_apply (l : Fin 128) : (V m c main_v25 : FVec Ideal S128 .f32) (ix1 l) = if l.val % 64 < 32 then -(1 : EReal) else 1 := by
  simp only [V, hostOps0, hostOps0_1, hostOps0_2, List.flatten_cons, List.flatten_nil, List.append_nil, List.cons_append, List.nil_append]
  entry_read
  refine (shapeCast_apply _ _ (ix1 l) (ix2 (⟨l.val / 64, by omega⟩ : Fin 2) (Fin.ofNat 64 l.val)) ?_).trans ?_
  · rw [Shape.rowMajor_val_two, Shape.rowMajor_val_one]
    show l.val / 64 * 64 + l.val % 64 = l.val
    omega
  have hl : l.val % 64 = (Fin.ofNat 64 l.val).val := rfl
  rw [hl]
  generalize Fin.ofNat 64 l.val = j
  pointwise []
  rfl

theorem v34_apply (p : Fin 4096) (l : Fin 128) : (V m c main_v34 : FVec Ideal S4096x128 .f32) (ix2 p l) = sinAt p (Fin.ofNat 32 l.val) * (if l.val % 64 < 32 then -(1 : EReal) else 1) := by
  rw [← v31_apply m c p l, ← v25_apply m c l]
  simp only [V, hostOps0, hostOps0_1, hostOps0_2, List.flatten_cons, List.flatten_nil, List.append_nil, List.cons_append, List.nil_append]
  entry_read
  rfl

theorem v38_apply (k : Fin 1024) (n : Fin 8192) : (V m c main_v38 : FVec Ideal S1024x8192 .bf16) (ix2 k n) = aW m c k (Fin.ofNat 8200 (if n.val < 5120 then n.val else n.val + 8)) := by
  simp only [V, hostOps0, hostOps0_1, hostOps0_2, List.flatten_cons, List.flatten_nil, List.append_nil, List.cons_append, List.nil_append]
  entry_read
  by_cases h : n.val < 5120
  · rw [if_pos h]
    pointwise []
    split_ifs <;> first | omega | (refine congrArg (m ((c : Thread nD τ).loc main_arg2) : S1024x8200.Idx → EReal) (congrArg (ix2 k) (Fin.ext ?_)); show _ = n.val % 8200; simp only; omega)
  · rw [if_neg h]
    pointwise []
    split_ifs <;> first | omega | (refine congrArg (m ((c : Thread nD τ).loc main_arg2) : S1024x8200.Idx → EReal) (congrArg (ix2 k) (Fin.ext ?_)); show _ = (n.val + 8) % 8200; simp only; omega)

/-! ## The blocks, at their literal shapes -/

theorem trans4 : ∀ t : Fin grid0.N, cc0_transform_4 (grid0.coords t) 0 = t.val / 8 % 4 := by decide +kernel
theorem trans5 : ∀ t : Fin grid0.N, cc0_transform_5 (grid0.coords t) 0 = t.val / 8 % 4 := by decide +kernel

def b0 (t : Fin cfg0.N) : FVec Ideal S1024x1024 .f32 := iblk m c 0 t
def b1 (t : Fin cfg0.N) : FVec Ideal S1x1024 .f32 := iblk m c 1 t
def b2 (t : Fin cfg0.N) : FVec Ideal S1024x1024 .bf16 := iblk m c 2 t
def b4 (t : Fin cfg0.N) : FVec Ideal S1024x128 .f32 := iblk m c 4 t
def b5 (t : Fin cfg0.N) : FVec Ideal S1024x128 .f32 := iblk m c 5 t

theorem b0_apply (t : Fin cfg0.N) (q : Fin 1024) (k : Fin 1024) :
    b0 m c t (ix2 q k) = aX m c (Fin.ofNat 65536 (1024 * (t.val / 8) + q.val)) k := by
  have hN : t.val < 512 := Nat.lt_of_lt_of_eq t.isLt N_0
  have hc0 := coord0 t
  have hc1 := coord1 t
  have hb : ((cfg0.win 0).blk t).view.emb (ix2 q k) = ix2 (n0 := 65536) (n1 := 1024) (Fin.ofNat 65536 (1024 * (t.val / 8) + q.val)) k := by
    funext a
    apply Fin.ext
    match a with
    | ⟨0, _⟩ => show ((grid0.coords t 0).val % 2 ^ 32) * 1024 + 1 * q.val = (1024 * (t.val / 8) + q.val) % 65536; omega
    | ⟨1, _⟩ => show 0 * 1024 + 1 * k.val = k.val; omega
  show V m c (Pipeline.arrRef spec0 0) (((cfg0.win 0).blk t).view.emb (ix2 q k)) = _
  rw [hb]
  show V m c main_arg0 _ = _
  rw [V_main_arg0]
  rfl

theorem b1_apply (t : Fin cfg0.N) (k : Fin 1024) : b1 m c t (ix2 0 k) = aN m c k := by
  have hb : ((cfg0.win 1).blk t).view.emb (ix2 (0 : Fin 1) k) = ix2 (n0 := 1) (n1 := 1024) 0 k := by
    funext a
    apply Fin.ext
    match a with
    | ⟨0, _⟩ => rfl
    | ⟨1, _⟩ => show 0 * 1024 + 1 * k.val = k.val; omega
  show V m c (Pipeline.arrRef spec0 1) (((cfg0.win 1).blk t).view.emb (ix2 (0 : Fin 1) k)) = _
  rw [hb]
  exact v47_apply m c k

theorem b2_apply (t : Fin cfg0.N) (k : Fin 1024) (n : Fin 1024) :
    b2 m c t (ix2 k n) = aW m c k (Fin.ofNat 8200 (if 1024 * (t.val % 8) + n.val < 5120 then 1024 * (t.val % 8) + n.val else 1024 * (t.val % 8) + n.val + 8)) := by
  have hN : t.val < 512 := Nat.lt_of_lt_of_eq t.isLt N_0
  have hc0 := coord0 t
  have hc1 := coord1 t
  have hb : ((cfg0.win 2).blk t).view.emb (ix2 k n) = ix2 (n0 := 1024) (n1 := 8192) k (Fin.ofNat 8192 (1024 * (t.val % 8) + n.val)) := by
    funext a
    apply Fin.ext
    match a with
    | ⟨0, _⟩ => show 0 * 1024 + 1 * k.val = k.val; omega
    | ⟨1, _⟩ => show ((grid0.coords t 1).val % 2 ^ 32) * 1024 + 1 * n.val = (1024 * (t.val % 8) + n.val) % 8192; omega
  show V m c (Pipeline.arrRef spec0 2) (((cfg0.win 2).blk t).view.emb (ix2 k n)) = _
  rw [hb]
  have hv : (Fin.ofNat 8192 (1024 * (t.val % 8) + n.val)).val = 1024 * (t.val % 8) + n.val := by show (1024 * (t.val % 8) + n.val) % 8192 = _; omega
  refine (v38_apply m c k (Fin.ofNat 8192 (1024 * (t.val % 8) + n.val))).trans ?_
  rw [hv]

theorem b4_apply (t : Fin cfg0.N) (q : Fin 1024) (l : Fin 128) :
    b4 m c t (ix2 q l) = cosAt (Fin.ofNat 4096 (1024 * (t.val / 8) + q.val)) (Fin.ofNat 32 l.val) := by
  have hN : t.val < 512 := Nat.lt_of_lt_of_eq t.isLt N_0
  have hc0 := coord0 t
  have hc1 := coord1 t
  have ht := trans4 t
  have hb : ((cfg0.win 4).blk t).view.emb (ix2 q l) = ix2 (n0 := 4096) (n1 := 128) (Fin.ofNat 4096 (1024 * (t.val / 8) + q.val)) l := by
    funext a
    apply Fin.ext
    match a with
    | ⟨0, _⟩ => show cc0_transform_4 (grid0.coords t) 0 * 1024 + 1 * q.val = (1024 * (t.val / 8) + q.val) % 4096; omega
    | ⟨1, _⟩ => show 0 * 128 + 1 * l.val = l.val; omega
  show V m c (Pipeline.arrRef spec0 4) (((cfg0.win 4).blk t).view.emb (ix2 q l)) = _
  rw [hb]
  exact v28_apply m c _ l

theorem b5_apply (t : Fin cfg0.N) (q : Fin 1024) (l : Fin 128) :
    b5 m c t (ix2 q l) = sinAt (Fin.ofNat 4096 (1024 * (t.val / 8) + q.val)) (Fin.ofNat 32 l.val) * (if l.val % 64 < 32 then -(1 : EReal) else 1) := by
  have hN : t.val < 512 := Nat.lt_of_lt_of_eq t.isLt N_0
  have hc0 := coord0 t
  have hc1 := coord1 t
  have ht := trans5 t
  have hb : ((cfg0.win 5).blk t).view.emb (ix2 q l) = ix2 (n0 := 4096) (n1 := 128) (Fin.ofNat 4096 (1024 * (t.val / 8) + q.val)) l := by
    funext a
    apply Fin.ext
    match a with
    | ⟨0, _⟩ => show cc0_transform_5 (grid0.coords t) 0 * 1024 + 1 * q.val = (1024 * (t.val / 8) + q.val) % 4096; omega
    | ⟨1, _⟩ => show 0 * 128 + 1 * l.val = l.val; omega
  show V m c (Pipeline.arrRef spec0 5) (((cfg0.win 5).blk t).view.emb (ix2 q l)) = _
  rw [hb]
  exact v34_apply m c _ l

end Cert.Kernel5Ideal.InProj

end
-- ==== Proof.InProjValue.lean ====
/- The input projection's output array over the reals: each row's entries. -/
module

public import proofs.«01_k».proof.Proof.InProjBlocks
public import proofs.«01_k».proof.Proof.Gen.Kernel5Ideal.Points
public import Idealize.ShloMosaic.Lib.Claim

@[expose] public section

set_option maxRecDepth 16384

noncomputable section

namespace Cert.Kernel5Ideal.InProj

open Idealize.ShloMosaic Idealize.ShloMosaic.TcCoe Idealize.SL.Sem
open Cert.Kernel5Ideal Cert.Kernel5Ideal.Gen Cert.Dense Cert.InProj

/-! ## The block of queries and keys -/

/-- The block, by its closed form. -/
def blkArr (x0 : FVec Ideal S1024x1024 .f32) (x1 : FVec Ideal S1x1024 .f32) (x2 : FVec Ideal S1024x1024 .bf16) (x4 x5 : FVec Ideal S1024x128 .f32) : FVec Ideal S1024x1024 .bf16 :=
  fun i : S1024x1024.Idx => blkAt (k0_pay5 (F := Ideal) x0 x1 x2) x4 x5 (i 0) (i 1).val

theorem rotated_eq (x0 : FVec Ideal S1024x1024 .f32) (x1 : FVec Ideal S1x1024 .f32) (x2 : FVec Ideal S1024x1024 .bf16) (x4 x5 : FVec Ideal S1024x128 .f32) (q n : Fin 1024) :
    (rotated (F := Ideal) x0 x1 x2 x4 x5 : FVec Ideal S1024x1024 .bf16) (ix2 q n) = blkAt (k0_pay5 (F := Ideal) x0 x1 x2) x4 x5 q n.val := by
  refine (View.canon_apply_of_pieces (Val := Elt Ideal) (S := S1024x1024) (e := .bf16) (blkArr x0 x1 x2 x4 x5) _ ?_ (ix2 q n) ?_).trans rfl
  · intro p hp x
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 896] S1024x128.size inb_S1024x1024_S1024x128_0_896).emb (ix2 a l) = ix2 (n0 := 1024) (n1 := 1024) a (⟨896 + l.val, by omega⟩ : Fin 1024) := by
        funext b
        apply Fin.ext
        match b with
        | ⟨0, _⟩ => show 0 + 1 * a.val = a.val; omega
        | ⟨1, _⟩ => show 896 + 1 * l.val = 896 + l.val; omega
      refine (pay21_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 768] S1024x128.size inb_S1024x1024_S1024x128_0_768).emb (ix2 a l) = ix2 (n0 := 1024) (n1 := 1024) a (⟨768 + l.val, by omega⟩ : Fin 1024) := by
        funext b
        apply Fin.ext
        match b with
        | ⟨0, _⟩ => show 0 + 1 * a.val = a.val; omega
        | ⟨1, _⟩ => show 768 + 1 * l.val = 768 + l.val; omega
      refine (pay19_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 640] S1024x128.size inb_S1024x1024_S1024x128_0_640).emb (ix2 a l) = ix2 (n0 := 1024) (n1 := 1024) a (⟨640 + l.val, by omega⟩ : Fin 1024) := by
        funext b
        apply Fin.ext
        match b with
        | ⟨0, _⟩ => show 0 + 1 * a.val = a.val; omega
        | ⟨1, _⟩ => show 640 + 1 * l.val = 640 + l.val; omega
      refine (pay18_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 512] S1024x128.size inb_S1024x1024_S1024x128_0_512).emb (ix2 a l) = ix2 (n0 := 1024) (n1 := 1024) a (⟨512 + l.val, by omega⟩ : Fin 1024) := by
        funext b
        apply Fin.ext
        match b with
        | ⟨0, _⟩ => show 0 + 1 * a.val = a.val; omega
        | ⟨1, _⟩ => show 512 + 1 * l.val = 512 + l.val; omega
      refine (pay17_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 384] S1024x128.size inb_S1024x1024_S1024x128_0_384).emb (ix2 a l) = ix2 (n0 := 1024) (n1 := 1024) a (⟨384 + l.val, by omega⟩ : Fin 1024) := by
        funext b
        apply Fin.ext
        match b with
        | ⟨0, _⟩ => show 0 + 1 * a.val = a.val; omega
        | ⟨1, _⟩ => show 384 + 1 * l.val = 384 + l.val; omega
      refine (pay16_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 256] S1024x128.size inb_S1024x1024_S1024x128_0_256).emb (ix2 a l) = ix2 (n0 := 1024) (n1 := 1024) a (⟨256 + l.val, by omega⟩ : Fin 1024) := by
        funext b
        apply Fin.ext
        match b with
        | ⟨0, _⟩ => show 0 + 1 * a.val = a.val; omega
        | ⟨1, _⟩ => show 256 + 1 * l.val = 256 + l.val; omega
      refine (pay15_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 128] S1024x128.size inb_S1024x1024_S1024x128_0_128).emb (ix2 a l) = ix2 (n0 := 1024) (n1 := 1024) a (⟨128 + l.val, by omega⟩ : Fin 1024) := by
        funext b
        apply Fin.ext
        match b with
        | ⟨0, _⟩ => show 0 + 1 * a.val = a.val; omega
        | ⟨1, _⟩ => show 128 + 1 * l.val = 128 + l.val; omega
      refine (pay14_apply _ _ _ a l).trans ?_
      rw [pay6_eq, pay7_eq]
      exact (congrArg (blkArr x0 x1 x2 x4 x5) he).symm
    rcases List.mem_cons.mp hp with rfl | hp
    · obtain ⟨a, l, rfl⟩ : ∃ (a : Fin 1024) (l : Fin 128), x = ix2 a l := by
        refine ⟨x 0, x 1, funext fun b => ?_⟩
        match b with
        | ⟨0, _⟩ => rfl
        | ⟨1, _⟩ => rfl
      have he : (Rect.unit (s := S1024x1024) ![0, 0] S1024x128.size inb_S1024x1024_S1024x128_0_0).emb (ix2 a l) = ix2 (n0 := 1024) (n1 := 1024) a (⟨0 + l.val, by omega⟩ : Fin 1024) := by
        funext b
        apply Fin.ext
        match b with
        | ⟨0, _⟩ => show 0 + 1 * a.val = a.val; omega
        | ⟨1, _⟩ => show 0 + 1 * l.val = 0 + l.val; omega
      refine (pay13_apply _ _ _ a l).trans ?_
      rw [pay6_eq, pay7_eq]
      exact (congrArg (blkArr x0 x1 x2 x4 x5) he).symm
    exact absurd hp (List.not_mem_nil)
  · have key : ∀ o : ℕ, ∀ inb, o ≤ n.val → n.val < o + 128 → (ix2 q n : S1024x1024.Idx) ∈ (Rect.unit (s := S1024x1024) ![0, o] S1024x128.size inb).set := fun o inb h1 h2 =>
      (Rect.mem_set_unit ..).mpr fun a => by
        match a with
        | ⟨0, _⟩ => exact ⟨Nat.zero_le _, by show q.val < 0 + 1024; omega⟩
        | ⟨1, _⟩ => exact ⟨h1, h2⟩
    by_cases h896 : 896 ≤ n.val
    · exact ⟨_, List.mem_cons_self .., key 896 inb_S1024x1024_S1024x128_0_896 h896 (by omega)⟩
    by_cases h768 : 768 ≤ n.val
    · exact ⟨_, List.mem_cons_of_mem _ (List.mem_cons_self ..), key 768 inb_S1024x1024_S1024x128_0_768 h768 (by omega)⟩
    by_cases h640 : 640 ≤ n.val
    · exact ⟨_, List.mem_cons_of_mem _ (List.mem_cons_of_mem _ (List.mem_cons_self ..)), key 640 inb_S1024x1024_S1024x128_0_640 h640 (by omega)⟩
    by_cases h512 : 512 ≤ n.val
    · exact ⟨_, List.mem_cons_of_mem _ (List.mem_cons_of_mem _ (List.mem_cons_of_mem _ (List.mem_cons_self ..))), key 512 inb_S1024x1024_S1024x128_0_512 h512 (by omega)⟩
    by_cases h384 : 384 ≤ n.val
    · exact ⟨_, List.mem_cons_of_mem _ (List.mem_cons_of_mem _ (List.mem_cons_of_mem _ (List.mem_cons_of_mem _ (List.mem_cons_self ..)))), key 384 inb_S1024x1024_S1024x128_0_384 h384 (by omega)⟩
    by_cases h256 : 256 ≤ n.val
    · exact ⟨_, List.mem_cons_of_mem _ (List.mem_cons_of_mem _ (List.mem_cons_of_mem _ (List.mem_cons_of_mem _ (List.mem_cons_of_mem _ (List.mem_cons_self ..))))), key 256 inb_S1024x1024_S1024x128_0_256 h256 (by omega)⟩
    by_cases h128 : 128 ≤ n.val
    · exact ⟨_, List.mem_cons_of_mem _ (List.mem_cons_of_mem _ (List.mem_cons_of_mem _ (List.mem_cons_of_mem _ (List.mem_cons_of_mem _ (List.mem_cons_of_mem _ (List.mem_cons_self ..)))))), key 128 inb_S1024x1024_S1024x128_0_128 h128 (by omega)⟩
    exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), key 0 inb_S1024x1024_S1024x128_0_0 (Nat.zero_le _) (by omega)⟩

theorem eighth : Ideal.ofBits .f32 0x3E000000#32 = ((8⁻¹ : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The queries' scale is an eighth, in units of the logarithm of two. -/
theorem scale_eq (x : EReal) : x * scale = Ideal.div (x * Ideal.ofBits .f32 0x3E000000#32) (Ideal.log (Ideal.ofBits .f32 0x40000000#32)) := by
  have hl : Real.log 2 ≠ 0 := (Real.log_pos (by norm_num)).ne'
  rw [eighth, two, Ideal.log_coe, if_neg (by norm_num), Ideal.div_coe hl]
  unfold scale
  rw [EReal.coe_mul, mul_assoc, one_div]

variable (m : (ℓ : Loc nD τ sig) → Buf (Elt Ideal) ℓ) (ρ : Dev nD → PrngReg) (c : Dev nD)

/-- Row `r` through the weights. -/
def rowOf (r : Fin 65536) : ℕ → EReal := through (aX m c r) (aN m c) (aW m c)

/-- The output array. -/
def G8 (c : Dev nD) : Buf (Elt Ideal) ((c : Thread nD τ).loc main_v48_0) := fun (i : S65536x8192.Idx) => entry (rowOf m c (i 0)) (Fin.ofNat 4096 (i 0).val) (i 1).val

theorem norm_eq (t : Fin cfg0.N) (q : Fin 1024) : norm (fun k => b0 m c t (ix2 q k)) (fun k => b1 m c t (ix2 0 k)) = norm (aX m c (Fin.ofNat 65536 (1024 * (t.val / 8) + q.val))) (aN m c) :=
  congr (congrArg norm (funext fun k => b0_apply m c t q k)) (funext fun k => b1_apply m c t k)

/-- What the first point of a tile leaves in the output block. -/
theorem out_first (t : Fin cfg0.N) (h0 : t.val % 8 = 0) (q n : Fin 1024) :
    blkAt (k0_pay5 (F := Ideal) (b0 m c t) (b1 m c t) (b2 m c t)) (b4 m c t) (b5 m c t) q n.val
      = entry (rowOf m c (Fin.ofNat 65536 (1024 * (t.val / 8) + q.val))) (Fin.ofNat 4096 (1024 * (t.val / 8) + q.val)) n.val := by
  have hp : ∀ n : ℕ, n < 1024 → (k0_pay5 (F := Ideal) (b0 m c t) (b1 m c t) (b2 m c t) : FVec Ideal S1024x1024 .f32) (ix2 q (Fin.ofNat 1024 n)) = rowOf m c (Fin.ofNat 65536 (1024 * (t.val / 8) + q.val)) n := fun n hn => by
    have hv : (Fin.ofNat 1024 n).val = n := Nat.mod_eq_of_lt hn
    rw [pay5_apply, norm_eq]
    unfold rowOf through
    refine Finset.sum_congr rfl fun k _ => ?_
    rw [b2_apply, h0, hv, Nat.mul_zero, Nat.zero_add, if_pos (by omega)]
  have ht : turnBlk (k0_pay5 (F := Ideal) (b0 m c t) (b1 m c t) (b2 m c t)) (b4 m c t) (b5 m c t) q n.val
      = turn (rowOf m c (Fin.ofNat 65536 (1024 * (t.val / 8) + q.val))) (Fin.ofNat 4096 (1024 * (t.val / 8) + q.val)) n.val := by
    have e1 : Fin.ofNat 32 (Fin.ofNat 128 n.val).val = Fin.ofNat 32 n.val := Fin.ext (by show n.val % 128 % 32 = n.val % 32; omega)
    have e2 : (Fin.ofNat 128 n.val).val % 64 = n.val % 64 := by show n.val % 128 % 64 = _; omega
    unfold turnBlk turn
    rw [b4_apply, b5_apply, e1, e2, hp n.val n.isLt]
    by_cases hl : n.val % 64 < 32
    · rw [if_pos hl, if_pos hl, if_pos hl, hp _ (by omega), mul_neg, mul_one, mul_neg, ← sub_eq_add_neg]
    · rw [if_neg hl, if_neg hl, if_neg hl, hp _ (by omega), mul_one]
  unfold blkAt entry
  rw [ht]
  by_cases h : n.val < 512
  · rw [if_pos h, if_pos h, scale_eq]
  · rw [if_neg h, if_neg h, if_pos n.isLt]

/-- What another point of a tile leaves in the output block. -/
theorem out_rest (t : Fin cfg0.N) (h0 : ¬t.val % 8 = 0) (q n : Fin 1024) :
    (k0_pay2 (F := Ideal) (k0_pay4 (F := Ideal) (b0 m c (head t)) (b1 m c (head t))) (b2 m c t) : FVec Ideal S1024x1024 .bf16) (ix2 q n)
      = entry (rowOf m c (Fin.ofNat 65536 (1024 * (t.val / 8) + q.val))) (Fin.ofNat 4096 (1024 * (t.val / 8) + q.val)) (1024 * (t.val % 8) + n.val) := by
  have hd : (head t).val / 8 = t.val / 8 := by show t.val / 8 * 8 / 8 = _; omega
  have hn : norm (fun k => b0 m c (head t) (ix2 q k)) (fun k => b1 m c (head t) (ix2 0 k)) = norm (aX m c (Fin.ofNat 65536 (1024 * (t.val / 8) + q.val))) (aN m c) := by
    rw [norm_eq, hd]
  unfold entry
  rw [pay2_apply, if_neg (by omega), if_neg (by omega)]
  by_cases h : 1024 * (t.val % 8) + n.val < 5120
  · rw [if_pos h]
    unfold rowOf through
    refine Finset.sum_congr rfl fun k _ => ?_
    rw [pay4_apply, hn, b2_apply, if_pos h]
  · rw [if_neg h]
    unfold rowOf through
    refine Finset.sum_congr rfl fun k _ => ?_
    rw [pay4_apply, hn, b2_apply, if_neg h]

theorem out_apply (t : Fin cfg0.N) (q n : Fin 1024) :
    (outAt m c t : FVec Ideal S1024x1024 .bf16) (ix2 q n)
      = entry (rowOf m c (Fin.ofNat 65536 (1024 * (t.val / 8) + q.val))) (Fin.ofNat 4096 (1024 * (t.val / 8) + q.val)) (1024 * (t.val % 8) + n.val) := by
  unfold outAt
  by_cases h0 : t.val % 8 = 0
  · rw [if_pos h0, h0, Nat.mul_zero, Nat.zero_add]
    exact (rotated_eq (b0 m c t) (b1 m c t) (b2 m c t) (b4 m c t) (b5 m c t) q n).trans (out_first m c t h0 q n)
  · rw [if_neg h0]
    exact out_rest m c t h0 q n

theorem emb8 (t : Fin cfg0.N) (q n : Fin 1024) :
    ((cfg0.win 8).blk t).view.emb (ix2 q n) = ix2 (n0 := 65536) (n1 := 8192) (Fin.ofNat 65536 (1024 * (t.val / 8) + q.val)) (Fin.ofNat 8192 (1024 * (t.val % 8) + n.val)) := by
  have hN : t.val < 512 := Nat.lt_of_lt_of_eq t.isLt N_0
  have hc := coord0 t
  have hc1 := coord1 t
  funext a
  apply Fin.ext
  match a with
  | ⟨0, _⟩ =>
    show ((grid0.coords t 0).val % 2 ^ 32) * 1024 + 1 * q.val = (1024 * (t.val / 8) + q.val) % 65536
    omega
  | ⟨1, _⟩ =>
    show ((grid0.coords t 1).val % 2 ^ 32) * 1024 + 1 * n.val = (1024 * (t.val % 8) + n.val) % 8192
    omega

theorem xinj8 (t : Fin cfg0.N) (q n : Fin 1024) :
    ((cfg0.win 8).xinj (grid0.coords t) (ix2 q n) : S1024x1024.Idx) = ix2 q n := by
  funext a
  match a with
  | ⟨0, _⟩ => rfl
  | ⟨1, _⟩ => rfl

/-- What a grid point writes back is its block of the output array. -/
theorem flushed8_eq (t : Fin cfg0.N) (hf : (cfg0.win 8).flush t = true) :
    (dats m 0 c).flushed 8 t = ((cfg0.win 8).blk t).view.read (Elt Ideal) (G8 m c) := by
  have hN : t.val < 512 := Nat.lt_of_lt_of_eq t.isLt N_0
  show (cfg0.win 8).cut (grid0.coords t) ((dats m 0 c).after 8 t) = _
  rw [after0_8]
  refine funext fun (y : S1024x1024.Idx) => ?_
  obtain ⟨q, n, rfl⟩ : ∃ (q n : Fin 1024), y = ix2 q n := by
    refine ⟨y 0, y 1, funext fun a => ?_⟩
    match a with
    | ⟨0, _⟩ => rfl
    | ⟨1, _⟩ => rfl
  have e1 : (outAt m c t : FVec Ideal S1024x1024 .bf16) ((cfg0.win 8).xinj (grid0.coords t) (ix2 q n)) = (outAt m c t : FVec Ideal S1024x1024 .bf16) (ix2 q n) :=
    congrArg (outAt m c t : FVec Ideal S1024x1024 .bf16) (xinj8 t q n)
  have e2 : G8 m c (((cfg0.win 8).blk t).view.emb (ix2 q n)) = G8 m c (ix2 (n0 := 65536) (n1 := 8192) (Fin.ofNat 65536 (1024 * (t.val / 8) + q.val)) (Fin.ofNat 8192 (1024 * (t.val % 8) + n.val))) :=
    congrArg (G8 m c) (emb8 t q n)
  refine e1.trans (Eq.trans ?_ e2.symm)
  refine (out_apply m c t q n).trans ?_
  have hp : Fin.ofNat 4096 (1024 * (t.val / 8) + q.val) = Fin.ofNat 4096 (Fin.ofNat 65536 (1024 * (t.val / 8) + q.val)).val :=
    Fin.ext (by show (1024 * (t.val / 8) + q.val) % 4096 = (1024 * (t.val / 8) + q.val) % 65536 % 4096; omega)
  have hn : 1024 * (t.val % 8) + n.val = (Fin.ofNat 8192 (1024 * (t.val % 8) + n.val)).val := by show _ = (1024 * (t.val % 8) + n.val) % 8192; omega
  exact congrArg₂ (entry (rowOf m c (Fin.ofNat 65536 (1024 * (t.val / 8) + q.val)))) hp hn

theorem mem_blk8 (t : Fin cfg0.N) (i : S65536x8192.Idx) :
    i ∈ ((cfg0.win 8).blk t).view.set ↔ ∀ a : Fin 2, cc0_transform_8 (grid0.coords t) a * S1024x1024.size a ≤ (i a).val ∧ (i a).val < cc0_transform_8 (grid0.coords t) a * S1024x1024.size a + S1024x1024.size a := by
  show i ∈ ((View.whole main_v48_0).slice (Rect.block (s := S65536x8192) S1024x1024.size (cc0_transform_8 (grid0.coords t)) (hinb0_8 (grid0.coords t)))).set ↔ _
  rw [View.set_slice_whole]
  exact Rect.mem_set_unit ..

/-- Every entry of the output array is in a block some point writes back. -/
theorem cover8 (i : S65536x8192.Idx) : ∃ t : Fin cfg0.N, (cfg0.win 8).flush t = true ∧ i ∈ ((cfg0.win 8).blk t).view.set := by
  have h0 : (i 0).val < 65536 := (i 0).isLt
  have h1 : (i 1).val < 8192 := (i 1).isLt
  have hN : 8 * ((i 0).val / 1024) + (i 1).val / 1024 < grid0.N := lt_of_lt_of_eq (by omega) N_0.symm
  have hc : (grid0.coords (⟨8 * ((i 0).val / 1024) + (i 1).val / 1024, hN⟩ : Fin grid0.N) 0).val = (8 * ((i 0).val / 1024) + (i 1).val / 1024) / 8 := coord0 _
  have hc1 : (grid0.coords (⟨8 * ((i 0).val / 1024) + (i 1).val / 1024, hN⟩ : Fin grid0.N) 1).val = (8 * ((i 0).val / 1024) + (i 1).val / 1024) % 8 := coord1 _
  refine ⟨⟨8 * ((i 0).val / 1024) + (i 1).val / 1024, hN⟩, flush0_8 _, (mem_blk8 _ i).mpr fun a => ?_⟩
  match a with
  | ⟨0, _⟩ =>
    show (grid0.coords (⟨8 * ((i 0).val / 1024) + (i 1).val / 1024, hN⟩ : Fin grid0.N) 0).val % 2 ^ 32 * 1024 ≤ (i 0).val
      ∧ (i 0).val < (grid0.coords (⟨8 * ((i 0).val / 1024) + (i 1).val / 1024, hN⟩ : Fin grid0.N) 0).val % 2 ^ 32 * 1024 + 1024
    omega
  | ⟨1, _⟩ =>
    show (grid0.coords (⟨8 * ((i 0).val / 1024) + (i 1).val / 1024, hN⟩ : Fin grid0.N) 1).val % 2 ^ 32 * 1024 ≤ (i 1).val
      ∧ (i 1).val < (grid0.coords (⟨8 * ((i 0).val / 1024) + (i 1).val / 1024, hN⟩ : Fin grid0.N) 1).val % 2 ^ 32 * 1024 + 1024
    omega

/-- The output array after the run. -/
theorem final8 : (dats m 0 c).arrAt 8 cfg0.N = G8 m c :=
  (dats m 0 c).arrAt_eq_of_cover 8 _ (fun t hf => flushed8_eq m c t hf) cover8

/-- The run, with the output array at the rows' entries. -/
theorem run_value : θ_run defs (onTc (τ := τ) (main (F := Ideal))) ⟨m, fun _ => 0, ρ⟩ fun r => ∀ c : Dev nD,
    r.2.mem ((c : Thread nD τ).loc main_v48_0) = G8 m c :=
  (θ_run defs _ _).mono (fun r h c => ((h c).1 8).trans (final8 m c)) (run_main m ρ)

end Cert.Kernel5Ideal.InProj

end
-- ==== Proof.InProjRef.lean ====
/- The input projection's reference at an index: the row's entry. -/
module

public import proofs.«01_k».proof.Proof.Gen.Reference5Ideal.Run
public import proofs.«01_k».proof.Proof.InProjModel
public import Idealize.ShloMosaic.Lib.Pointwise
public import Idealize.ShloMosaic.Lib.Claim

@[expose] public section

set_option maxRecDepth 16384

noncomputable section

namespace Cert.Reference5Ideal.InProj

open Idealize.ShloMosaic Idealize.ShloMosaic.TcCoe Idealize.SL.Sem
open Idealize.ShloMosaic.StableHlo
open Cert.Reference5Ideal Cert.Reference5Ideal.Gen Cert.Dense Cert.InProj

/-- The normed rows. -/
def normed (x : FVec Ideal S65536x1024 .f32) (n : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 n))

theorem normed_apply (x : FVec Ideal S65536x1024 .f32) (n : FVec Ideal S1024 .f32) (r : Fin 65536) (k : Fin 1024) :
    normed x n (ix2 r k) = norm (fun k => x (ix2 r k)) (fun k => n (ix1 k)) k := by
  pointwise [normed]
  rfl

/-- The normed rows through the weights. -/
def proj (x : FVec Ideal S65536x1024 .f32) (n : FVec Ideal S1024 .f32) (w : FVec Ideal S1024x8200 .f32) : FVec Ideal S65536x8200 .f32 :=
  Host.dotGeneral dot_S65536x1024_S1024x8200_S65536x8200_1_0_0_1_n_n none (normed x n) w

theorem proj_apply (x : FVec Ideal S65536x1024 .f32) (n : FVec Ideal S1024 .f32) (w : FVec Ideal S1024x8200 .f32) (r : Fin 65536) (f : Fin 8200) :
    proj x n w (ix2 r f) = ∑ k, norm (fun k => x (ix2 r k)) (fun k => n (ix1 k)) k * w (ix2 k f) := by
  unfold proj
  generalize hy : normed x n = y
  have hn : norm (fun k => x (ix2 r k)) (fun k => n (ix1 k)) = fun k => y (ix2 r k) := funext fun k => by
    rw [← hy]; exact (normed_apply x n r k).symm
  rw [hn]
  pointwise []

/-- The angles of every position. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

theorem angles_apply (p : Fin 4096) (j : Fin 32) : angles (ix2 p j) = angle p j := by
  unfold angles angle
  pointwise []
  rfl

def cosT : FVec Ideal S16x4096x8x32 .f32 := broadcastInDim S16x4096x8x32 ![0, 1, 2, 3] bcast_S1x4096x1x32_S16x4096x8x32_0_1_2_3 (broadcastInDim S1x4096x1x32 ![1, 3] bcast_S4096x32_S1x4096x1x32_1_3 (Host.cos angles))
def sinT : FVec Ideal S16x4096x8x32 .f32 := broadcastInDim S16x4096x8x32 ![0, 1, 2, 3] bcast_S1x4096x1x32_S16x4096x8x32_0_1_2_3 (broadcastInDim S1x4096x1x32 ![1, 3] bcast_S4096x32_S1x4096x1x32_1_3 (Host.sin angles))

theorem cosT_apply (b : Fin 16) (p : Fin 4096) (h : Fin 8) (j : Fin 32) : cosT (ix4 b p h j) = cosAt p j := by
  unfold cosT cosAt
  rw [← angles_apply]
  generalize angles = y
  pointwise []
  try rfl

theorem sinT_apply (b : Fin 16) (p : Fin 4096) (h : Fin 8) (j : Fin 32) : sinT (ix4 b p h j) = sinAt p j := by
  unfold sinT sinAt
  rw [← angles_apply]
  generalize angles = y
  pointwise []
  try rfl

/-- The rows in heads. -/
def heads (x : FVec Ideal S65536x512 .f32) : FVec Ideal S16x4096x8x64 .f32 := shapeCast S16x4096x8x64 x shapeCasts_S65536x512_S16x4096x8x64

theorem heads_apply (x : FVec Ideal S65536x512 .f32) (b : Fin 16) (p : Fin 4096) (h : Fin 8) (l : Fin 64) :
    heads x (ix4 b p h l) = x (ix2 (⟨b.val * 4096 + p.val, by omega⟩ : Fin 65536) (⟨h.val * 64 + l.val, by omega⟩ : Fin 512)) := by
  refine shapeCast_apply x _ (ix4 b p h l) _ ?_
  rw [Shape.rowMajor_val_two, Shape.rowMajor_val_four]
  show (b.val * 4096 + p.val) * 512 + (h.val * 64 + l.val) = ((b.val * 4096 + p.val) * 8 + h.val) * 64 + l.val
  omega

/-- The heads rotated. -/
def turned (y : FVec Ideal S16x4096x8x64 .f32) : FVec Ideal S16x4096x8x64 .f32 :=
  concatenate S16x4096x8x64 3 [⟨S16x4096x8x32, (subf (mulf (extractStridedSlice S16x4096x8x32 ![0, 0, 0, 0] y slices_S16x4096x8x64_S16x4096x8x32_0_0_0_0) cosT) (mulf (extractStridedSlice S16x4096x8x32 ![0, 0, 0, 32] y slices_S16x4096x8x64_S16x4096x8x32_0_0_0_32) sinT))⟩, ⟨S16x4096x8x32, (addf (mulf (extractStridedSlice S16x4096x8x32 ![0, 0, 0, 32] y slices_S16x4096x8x64_S16x4096x8x32_0_0_0_32) cosT) (mulf (extractStridedSlice S16x4096x8x32 ![0, 0, 0, 0] y slices_S16x4096x8x64_S16x4096x8x32_0_0_0_0) sinT))⟩] concatenates_S16x4096x8x32_S16x4096x8x32_S16x4096x8x64_d3

theorem turned_low (y : FVec Ideal S16x4096x8x64 .f32) (b : Fin 16) (p : Fin 4096) (h : Fin 8) (l : Fin 64) (hl : l.val < 32) :
    turned y (ix4 b p h l) = y (ix4 b p h l) * cosAt p ⟨l.val, hl⟩ - y (ix4 b p h (⟨32 + l.val, by omega⟩ : Fin 64)) * sinAt p ⟨l.val, hl⟩ := by
  unfold turned
  rw [concatenate_pair_apply_left (t := S16x4096x8x64) (3 : Fin 4) _ _ concatenates_S16x4096x8x32_S16x4096x8x32_S16x4096x8x64_d3 (ix4 b p h l) rfl (ix4 b p h (⟨l.val, hl⟩ : Fin 32)) (fun a => by fin_cases a <;> rfl)]
  rw [← cosT_apply b p h, ← sinT_apply b p h]
  generalize cosT = u
  generalize sinT = v
  pointwise []
  try rfl

theorem turned_high (y : FVec Ideal S16x4096x8x64 .f32) (b : Fin 16) (p : Fin 4096) (h : Fin 8) (j : Fin 32) :
    turned y (ix4 b p h (⟨32 + j.val, by omega⟩ : Fin 64)) = y (ix4 b p h (⟨32 + j.val, by omega⟩ : Fin 64)) * cosAt p j + y (ix4 b p h (⟨j.val, by omega⟩ : Fin 64)) * sinAt p j := by
  unfold turned
  rw [concatenate_pair_apply_right (t := S16x4096x8x64) (3 : Fin 4) _ _ concatenates_S16x4096x8x32_S16x4096x8x32_S16x4096x8x64_d3 (ix4 b p h (⟨32 + j.val, by omega⟩ : Fin 64)) rfl rfl (ix4 b p h j) (fun a ha => by fin_cases a <;> first | rfl | exact absurd rfl ha) (Nat.add_comm _ _)]
  rw [← cosT_apply b p h, ← sinT_apply b p h]
  generalize cosT = u
  generalize sinT = v
  pointwise []
  try rfl

/-- The rows rotated. -/
def rotated (x : FVec Ideal S65536x512 .f32) : FVec Ideal S65536x512 .f32 := shapeCast S65536x512 (turned (heads x)) shapeCasts_S16x4096x8x64_S65536x512

theorem rotated_apply (x : FVec Ideal S65536x512 .f32) (y : ℕ → EReal) (r : Fin 65536) (hy : ∀ f : Fin 512, x (ix2 r f) = y f.val) (f : Fin 512) :
    rotated x (ix2 r f) = turn y (Fin.ofNat 4096 r.val) f.val := by
  have hp : (⟨r.val % 4096, Nat.mod_lt _ (by decide)⟩ : Fin 4096) = Fin.ofNat 4096 r.val := rfl
  have hx : ∀ g : Fin 512, heads x (ix4 (⟨r.val / 4096, by omega⟩ : Fin 16) (⟨r.val % 4096, Nat.mod_lt _ (by decide)⟩ : Fin 4096) (⟨g.val / 64, by omega⟩ : Fin 8) (⟨g.val % 64, Nat.mod_lt _ (by decide)⟩ : Fin 64)) = y g.val := fun g => by
    rw [heads_apply, ← hy g]
    refine congrArg x (congrArg₂ ix2 (Fin.ext ?_) (Fin.ext ?_)) <;> simp only <;> omega
  refine (shapeCast_apply (turned (heads x)) _ (ix2 r f) (ix4 (⟨r.val / 4096, by omega⟩ : Fin 16) (⟨r.val % 4096, Nat.mod_lt _ (by decide)⟩ : Fin 4096) (⟨f.val / 64, by omega⟩ : Fin 8) (⟨f.val % 64, Nat.mod_lt _ (by decide)⟩ : Fin 64)) ?_).trans ?_
  · rw [Shape.rowMajor_val_two, Shape.rowMajor_val_four]
    show ((r.val / 4096 * 4096 + r.val % 4096) * 8 + f.val / 64) * 64 + f.val % 64 = r.val * 512 + f.val
    omega
  · unfold turn
    by_cases hl : f.val % 64 < 32
    · rw [if_pos hl, turned_low _ _ _ _ _ hl, hx f, hp]
      have h2 := hx ⟨f.val + 32, by omega⟩
      have e1 : (⟨(f.val + 32) / 64, by omega⟩ : Fin 8) = ⟨f.val / 64, by omega⟩ := Fin.ext (by simp only; omega)
      have e2 : (⟨(f.val + 32) % 64, Nat.mod_lt _ (by decide)⟩ : Fin 64) = ⟨32 + f.val % 64, by omega⟩ := Fin.ext (by simp only; omega)
      have e3 : (⟨f.val % 64, hl⟩ : Fin 32) = Fin.ofNat 32 f.val := Fin.ext (by show f.val % 64 = f.val % 32; omega)
      simp only [e1, e2] at h2
      rw [← hp, h2, e3]
    · have h1 := hx f
      have h2 := hx ⟨f.val - 32, by omega⟩
      have h3 := turned_high (heads x) (⟨r.val / 4096, by omega⟩ : Fin 16) (⟨r.val % 4096, Nat.mod_lt _ (by decide)⟩ : Fin 4096) (⟨f.val / 64, by omega⟩ : Fin 8) (Fin.ofNat 32 f.val)
      have e0 : (⟨32 + (Fin.ofNat 32 f.val).val, by omega⟩ : Fin 64) = ⟨f.val % 64, Nat.mod_lt _ (by decide)⟩ := Fin.ext (by show 32 + f.val % 32 = f.val % 64; omega)
      have e1 : (⟨(f.val - 32) / 64, by omega⟩ : Fin 8) = ⟨f.val / 64, by omega⟩ := Fin.ext (by simp only; omega)
      have e2 : (⟨(f.val - 32) % 64, Nat.mod_lt _ (by decide)⟩ : Fin 64) = ⟨(Fin.ofNat 32 f.val).val, by omega⟩ := Fin.ext (by show (f.val - 32) % 64 = f.val % 32; omega)
      simp only [e1, e2] at h2
      rw [e0, h1, h2, hp] at h3
      rw [if_neg hl, hp, h3]

/-- The result of the projected rows. -/
def outOf (p : FVec Ideal S65536x8200 .f32) : FVec Ideal S65536x8192 .bf16 :=
  truncf .bf16 ((concatenate S65536x8192 1 [⟨S65536x512, ((Host.divf (mulf (rotated (extractStridedSlice S65536x512 ![0, 0] p slices_S65536x8200_S65536x512_0_0)) (broadcastInDim S65536x512 ![] bcast_S_S65536x512 (constant S_ .f32 0x3E000000#32))) (broadcastInDim S65536x512 ![] bcast_S_S65536x512 (Host.log (constant S_ .f32 0x40000000#32)))) : (⟨S65536x512, .f32⟩ : BufTy).Contents (Elt Ideal))⟩, ⟨S65536x512, ((rotated (extractStridedSlice S65536x512 ![0, 512] p slices_S65536x8200_S65536x512_0_512)) : (⟨S65536x512, .f32⟩ : BufTy).Contents (Elt Ideal))⟩, ⟨S65536x4096, ((extractStridedSlice S65536x4096 ![0, 1024] p slices_S65536x8200_S65536x4096_0_1024) : (⟨S65536x4096, .f32⟩ : BufTy).Contents (Elt Ideal))⟩, ⟨S65536x3072, ((extractStridedSlice S65536x3072 ![0, 5128] p slices_S65536x8200_S65536x3072_0_5128) : (⟨S65536x3072, .f32⟩ : BufTy).Contents (Elt Ideal))⟩] concatenates_S65536x512_S65536x512_S65536x4096_S65536x3072_S65536x8192_d1 : (⟨S65536x8192, .f32⟩ : BufTy).Contents (Elt Ideal))) bitsLt_bf16_f32

theorem outOf_apply (p : FVec Ideal S65536x8200 .f32) (y : ℕ → EReal) (r : Fin 65536) (hy : ∀ f : Fin 8200, p (ix2 r f) = y f.val) (f : Fin 8192) :
    outOf p (ix2 r f) = entry y (Fin.ofNat 4096 r.val) f.val := by
  have hq : ∀ f : Fin 512, rotated (extractStridedSlice S65536x512 ![0, 0] p slices_S65536x8200_S65536x512_0_0) (ix2 r f) = turn y (Fin.ofNat 4096 r.val) f.val := fun f => by
    refine rotated_apply _ y r (fun g => ?_) f
    rw [← hy ⟨g.val, by omega⟩]
    pointwise []
    try rfl
  have hk : ∀ f : Fin 512, rotated (extractStridedSlice S65536x512 ![0, 512] p slices_S65536x8200_S65536x512_0_512) (ix2 r f) = turn y (Fin.ofNat 4096 r.val) (512 + f.val) := fun f => by
    refine (rotated_apply _ (fun n => y (512 + n)) r (fun g => ?_) f).trans ?_
    · rw [← hy ⟨512 + g.val, by omega⟩]
      pointwise []
      try rfl
    · unfold turn
      have e3 : Fin.ofNat 32 (512 + f.val) = Fin.ofNat 32 f.val := Fin.ext (by show (512 + f.val) % 32 = f.val % 32; omega)
      have e4 : (512 + f.val) % 64 = f.val % 64 := by omega
      rw [e3, e4]
      by_cases hl : f.val % 64 < 32
      · rw [if_pos hl, if_pos hl, Nat.add_assoc]
      · rw [if_neg hl, if_neg hl, show 512 + f.val - 32 = 512 + (f.val - 32) by omega]
  unfold outOf entry
  generalize rotated (extractStridedSlice S65536x512 ![0, 0] p slices_S65536x8200_S65536x512_0_0) = u at hq ⊢
  generalize rotated (extractStridedSlice S65536x512 ![0, 512] p slices_S65536x8200_S65536x512_0_512) = v at hk ⊢
  by_cases h0 : f.val < 512
  · rw [if_pos h0, ← hq ⟨f.val, h0⟩]
    pointwise []
    split_ifs <;> first | rfl | omega
  rw [if_neg h0]
  by_cases h1 : f.val < 1024
  · have h := hk ⟨f.val - 512, by omega⟩
    simp only [show 512 + (f.val - 512) = f.val by omega] at h
    rw [if_pos h1, ← h]
    pointwise []
    split_ifs <;> first | rfl | omega
  rw [if_neg h1]
  by_cases h2 : f.val < 5120
  · rw [if_pos h2, ← hy ⟨f.val, by omega⟩]
    pointwise []
    split_ifs <;> first | omega | (refine congrArg p (congrArg (ix2 r) (Fin.ext ?_)); simp only; omega)
  · rw [if_neg h2, ← hy ⟨f.val + 8, by omega⟩]
    pointwise []
    split_ifs <;> first | omega | (refine congrArg p (congrArg (ix2 r) (Fin.ext ?_)); simp only; omega)

/-- The reference's result. -/
def result (x : FVec Ideal S65536x1024 .f32) (n : FVec Ideal S1024 .f32) (w : FVec Ideal S1024x8200 .f32) : FVec Ideal S65536x8192 .bf16 := outOf (proj x n w)

theorem result_apply (x : FVec Ideal S65536x1024 .f32) (n : FVec Ideal S1024 .f32) (w : FVec Ideal S1024x8200 .f32) (r : Fin 65536) (f : Fin 8192) :
    result x n w (ix2 r f) = entry (through (fun k => x (ix2 r k)) (fun k => n (ix1 k)) (fun k f => w (ix2 k f))) (Fin.ofNat 4096 r.val) f.val :=
  outOf_apply _ _ r (fun g => by
    rw [proj_apply]
    unfold through
    rw [show Fin.ofNat 8200 g.val = g from Fin.ext (Nat.mod_eq_of_lt g.isLt)]) f

end Cert.Reference5Ideal.InProj

end
-- ==== Proof.InProjClaim.lean ====
/- The claims about the input projection. -/
module

public import proofs.«01_k».proof.Defs
public import proofs.«01_k».proof.Proof.Gen.Kernel5
public import proofs.«01_k».proof.Proof.InProjFrameBits
public import proofs.«01_k».proof.Proof.InProjValue
public import proofs.«01_k».proof.Proof.InProjRef

@[expose] public section

noncomputable section

namespace Cert.InProj

open Idealize.ShloMosaic Idealize.ShloMosaic.TcCoe Idealize.SL.Sem

/-- The kernel's frame. -/
theorem frame_kernel : Cert.quiescent_Kernel5 := fun m ρ _ => Cert.Kernel5.InProj.frame (F := Bits) m ρ

/-- The one rounded literal named: an eighth over the logarithm of two. -/
theorem preserves : Cert.preserves_Kernel5_Kernel5Ideal :=
  IdealRules.named_const.statement Cert.Kernel5Ideal.κ "scale" .f32 0x3E38AA3B#32 ((8⁻¹ * (Real.log 2)⁻¹ : ℝ) : EReal) rfl

/-- The ideal kernel's frame. -/
theorem frame_ideal : Cert.quiescent_Kernel5Ideal := fun m ρ _ => Cert.Kernel5Ideal.InProj.frame (F := Ideal) m ρ

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference make the rows' entries. -/
theorem algebraic : Cert.algebraic_Kernel5Ideal_Reference5Ideal := fun m g m' g' _ hargs => by
  refine ⟨fun c => Cert.Kernel5Ideal.InProj.G8 m c, ?_, ?_⟩
  · exact (θ_run _ _ _).mono (fun r h c => ⟨h.1 c, h.2.1 c⟩)
      (θ_run_and (Cert.Kernel5Ideal.InProj.run_value m g) (Cert.Kernel5Ideal.InProj.frame m g))
  · refine (θ_run _ _ _).mono (fun r h c => ⟨?_, (h c).2⟩) (Cert.Reference5Ideal.Value.run m' g')
    refine (h c).1.trans (funext fun i => ?_)
    obtain ⟨h0, h1, h2, h3, h4⟩ := hargs c
    obtain ⟨b, t, rfl⟩ : ∃ (b : Fin 65536) (t : Fin 8192), i = ix2 b t := by
      refine ⟨i 0, i 1, funext fun a => ?_⟩
      match a with
      | ⟨0, _⟩ => rfl
      | ⟨1, _⟩ => rfl
    refine (Cert.Reference5Ideal.InProj.result_apply _ _ _ b t).trans ?_
    rw [h0, h1, h2]
    rfl

end Cert.InProj

end
-- ==== Proof.ConvModel.lean ====
/- The gated DeltaNet's convolution as entries over the reals: four taps down a column, the silu, and the norm of each head's queries and keys. -/
module

public import proofs.«01_k».proof.Proof.DenseModel

@[expose] public section

noncomputable section

namespace Cert.Conv

open Idealize.ShloMosaic

/-- The four taps: the newest row with the last weight. -/
def mix (a b c d : EReal) (w : Fin 4 → EReal) : EReal := a * w 3 + b * w 2 + c * w 1 + d * w 0

/-- The silu. -/
def act (y : EReal) : EReal := y * Ideal.logistic y

/-- One over a head's norm. -/
def overNorm (y : Fin 128 → EReal) : EReal := Ideal.rsqrt ((∑ l, y l * y l) + Ideal.ofBits .f32 0x358637BD#32)

/-- What head `h` is scaled by: the queries' heads by their norm and one over the root of 128, the keys' by their norm, the values' by one. -/
def factor (h : ℕ) (y : Fin 128 → EReal) : EReal :=
  if 8 ≤ h then 1 else overNorm y * (if h < 4 then (((Real.sqrt 128)⁻¹ : ℝ) : EReal) else 1)

/-- The row `k` back in the same sequence, zero before its start. -/
def tap (A : Fin 65536 → Fin 8192 → EReal) (r : ℕ) (k n : ℕ) : EReal :=
  if k ≤ r % 4096 then A (Fin.ofNat 65536 (r - k)) (Fin.ofNat 8192 (3072 + n)) else 0

/-- Column `n` of row `r` after the taps and the silu. -/
def convAt (A : Fin 65536 → Fin 8192 → EReal) (W : Fin 4 → Fin 1536 → EReal) (r n : ℕ) : EReal :=
  act (mix (tap A r 0 n) (tap A r 1 n) (tap A r 2 n) (tap A r 3 n) (fun k => W k (Fin.ofNat 1536 n)))

/-- Column `128 h + l` of row `r` of the result. -/
def entry (A : Fin 65536 → Fin 8192 → EReal) (W : Fin 4 → Fin 1536 → EReal) (r h l : ℕ) : EReal :=
  convAt A W r (128 * h + l) * factor h (fun l => convAt A W r (128 * h + l.val))

end Cert.Conv

end
-- ==== Proof.ConvBlocks.lean ====
/- The convolution's payloads and blocks read at an index over the reals. -/
module

public import proofs.«01_k».proof.Proof.Gen.Kernel6Ideal.Frame
public import proofs.«01_k».proof.Proof.ConvModel
public import Idealize.ShloMosaic.Lib.Pointwise
public import Idealize.ShloMosaic.Lib.KernelVsHost
public import Idealize.ShloMosaic.Lib.Tactic.CleanTypes

@[expose] public section

noncomputable section

namespace Cert.Kernel6Ideal.Conv

open Idealize.ShloMosaic Idealize.ShloMosaic.TcCoe
open Cert.Kernel6Ideal Cert.Kernel6Ideal.Gen Cert.Conv

/-! ## The whole block, the rows rotated around it -/

/-- The taps and the silu over a whole block. -/
def acts (w : FVec Ideal S4x128 .f32) (a b c d : FVec Ideal S4096x128 .f32) : FVec Ideal S4096x128 .f32 :=
  let y := addf (addf (addf (mulf a (broadcastTo S4096x128 (extractStridedSlice S1x128 ![3, 0] w slices_S4x128_o3_0_S1x128) broadcasts_S1x128_S4096x128))
      (mulf b (broadcastTo S4096x128 (extractStridedSlice S1x128 ![2, 0] w slices_S4x128_o2_0_S1x128) broadcasts_S1x128_S4096x128)))
      (mulf c (broadcastTo S4096x128 (extractStridedSlice S1x128 ![1, 0] w slices_S4x128_o1_0_S1x128) broadcasts_S1x128_S4096x128)))
      (mulf d (broadcastTo S4096x128 (extractStridedSlice S1x128 ![0, 0] w slices_S4x128_o0_0_S1x128) broadcasts_S1x128_S4096x128))
  mulf y (logistic y)

theorem acts_apply (w : FVec Ideal S4x128 .f32) (a b c d : FVec Ideal S4096x128 .f32) (q : Fin 4096) (l : Fin 128) :
    acts w a b c d (ix2 q l) = act (mix (a (ix2 q l)) (b (ix2 q l)) (c (ix2 q l)) (d (ix2 q l)) (fun k => w (ix2 k l))) := by
  unfold acts act mix
  pointwise []
  try rfl

/-- One over the norms of the rows of a block. -/
def invs (y : FVec Ideal S4096x128 .f32) : FVec Ideal S4096x1 .f32 :=
  rsqrt (addf (shapeCast S4096x1 (multiReduction .add [1] S4096 (mulf y y) 0x00000000#32 reduces_S4096x128_S4096 (.inl rfl) rfl) shapeCasts_S4096_S4096x1) (broadcast S4096x1 (Scalar.ofBits .f32 0x358637BD#32)))

theorem invs_apply (y : FVec Ideal S4096x128 .f32) (q : Fin 4096) (z : Fin 1) : invs y (ix2 q z) = overNorm (fun l => y (ix2 q l)) := by
  unfold invs overNorm
  pointwise []
  try rfl

/-- The row `k` up, around the block. -/
theorem roll_apply (k : ℕ) (sb : BitVec 32) (hk : sb.toNat = k) (hk' : k < 4096) (x : FVec Ideal S4096x128 .f32) (q : Fin 4096) (l : Fin 128) :
    dynamicRotate 0 sb none x rotates_S4096x128_d0 (ix2 q l) = x (ix2 (Fin.ofNat 4096 (q.val + 4096 - k)) l) :=
  dynamicRotate_apply (s := S4096x128) (0 : Fin 2) sb x rotates_S4096x128_d0 (ix2 q l) (ix2 (Fin.ofNat 4096 (q.val + 4096 - k)) l) (fun b => by
    match b with
    | ⟨0, _⟩ => show (q.val + 4096 - k) % 4096 = (q.val + 4096 - sb.toNat % 4096) % 4096; rw [hk, Nat.mod_eq_of_lt hk']
    | ⟨1, _⟩ => rfl)

/-- The block's taps and silu. -/
def whole (w : FVec Ideal S4x128 .f32) (x : FVec Ideal S4096x128 .bf16) : FVec Ideal S4096x128 .f32 :=
  acts w (extf .f32 x bitsLt_bf16_f32) (dynamicRotate 0 1#32 none (extf .f32 x bitsLt_bf16_f32) rotates_S4096x128_d0)
    (dynamicRotate 0 2#32 none (extf .f32 x bitsLt_bf16_f32) rotates_S4096x128_d0) (dynamicRotate 0 3#32 none (extf .f32 x bitsLt_bf16_f32) rotates_S4096x128_d0)

theorem whole_apply (w : FVec Ideal S4x128 .f32) (x : FVec Ideal S4096x128 .bf16) (q : Fin 4096) (l : Fin 128) :
    whole w x (ix2 q l) = act (mix (x (ix2 q l)) (x (ix2 (Fin.ofNat 4096 (q.val + 4096 - 1)) l)) (x (ix2 (Fin.ofNat 4096 (q.val + 4096 - 2)) l)) (x (ix2 (Fin.ofNat 4096 (q.val + 4096 - 3)) l)) (fun k => w (ix2 k l))) := by
  unfold whole
  rw [acts_apply, roll_apply 1 1#32 rfl (by omega), roll_apply 2 2#32 rfl (by omega), roll_apply 3 3#32 rfl (by omega)]
  rfl

/-- The words the body takes of its column: whether it is one of the queries', and of the values'. -/
theorem isQ (h : Fin 12) : Scalar.cmpi .slt (BitVec.ofNat 32 h.val) 4#32 = if h.val < 4 then 1#1 else 0#1 := by
  revert h; decide +kernel
theorem isV (h : Fin 12) : Scalar.cmpi .sge (BitVec.ofNat 32 h.val) 8#32 = if 8 ≤ h.val then 1#1 else 0#1 := by
  revert h; decide +kernel

theorem sel1 {α : Type} (a b : α) : Scalar.select 1#1 a b = a := rfl
theorem sel0 {α : Type} (a b : α) : Scalar.select 0#1 a b = b := rfl

/-- What a row of the block is scaled by. -/
def factors (v1 v2 : BitVec 1) (z : FVec Ideal S4096x1 .f32) : FVec Ideal S4096x1 .f32 :=
  Scalar.select v2 (broadcast S4096x1 (Scalar.ofBits .f32 0x3F800000#32))
    (mulf z (broadcast S4096x1 (Scalar.select v1 (Named.named (F := Ideal) κ "unit" 0x3DB504F3#32) (Scalar.ofBits .f32 0x3F800000#32))))

theorem pay2_apply (i : grid0.Coords) (h : Fin 12) (hi : (i 1).val = h.val) (w : FVec Ideal S4x128 .f32) (x : FVec Ideal S4096x128 .bf16) (q : Fin 4096) (l : Fin 128) :
    (k0_pay2 (F := Ideal) i w x : FVec Ideal S4096x128 .f32) (ix2 q l) = whole w x (ix2 q l) * factor h.val (fun l => whole w x (ix2 q l)) := by
  have e : k0_pay2 (F := Ideal) i w x = mulf (whole w x) (broadcastTo S4096x128 (factors (Scalar.cmpi .slt (BitVec.ofNat 32 (i 1).val) 4#32) (Scalar.cmpi .sge (BitVec.ofNat 32 (i 1).val) 8#32) (invs (whole w x))) broadcasts_S4096x1_S4096x128) := rfl
  rw [e, hi, isQ, isV]
  have hv := invs_apply (whole w x) q 0
  generalize whole w x = y at hv ⊢
  generalize invs y = z at hv ⊢
  unfold factor factors
  by_cases h2 : 8 ≤ h.val
  · rw [if_pos h2, if_pos h2, sel1]
    pointwise []
    try rfl
  · rw [if_neg h2, if_neg h2, sel0, ← hv]
    by_cases h1 : h.val < 4
    · rw [if_pos h1, if_pos h1, sel1]
      pointwise []
      try rfl
    · rw [if_neg h1, if_neg h1, sel0]
      pointwise []
      try rfl

/-! ## The first sixteen rows, with the rows before the sequence masked -/

/-- The taps and the silu over sixteen rows. -/
def acts16 (w : FVec Ideal S4x128 .f32) (a b c d : FVec Ideal S16x128 .f32) : FVec Ideal S16x128 .f32 :=
  let y := addf (addf (addf (mulf a (broadcastTo S16x128 (extractStridedSlice S1x128 ![3, 0] w slices_S4x128_o3_0_S1x128) broadcasts_S1x128_S16x128))
      (mulf b (broadcastTo S16x128 (extractStridedSlice S1x128 ![2, 0] w slices_S4x128_o2_0_S1x128) broadcasts_S1x128_S16x128)))
      (mulf c (broadcastTo S16x128 (extractStridedSlice S1x128 ![1, 0] w slices_S4x128_o1_0_S1x128) broadcasts_S1x128_S16x128)))
      (mulf d (broadcastTo S16x128 (extractStridedSlice S1x128 ![0, 0] w slices_S4x128_o0_0_S1x128) broadcasts_S1x128_S16x128))
  mulf y (logistic y)

theorem acts16_apply (w : FVec Ideal S4x128 .f32) (a b c d : FVec Ideal S16x128 .f32) (q : Fin 16) (l : Fin 128) :
    acts16 w a b c d (ix2 q l) = act (mix (a (ix2 q l)) (b (ix2 q l)) (c (ix2 q l)) (d (ix2 q l)) (fun k => w (ix2 k l))) := by
  unfold acts16 act mix
  pointwise []
  try rfl

/-- The rows `k` up, zero in the first `k`. -/
def masked (sb : BitVec 32) (x : FVec Ideal S16x128 .f32) : FVec Ideal S16x128 .f32 :=
  select (cmpi .sge (iota .tc S16x128 32 [0] iota_S16x128_d0_w32) (broadcast S16x128 sb)) (dynamicRotate 0 sb none x rotates_S16x128_d0) (broadcast S16x128 (Scalar.ofBits .f32 0x00000000#32))

theorem mask_word (k : Fin 4) (q : Fin 16) (l : Fin 128) :
    cmpi .sge (iota .tc S16x128 32 [0] iota_S16x128_d0_w32) (broadcast S16x128 (BitVec.ofNat 32 k.val)) (ix2 q l) = if k.val ≤ q.val then 1#1 else 0#1 := by
  revert k q l; decide +kernel

theorem masked_apply (k : Fin 4) (x : FVec Ideal S16x128 .f32) (q : Fin 16) (l : Fin 128) :
    masked (BitVec.ofNat 32 k.val) x (ix2 q l) = if k.val ≤ q.val then x (ix2 (Fin.ofNat 16 (q.val - k.val)) l) else 0 := by
  have r : k.val ≤ q.val → dynamicRotate 0 (BitVec.ofNat 32 k.val) none x rotates_S16x128_d0 (ix2 q l) = x (ix2 (Fin.ofNat 16 (q.val - k.val)) l) := fun hq =>
    dynamicRotate_apply (s := S16x128) (0 : Fin 2) (BitVec.ofNat 32 k.val) x rotates_S16x128_d0 (ix2 q l) (ix2 (Fin.ofNat 16 (q.val - k.val)) l) (fun b => by
      match b with
      | ⟨0, _⟩ => show (q.val - k.val) % 16 = (q.val + 16 - (k.val % 2 ^ 32) % 16) % 16; omega
      | ⟨1, _⟩ => rfl)
  show Scalar.select (cmpi .sge (iota .tc S16x128 32 [0] iota_S16x128_d0_w32) (broadcast S16x128 (BitVec.ofNat 32 k.val)) (ix2 q l)) (dynamicRotate 0 (BitVec.ofNat 32 k.val) none x rotates_S16x128_d0 (ix2 q l)) (Ideal.ofBits .f32 0x00000000#32) = _
  rw [mask_word]
  by_cases h : k.val ≤ q.val
  · rw [if_pos h, if_pos h, sel1, r h]
  · rw [if_neg h, if_neg h, sel0, Ideal.ofBits_zero_f32]

theorem pay3_apply (w : FVec Ideal S4x128 .f32) (x : FVec Ideal S16x128 .bf16) (q : Fin 16) (l : Fin 128) :
    (k0_pay3 (F := Ideal) w x : FVec Ideal S16x128 .f32) (ix2 q l) = act (mix (x (ix2 q l)) (if 1 ≤ q.val then x (ix2 (Fin.ofNat 16 (q.val - 1)) l) else 0) (if 2 ≤ q.val then x (ix2 (Fin.ofNat 16 (q.val - 2)) l) else 0) (if 3 ≤ q.val then x (ix2 (Fin.ofNat 16 (q.val - 3)) l) else 0) (fun k => w (ix2 k l))) := by
  have e : k0_pay3 (F := Ideal) w x = acts16 w (extf .f32 x bitsLt_bf16_f32) (masked 1#32 (extf .f32 x bitsLt_bf16_f32)) (masked 2#32 (extf .f32 x bitsLt_bf16_f32)) (masked 3#32 (extf .f32 x bitsLt_bf16_f32)) := rfl
  rw [e, acts16_apply]
  have hx : ∀ j, extf (F := Ideal) .f32 x bitsLt_bf16_f32 j = x j := fun j => rfl
  generalize extf (F := Ideal) .f32 x bitsLt_bf16_f32 = y at hx ⊢
  have h1 : masked 1#32 y (ix2 q l) = if 1 ≤ q.val then y (ix2 (Fin.ofNat 16 (q.val - 1)) l) else 0 := masked_apply ⟨1, by decide⟩ y q l
  have h2 : masked 2#32 y (ix2 q l) = if 2 ≤ q.val then y (ix2 (Fin.ofNat 16 (q.val - 2)) l) else 0 := masked_apply ⟨2, by decide⟩ y q l
  have h3 : masked 3#32 y (ix2 q l) = if 3 ≤ q.val then y (ix2 (Fin.ofNat 16 (q.val - 3)) l) else 0 := masked_apply ⟨3, by decide⟩ y q l
  rw [h1, h2, h3]
  simp only [hx]

/-- One over the norms of the sixteen rows. -/
def invs16 (y : FVec Ideal S16x128 .f32) : FVec Ideal S16x1 .f32 :=
  rsqrt (addf (shapeCast S16x1 (multiReduction .add [1] S16 (mulf y y) 0x00000000#32 reduces_S16x128_S16 (.inl rfl) rfl) shapeCasts_S16_S16x1) (broadcast S16x1 (Scalar.ofBits .f32 0x358637BD#32)))

theorem invs16_apply (y : FVec Ideal S16x128 .f32) (q : Fin 16) (z : Fin 1) : invs16 y (ix2 q z) = overNorm (fun l => y (ix2 q l)) := by
  unfold invs16 overNorm
  pointwise []
  try rfl

/-- What a row of the sixteen is scaled by. -/
def factors16 (v1 v2 : BitVec 1) (y : FVec Ideal S16x128 .f32) : FVec Ideal S16x1 .f32 :=
  Scalar.select v2 (broadcast S16x1 (Scalar.ofBits .f32 0x3F800000#32))
    (mulf (invs16 y) (broadcast S16x1 (Scalar.select v1 (Named.named (F := Ideal) κ "unit" 0x3DB504F3#32) (Scalar.ofBits .f32 0x3F800000#32))))

theorem pay1_apply (i : grid0.Coords) (h : Fin 12) (hi : (i 1).val = h.val) (w : FVec Ideal S4x128 .f32) (x : FVec Ideal S16x128 .bf16) (q : Fin 16) (l : Fin 128) :
    (k0_pay1 (F := Ideal) (Scalar.cmpi .sge (BitVec.ofNat 32 (i 1).val) 8#32) (k0_pay3 w x) (k0_pay4 w (Scalar.cmpi .slt (BitVec.ofNat 32 (i 1).val) 4#32) x) (Scalar.ofBits .f32 0x3F800000#32) : FVec Ideal S16x128 .f32) (ix2 q l)
      = k0_pay3 (F := Ideal) w x (ix2 q l) * factor h.val (fun l => k0_pay3 (F := Ideal) w x (ix2 q l)) := by
  have e : k0_pay1 (F := Ideal) (Scalar.cmpi .sge (BitVec.ofNat 32 (i 1).val) 8#32) (k0_pay3 w x) (k0_pay4 w (Scalar.cmpi .slt (BitVec.ofNat 32 (i 1).val) 4#32) x) (Scalar.ofBits .f32 0x3F800000#32)
      = mulf (k0_pay3 w x) (broadcastTo S16x128 (factors16 (Scalar.cmpi .slt (BitVec.ofNat 32 (i 1).val) 4#32) (Scalar.cmpi .sge (BitVec.ofNat 32 (i 1).val) 8#32) (k0_pay3 w x)) broadcasts_S16x1_S16x128) := rfl
  rw [e, hi, isQ, isV]
  generalize k0_pay3 (F := Ideal) w x = y
  unfold factor factors16
  have hv := invs16_apply y q 0
  generalize invs16 y = z at hv ⊢
  by_cases h2 : 8 ≤ h.val
  · rw [if_pos h2, if_pos h2, sel1]
    pointwise []
    try rfl
  · rw [if_neg h2, if_neg h2, sel0, ← hv]
    by_cases h1 : h.val < 4
    · rw [if_pos h1, if_pos h1, sel1]
      pointwise []
      try rfl
    · rw [if_neg h1, if_neg h1, sel0]
      pointwise []
      try rfl

end Cert.Kernel6Ideal.Conv

end
-- ==== Proof.ConvValue.lean ====
/- The convolution pipeline's output array over the reals: every row's entries. -/
module

public import proofs.«01_k».proof.Proof.ConvBlocks
public import proofs.«01_k».proof.Proof.Gen.Kernel6Ideal.Value
public import Idealize.ShloMosaic.Lib.WritesUnit
public import Idealize.ShloMosaic.Lib.Claim

@[expose] public section

noncomputable section

namespace Cert.Kernel6Ideal.Conv

open Idealize.ShloMosaic Idealize.ShloMosaic.TcCoe Idealize.SL.Sem
open Cert.Kernel6Ideal Cert.Kernel6Ideal.Gen Cert.Conv

/-! ## What one grid point leaves -/

/-- Lane `l` of row `q` of a block after the taps and the silu, with zero before the block. -/
def rowConv (x : FVec Ideal S4096x128 .bf16) (w : FVec Ideal S4x128 .f32) (q : Fin 4096) (l : Fin 128) : EReal :=
  act (mix (x (ix2 q l)) (if 1 ≤ q.val then x (ix2 (Fin.ofNat 4096 (q.val - 1)) l) else 0) (if 2 ≤ q.val then x (ix2 (Fin.ofNat 4096 (q.val - 2)) l) else 0)
    (if 3 ≤ q.val then x (ix2 (Fin.ofNat 4096 (q.val - 3)) l) else 0) (fun k => w (ix2 k l)))

theorem whole_eq (w : FVec Ideal S4x128 .f32) (x : FVec Ideal S4096x128 .bf16) (q : Fin 4096) (hq : 16 ≤ q.val) (l : Fin 128) : whole w x (ix2 q l) = rowConv x w q l := by
  have e : ∀ k, k ≤ 3 → Fin.ofNat 4096 (q.val + 4096 - k) = Fin.ofNat 4096 (q.val - k) := fun k hk => Fin.ext (by show (q.val + 4096 - k) % 4096 = (q.val - k) % 4096; omega)
  rw [whole_apply, e 1 (by omega), e 2 (by omega), e 3 (by omega)]
  unfold rowConv
  rw [if_pos (by omega), if_pos (by omega), if_pos (by omega)]

/-- The first sixteen rows of a block. -/
def top (x : FVec Ideal S4096x128 .bf16) : FVec Ideal S16x128 .bf16 := fun i : S16x128.Idx => x (ix2 (n0 := 4096) (n1 := 128) (⟨(i 0).val, lt_trans (i 0).isLt (by decide)⟩) (i 1))

theorem pay3_eq (w : FVec Ideal S4x128 .f32) (x : FVec Ideal S4096x128 .bf16) (q : Fin 16) (l : Fin 128) :
    k0_pay3 (F := Ideal) w (top x) (ix2 q l) = rowConv x w (⟨q.val, by omega⟩ : Fin 4096) l := by
  have e : ∀ k, top x (ix2 (Fin.ofNat 16 (q.val - k)) l) = x (ix2 (Fin.ofNat 4096 (q.val - k)) l) := fun k => by
    refine congrArg x (congrArg (fun a => ix2 a l) (Fin.ext ?_))
    show (q.val - k) % 16 = (q.val - k) % 4096
    omega
  rw [pay3_apply, e 1, e 2, e 3]
  rfl

theorem out_apply (c : Dev nD) (i : grid0.Coords) (h : Fin 12) (hi : (i 1).val = h.val) (arg2 : Memref sig .tc .vmem S4096x128 .bf16) (harg2 : arg2.IsWhole) (arg3 : Memref sig .tc .vmem S4x128 .f32) (harg3 : arg3.IsWhole)
    (arg4 : Memref sig .tc .vmem S4096x128 .f32) (harg4 : arg4.IsWhole) (x : FVec Ideal S4096x128 .bf16) (w : FVec Ideal S4x128 .f32) (q : Fin 4096) (l : Fin 128) :
    (out0_A_2 (F := Ideal) c i arg2 harg2 arg3 harg3 arg4 harg4 x w : FVec Ideal S4096x128 .f32) (ix2 q l)
      = rowConv x w q l * factor h.val (fun l => rowConv x w q l) := by
  have e3 : arg3.view.read (Elt Ideal) (harg3.unread w) = w := harg3.read_unread _
  have e2 : arg2.view.read (Elt Ideal) (harg2.unread x) = x := harg2.read_unread _
  have hw : View.readAt (Elt Ideal) arg3.view (Rect.unit (s := S4x128) ![0, 0] ![4, 128] inb_S4x128_S4x128_0_0).toLoadRect (harg3.unread w) = w := by
    refine (congrArg (fun X => View.ld X (Rect.unit (s := S4x128) ![0, 0] ![4, 128] inb_S4x128_S4x128_0_0)) e3).trans (funext fun j => ?_)
    refine congrArg w (funext fun a => Fin.ext ?_)
    match a with
    | ⟨0, _⟩ => show 0 + 1 * (j 0).val = (j 0).val; omega
    | ⟨1, _⟩ => show 0 + 1 * (j 1).val = (j 1).val; omega
  have hx : View.readAt (Elt Ideal) arg2.view (Rect.unit (s := S4096x128) ![0, 0] ![4096, 128] inb_S4096x128_S4096x128_0_0).toLoadRect (harg2.unread x) = x := by
    refine (congrArg (fun X => View.ld X (Rect.unit (s := S4096x128) ![0, 0] ![4096, 128] inb_S4096x128_S4096x128_0_0)) e2).trans (funext fun j => ?_)
    refine congrArg x (funext fun a => Fin.ext ?_)
    match a with
    | ⟨0, _⟩ => show 0 + 1 * (j 0).val = (j 0).val; omega
    | ⟨1, _⟩ => show 0 + 1 * (j 1).val = (j 1).val; omega
  have ht : View.readAt (Elt Ideal) arg2.view (Rect.unit (s := S4096x128) ![0, 0] ![16, 128] inb_S4096x128_S16x128_0_0).toLoadRect (harg2.unread x) = top x := by
    refine (congrArg (fun X => View.ld X (Rect.unit (s := S4096x128) ![0, 0] ![16, 128] inb_S4096x128_S16x128_0_0)) e2).trans (funext fun j => ?_)
    refine congrArg x (funext fun a => Fin.ext ?_)
    match a with
    | ⟨0, _⟩ => show 0 + 1 * (j 0).val = (j 0).val; omega
    | ⟨1, _⟩ => show 0 + 1 * (j 1).val = (j 1).val; omega
  have hL : (kernelRun0_A (F := Ideal) c i arg2 harg2 arg3 harg3 arg4 harg4 x w).1
      = [⟨Rect.unit (s := S4096x128) ![0, 0] ![16, 128] inb_S4096x128_S16x128_0_0,
          k0_pay1 (F := Ideal) (Scalar.cmpi .sge (BitVec.ofNat 32 (i 1).val) 8#32)
            (k0_pay3 (View.readAt (Elt Ideal) arg3.view (Rect.unit (s := S4x128) ![0, 0] ![4, 128] inb_S4x128_S4x128_0_0).toLoadRect (harg3.unread w)) (View.readAt (Elt Ideal) arg2.view (Rect.unit (s := S4096x128) ![0, 0] ![16, 128] inb_S4096x128_S16x128_0_0).toLoadRect (harg2.unread x)))
            (k0_pay4 (View.readAt (Elt Ideal) arg3.view (Rect.unit (s := S4x128) ![0, 0] ![4, 128] inb_S4x128_S4x128_0_0).toLoadRect (harg3.unread w)) (Scalar.cmpi .slt (BitVec.ofNat 32 (i 1).val) 4#32) (View.readAt (Elt Ideal) arg2.view (Rect.unit (s := S4096x128) ![0, 0] ![16, 128] inb_S4096x128_S16x128_0_0).toLoadRect (harg2.unread x)))
            (Scalar.ofBits .f32 0x3F800000#32)⟩,
        ⟨Rect.unit (s := S4096x128) ![0, 0] ![4096, 128] inb_S4096x128_S4096x128_0_0,
          k0_pay2 (F := Ideal) i (View.readAt (Elt Ideal) arg3.view (Rect.unit (s := S4x128) ![0, 0] ![4, 128] inb_S4x128_S4x128_0_0).toLoadRect (harg3.unread w)) (View.readAt (Elt Ideal) arg2.view (Rect.unit (s := S4096x128) ![0, 0] ![4096, 128] inb_S4096x128_S4096x128_0_0).toLoadRect (harg2.unread x))⟩] := rfl
  unfold out0_A_2
  rw [hL, hw, hx, ht]
  by_cases hq : q.val < 16
  · refine (View.read_writes_cons_unit_of_mem VO0_2 VO0_2.junk inb_S4096x128_S16x128_0_0 _ _ (ix2 q l) (ix2 (⟨q.val, hq⟩ : Fin 16) l) (off' := ![0, 0]) rfl (fun a => by
      match a with
      | ⟨0, _⟩ => show q.val = 0 + q.val; omega
      | ⟨1, _⟩ => show l.val = 0 + l.val; omega)).trans ?_
    refine (pay1_apply i h hi w (top x) (⟨q.val, hq⟩ : Fin 16) l).trans ?_
    simp only [pay3_eq]
  · refine (View.read_writes_cons_unit_of_not_mem VO0_2 VO0_2.junk inb_S4096x128_S16x128_0_0 _ _ (ix2 q l) (off' := ![0, 0]) rfl (0 : Fin 2) (Or.inr (by show 0 + 16 ≤ q.val; omega))).trans ?_
    refine (View.read_writes_cons_unit_of_mem VO0_2 VO0_2.junk inb_S4096x128_S4096x128_0_0 _ _ (ix2 q l) (ix2 q l) (off' := ![0, 0]) rfl (fun a => by
      match a with
      | ⟨0, _⟩ => show q.val = 0 + q.val; omega
      | ⟨1, _⟩ => show l.val = 0 + l.val; omega)).trans ?_
    refine (pay2_apply i h hi w x q l).trans ?_
    simp only [whole_eq w x q (by omega)]

/-! ## The blocks -/

theorem coord0 (t : Fin grid0.N) : (grid0.coords t 0).val = t.val / 12 := by
  have ht : t.val < 192 := Nat.lt_of_lt_of_eq t.isLt N_0
  have e0 : (grid0.coords t 0).val = t.val / 12 % 16 := Pipeline.Grid.coords_val t 0 (by decide) rfl
  omega
theorem coord1 (t : Fin grid0.N) : (grid0.coords t 1).val = t.val % 12 := by
  have ht : t.val < 192 := Nat.lt_of_lt_of_eq t.isLt N_0
  have e0 : (grid0.coords t 1).val = t.val / 1 % 12 := Pipeline.Grid.coords_val t 1 (by decide) rfl
  omega

variable (m : (ℓ : Loc nD τ sig) → Buf (Elt Ideal) ℓ) (ρ : Dev nD → PrngReg) (c : Dev nD)

def aP (r : Fin 65536) (k : Fin 8192) : EReal := (m ((c : Thread nD τ).loc main_arg0) : S65536x8192.Idx → EReal) (ix2 r k)
def aW (k : Fin 4) (n : Fin 1536) : EReal := (m ((c : Thread nD τ).loc main_arg1) : S4x1536.Idx → EReal) (ix2 k n)

def b0 (t : Fin cfg0.N) : FVec Ideal S4096x128 .bf16 := iblk m c 0 t

theorem b0_apply (t : Fin cfg0.N) (q : Fin 4096) (l : Fin 128) : b0 m c t (ix2 q l) = aP m c (Fin.ofNat 65536 (4096 * (t.val / 12) + q.val)) (Fin.ofNat 8192 (3072 + (128 * (t.val % 12) + l.val))) := by
  have hN : t.val < 192 := Nat.lt_of_lt_of_eq t.isLt N_0
  have hc0 := coord0 t
  have hc1 := coord1 t
  have hb : ((cfg0.win 0).blk t).view.emb (ix2 q l) = ix2 (n0 := 65536) (n1 := 8192) (Fin.ofNat 65536 (4096 * (t.val / 12) + q.val)) (Fin.ofNat 8192 (3072 + (128 * (t.val % 12) + l.val))) := by
    funext a
    apply Fin.ext
    match a with
    | ⟨0, _⟩ => show ((grid0.coords t 0).val % 2 ^ 32) * 4096 + 1 * q.val = (4096 * (t.val / 12) + q.val) % 65536; omega
    | ⟨1, _⟩ => show ((24 + (grid0.coords t 1).val % 2 ^ 32) % 2 ^ 32) * 128 + 1 * l.val = (3072 + (128 * (t.val % 12) + l.val)) % 8192; omega
  show V m c (Pipeline.arrRef spec0 0) (((cfg0.win 0).blk t).view.emb (ix2 q l)) = _
  rw [hb]
  show V m c main_arg0 _ = _
  rw [V_main_arg0]
  rfl

def b1 (t : Fin cfg0.N) : FVec Ideal S4x128 .f32 := iblk m c 1 t

theorem b1_apply (t : Fin cfg0.N) (k : Fin 4) (l : Fin 128) : b1 m c t (ix2 k l) = aW m c k (Fin.ofNat 1536 (128 * (t.val % 12) + l.val)) := by
  have hN : t.val < 192 := Nat.lt_of_lt_of_eq t.isLt N_0
  have hc1 := coord1 t
  have hb : ((cfg0.win 1).blk t).view.emb (ix2 k l) = ix2 (n0 := 4) (n1 := 1536) k (Fin.ofNat 1536 (128 * (t.val % 12) + l.val)) := by
    funext a
    apply Fin.ext
    match a with
    | ⟨0, _⟩ => show 0 * 4 + 1 * k.val = k.val; omega
    | ⟨1, _⟩ => show ((grid0.coords t 1).val % 2 ^ 32) * 128 + 1 * l.val = (128 * (t.val % 12) + l.val) % 1536; omega
  show V m c (Pipeline.arrRef spec0 1) (((cfg0.win 1).blk t).view.emb (ix2 k l)) = _
  rw [hb]
  show V m c main_arg1 _ = _
  rw [V_main_arg1]
  rfl

/-- Lane `l` of row `q` of a point's block is its column's of the row's of the whole array. -/
theorem rowConv_eq (t : Fin cfg0.N) (q : Fin 4096) (l : Fin 128) :
    rowConv (b0 m c t) (b1 m c t) q l = convAt (aP m c) (aW m c) (4096 * (t.val / 12) + q.val) (128 * (t.val % 12) + l.val) := by
  have hp : (4096 * (t.val / 12) + q.val) % 4096 = q.val := by omega
  have e : ∀ k, k ≤ q.val → b0 m c t (ix2 (Fin.ofNat 4096 (q.val - k)) l) = aP m c (Fin.ofNat 65536 (4096 * (t.val / 12) + q.val - k)) (Fin.ofNat 8192 (3072 + (128 * (t.val % 12) + l.val))) := fun k hk => by
    rw [b0_apply]
    refine congrArg (fun r => aP m c r (Fin.ofNat 8192 (3072 + (128 * (t.val % 12) + l.val)))) (congrArg (Fin.ofNat 65536) ?_)
    show 4096 * (t.val / 12) + (q.val - k) % 4096 = 4096 * (t.val / 12) + q.val - k
    omega
  have g : ∀ k, (if k ≤ q.val then b0 m c t (ix2 (Fin.ofNat 4096 (q.val - k)) l) else 0) = tap (aP m c) (4096 * (t.val / 12) + q.val) k (128 * (t.val % 12) + l.val) := fun k => by
    unfold tap
    rw [hp]
    by_cases hk : k ≤ q.val
    · rw [if_pos hk, if_pos hk, e k hk]
    · rw [if_neg hk, if_neg hk]
  have g0 : b0 m c t (ix2 q l) = tap (aP m c) (4096 * (t.val / 12) + q.val) 0 (128 * (t.val % 12) + l.val) := by
    rw [b0_apply]
    unfold tap
    rw [if_pos (Nat.zero_le _)]
    rfl
  unfold rowConv convAt
  rw [g 1, g 2, g 3, g0]
  simp only [b1_apply]

/-- The output array. -/
def G2 (c : Dev nD) : Buf (Elt Ideal) ((c : Thread nD τ).loc main_v0) := fun (i : S65536x1536.Idx) => entry (aP m c) (aW m c) (i 0).val ((i 1).val / 128) ((i 1).val % 128)

theorem emb2 (t : Fin cfg0.N) (q : Fin 4096) (l : Fin 128) :
    ((cfg0.win 2).blk t).view.emb (ix2 q l) = ix2 (n0 := 65536) (n1 := 1536) (Fin.ofNat 65536 (4096 * (t.val / 12) + q.val)) (Fin.ofNat 1536 (128 * (t.val % 12) + l.val)) := by
  have hN : t.val < 192 := Nat.lt_of_lt_of_eq t.isLt N_0
  have hc0 := coord0 t
  have hc1 := coord1 t
  funext a
  apply Fin.ext
  match a with
  | ⟨0, _⟩ => show ((grid0.coords t 0).val % 2 ^ 32) * 4096 + 1 * q.val = (4096 * (t.val / 12) + q.val) % 65536; omega
  | ⟨1, _⟩ => show ((grid0.coords t 1).val % 2 ^ 32) * 128 + 1 * l.val = (128 * (t.val % 12) + l.val) % 1536; omega

theorem xinj2 (t : Fin cfg0.N) (q : Fin 4096) (l : Fin 128) :
    ((cfg0.win 2).xinj (grid0.coords t) (ix2 q l) : S4096x128.Idx) = ix2 q l := by
  funext a
  match a with
  | ⟨0, _⟩ => rfl
  | ⟨1, _⟩ => rfl

/-- What a grid point writes back is its block of the output array. -/
theorem flushed2_eq (t : Fin cfg0.N) :
    (dats m 0 c).flushed 2 t = ((cfg0.win 2).blk t).view.read (Elt Ideal) (G2 m c) := by
  have hN : t.val < 192 := Nat.lt_of_lt_of_eq t.isLt N_0
  show (cfg0.win 2).cut (grid0.coords t) ((dats m 0 c).after 2 t) = _
  rw [after0_2]
  refine funext fun (y : S4096x128.Idx) => ?_
  obtain ⟨q, l, rfl⟩ : ∃ (q : Fin 4096) (l : Fin 128), y = ix2 q l := by
    refine ⟨y 0, y 1, funext fun a => ?_⟩
    match a with
    | ⟨0, _⟩ => rfl
    | ⟨1, _⟩ => rfl
  have e1 := congrArg (outsAt0 (F := Ideal) m c t : FVec Ideal S4096x128 .f32) (xinj2 t q l)
  have e2 : G2 m c (((cfg0.win 2).blk t).view.emb (ix2 q l)) = G2 m c (ix2 (n0 := 65536) (n1 := 1536) (Fin.ofNat 65536 (4096 * (t.val / 12) + q.val)) (Fin.ofNat 1536 (128 * (t.val % 12) + l.val))) :=
    congrArg (G2 m c) (emb2 t q l)
  refine e1.trans (Eq.trans ?_ e2.symm)
  refine (out_apply c (grid0.coords t) ⟨t.val % 12, Nat.mod_lt _ (by decide)⟩ (coord1 t) (ms0_0 t) (hs0_0 t) (ms0_1 t) (hs0_1 t) (ms0_2 t) (hs0_2 t) (b0 m c t) (b1 m c t) q l).trans ?_
  simp only [rowConv_eq]
  show _ = entry (aP m c) (aW m c) ((4096 * (t.val / 12) + q.val) % 65536) ((128 * (t.val % 12) + l.val) % 1536 / 128) ((128 * (t.val % 12) + l.val) % 1536 % 128)
  rw [show (4096 * (t.val / 12) + q.val) % 65536 = 4096 * (t.val / 12) + q.val by omega, show (128 * (t.val % 12) + l.val) % 1536 / 128 = t.val % 12 by omega, show (128 * (t.val % 12) + l.val) % 1536 % 128 = l.val by omega]
  rfl

theorem mem_blk2 (t : Fin cfg0.N) (i : S65536x1536.Idx) :
    i ∈ ((cfg0.win 2).blk t).view.set ↔ ∀ a : Fin 2, cc0_transform_2 (grid0.coords t) a * S4096x128.size a ≤ (i a).val ∧ (i a).val < cc0_transform_2 (grid0.coords t) a * S4096x128.size a + S4096x128.size a := by
  show i ∈ ((View.whole main_v0).slice (Rect.block (s := S65536x1536) S4096x128.size (cc0_transform_2 (grid0.coords t)) (hinb0_2 (grid0.coords t)))).set ↔ _
  rw [View.set_slice_whole]
  exact Rect.mem_set_unit ..

/-- Every entry of the output array is in a block some point writes back. -/
theorem cover2 (i : S65536x1536.Idx) : ∃ t : Fin cfg0.N, (cfg0.win 2).flush t = true ∧ i ∈ ((cfg0.win 2).blk t).view.set := by
  have h0 : (i 0).val < 65536 := (i 0).isLt
  have h1 : (i 1).val < 1536 := (i 1).isLt
  have hN : 12 * ((i 0).val / 4096) + (i 1).val / 128 < grid0.N := lt_of_lt_of_eq (by omega) N_0.symm
  have hc0 : (grid0.coords (⟨12 * ((i 0).val / 4096) + (i 1).val / 128, hN⟩ : Fin grid0.N) 0).val = (12 * ((i 0).val / 4096) + (i 1).val / 128) / 12 := coord0 _
  have hc1 : (grid0.coords (⟨12 * ((i 0).val / 4096) + (i 1).val / 128, hN⟩ : Fin grid0.N) 1).val = (12 * ((i 0).val / 4096) + (i 1).val / 128) % 12 := coord1 _
  refine ⟨⟨12 * ((i 0).val / 4096) + (i 1).val / 128, hN⟩, flush0_2 _, (mem_blk2 _ i).mpr fun a => ?_⟩
  match a with
  | ⟨0, _⟩ =>
    show (grid0.coords (⟨12 * ((i 0).val / 4096) + (i 1).val / 128, hN⟩ : Fin grid0.N) 0).val % 2 ^ 32 * 4096 ≤ (i 0).val
      ∧ (i 0).val < (grid0.coords (⟨12 * ((i 0).val / 4096) + (i 1).val / 128, hN⟩ : Fin grid0.N) 0).val % 2 ^ 32 * 4096 + 4096
    omega
  | ⟨1, _⟩ =>
    show (grid0.coords (⟨12 * ((i 0).val / 4096) + (i 1).val / 128, hN⟩ : Fin grid0.N) 1).val % 2 ^ 32 * 128 ≤ (i 1).val
      ∧ (i 1).val < (grid0.coords (⟨12 * ((i 0).val / 4096) + (i 1).val / 128, hN⟩ : Fin grid0.N) 1).val % 2 ^ 32 * 128 + 128
    omega

/-- The output array after the run. -/
theorem final2 : (dats m 0 c).arrAt 2 cfg0.N = G2 m c :=
  (dats m 0 c).arrAt_eq_of_cover 2 _ (fun t _ => flushed2_eq m c t) cover2

/-- The run, with the output array at the rows' entries. -/
theorem run_value : θ_run defs (onTc (τ := τ) (main (F := Ideal))) ⟨m, fun _ => 0, ρ⟩ fun r => ∀ c : Dev nD,
    r.2.mem ((c : Thread nD τ).loc main_v0) = G2 m c :=
  (θ_run defs _ _).mono (fun r h c => ((h c).1 2).trans (final2 m c)) (run_main m ρ)

end Cert.Kernel6Ideal.Conv

end
-- ==== Proof.ConvRef.lean ====
/- The convolution's reference at an index: the row's entry. -/
module

public import proofs.«01_k».proof.Proof.Gen.Reference6Ideal.Run
public import proofs.«01_k».proof.Proof.ConvModel
public import Idealize.ShloMosaic.Lib.Pointwise
public import Idealize.ShloMosaic.Lib.Claim

@[expose] public section

set_option maxRecDepth 16384

noncomputable section

namespace Cert.Reference6Ideal.Conv

open Idealize.ShloMosaic Idealize.ShloMosaic.TcCoe Idealize.SL.Sem
open Idealize.ShloMosaic.StableHlo
open Cert.Reference6Ideal Cert.Reference6Ideal.Gen Cert.Conv

/-- The columns of the convolution, a sequence at a time. -/
def rows (p : FVec Ideal S65536x8192 .bf16) : FVec Ideal S16x4096x1536 .f32 :=
  shapeCast S16x4096x1536 (extf .f32 (extractStridedSlice S65536x1536 ![0, 3072] p slices_S65536x8192_S65536x1536_0_3072) bitsLt_bf16_f32) shapeCasts_S65536x1536_S16x4096x1536

theorem rows_apply (p : FVec Ideal S65536x8192 .bf16) (b : Fin 16) (q : Fin 4096) (n : Fin 1536) :
    rows p (ix3 b q n) = p (ix2 (⟨b.val * 4096 + q.val, by omega⟩ : Fin 65536) (⟨3072 + n.val, by omega⟩ : Fin 8192)) := by
  refine (shapeCast_apply (extf .f32 (extractStridedSlice S65536x1536 ![0, 3072] p slices_S65536x8192_S65536x1536_0_3072) bitsLt_bf16_f32) _ (ix3 b q n) (ix2 (⟨b.val * 4096 + q.val, by omega⟩ : Fin 65536) n) ?_).trans ?_
  · rw [Shape.rowMajor_val_two, Shape.rowMajor_val_three]
    show (b.val * 4096 + q.val) * 1536 + n.val = (b.val * 4096 + q.val) * 1536 + n.val
    rfl
  · pointwise []
    try rfl

/-- Three rows of zeros in front. -/
def padded (p : FVec Ideal S65536x8192 .bf16) : FVec Ideal S16x4099x1536 .f32 :=
  concatenate S16x4099x1536 1 [⟨S16x3x1536, (broadcastInDim S16x3x1536 ![] bcast_S_S16x3x1536 (constant S_ .f32 0x00000000#32))⟩, ⟨S16x4096x1536, rows p⟩] concatenates_S16x3x1536_S16x4096x1536_S16x4099x1536_d1

theorem padded_low (p : FVec Ideal S65536x8192 .bf16) (b : Fin 16) (q : Fin 4099) (hq : q.val < 3) (n : Fin 1536) : padded p (ix3 b q n) = 0 := by
  unfold padded
  rw [concatenate_pair_apply_left (t := S16x4099x1536) (1 : Fin 3) _ _ concatenates_S16x3x1536_S16x4096x1536_S16x4099x1536_d1 (ix3 b q n) rfl (ix3 b (⟨q.val, hq⟩ : Fin 3) n) (fun a => by fin_cases a <;> rfl)]
  pointwise []

theorem padded_high (p : FVec Ideal S65536x8192 .bf16) (b : Fin 16) (q : Fin 4096) (n : Fin 1536) :
    padded p (ix3 b (⟨3 + q.val, by omega⟩ : Fin 4099) n) = rows p (ix3 b q n) := by
  unfold padded
  rw [concatenate_pair_apply_right (t := S16x4099x1536) (1 : Fin 3) _ _ concatenates_S16x3x1536_S16x4096x1536_S16x4099x1536_d1 (ix3 b (⟨3 + q.val, by omega⟩ : Fin 4099) n) rfl rfl (ix3 b q n) (fun a ha => by fin_cases a <;> first | rfl | exact absurd rfl ha) (Nat.add_comm _ _)]

theorem padded_tap (p : FVec Ideal S65536x8192 .bf16) (b : Fin 16) (q : Fin 4096) (j k : ℕ) (hj : j + k = 3) (n : Fin 1536) :
    padded p (ix3 b (⟨j + q.val, by omega⟩ : Fin 4099) n) = tap (fun r k => p (ix2 r k)) (b.val * 4096 + q.val) k n.val := by
  have hm : (b.val * 4096 + q.val) % 4096 = q.val := by omega
  unfold tap
  rw [hm]
  by_cases hk : k ≤ q.val
  · rw [if_pos hk]
    have e : (⟨j + q.val, by omega⟩ : Fin 4099) = ⟨3 + (⟨q.val - k, by omega⟩ : Fin 4096).val, by simp only; omega⟩ := Fin.ext (by simp only; omega)
    rw [e, padded_high, rows_apply]
    refine congrArg p (congrArg₂ ix2 (Fin.ext ?_) (Fin.ext ?_))
    · show b.val * 4096 + (q.val - k) = (b.val * 4096 + q.val - k) % 65536
      omega
    · show 3072 + n.val = (3072 + n.val) % 8192
      omega
  · rw [if_neg hk]
    exact padded_low p b _ (by simp only; omega) n

/-- The four taps down a column. -/
def conv (p : FVec Ideal S65536x8192 .bf16) (w : FVec Ideal S4x1536 .f32) : FVec Ideal S16x4096x1536 .f32 :=
  addf (addf (addf
    (mulf (extractStridedSlice S16x4096x1536 ![0, 0, 0] (padded p) slices_S16x4099x1536_S16x4096x1536_0_0_0) (broadcastInDim S16x4096x1536 ![0, 1, 2] bcast_S1x1x1536_S16x4096x1536_0_1_2 (broadcastInDim S1x1x1536 ![2] bcast_S1536_S1x1x1536_2 (shapeCast S1536 (extractStridedSlice S1x1536 ![0, 0] w slices_S4x1536_S1x1536_0_0) shapeCasts_S1x1536_S1536))))
    (mulf (extractStridedSlice S16x4096x1536 ![0, 1, 0] (padded p) slices_S16x4099x1536_S16x4096x1536_0_1_0) (broadcastInDim S16x4096x1536 ![0, 1, 2] bcast_S1x1x1536_S16x4096x1536_0_1_2 (broadcastInDim S1x1x1536 ![2] bcast_S1536_S1x1x1536_2 (shapeCast S1536 (extractStridedSlice S1x1536 ![1, 0] w slices_S4x1536_S1x1536_1_0) shapeCasts_S1x1536_S1536)))))
    (mulf (extractStridedSlice S16x4096x1536 ![0, 2, 0] (padded p) slices_S16x4099x1536_S16x4096x1536_0_2_0) (broadcastInDim S16x4096x1536 ![0, 1, 2] bcast_S1x1x1536_S16x4096x1536_0_1_2 (broadcastInDim S1x1x1536 ![2] bcast_S1536_S1x1x1536_2 (shapeCast S1536 (extractStridedSlice S1x1536 ![2, 0] w slices_S4x1536_S1x1536_2_0) shapeCasts_S1x1536_S1536)))))
    (mulf (extractStridedSlice S16x4096x1536 ![0, 3, 0] (padded p) slices_S16x4099x1536_S16x4096x1536_0_3_0) (broadcastInDim S16x4096x1536 ![0, 1, 2] bcast_S1x1x1536_S16x4096x1536_0_1_2 (broadcastInDim S1x1x1536 ![2] bcast_S1536_S1x1x1536_2 (shapeCast S1536 (extractStridedSlice S1x1536 ![3, 0] w slices_S4x1536_S1x1536_3_0) shapeCasts_S1x1536_S1536))))

theorem conv_apply (p : FVec Ideal S65536x8192 .bf16) (w : FVec Ideal S4x1536 .f32) (b : Fin 16) (q : Fin 4096) (n : Fin 1536) :
    conv p w (ix3 b q n) = mix (tap (fun r k => p (ix2 r k)) (b.val * 4096 + q.val) 0 n.val) (tap (fun r k => p (ix2 r k)) (b.val * 4096 + q.val) 1 n.val)
      (tap (fun r k => p (ix2 r k)) (b.val * 4096 + q.val) 2 n.val) (tap (fun r k => p (ix2 r k)) (b.val * 4096 + q.val) 3 n.val) (fun k => w (ix2 k n)) := by
  have h0 := padded_tap p b q 0 3 rfl n
  have h1 := padded_tap p b q 1 2 rfl n
  have h2 := padded_tap p b q 2 1 rfl n
  have h3 := padded_tap p b q 3 0 rfl n
  have g : conv p w (ix3 b q n) = padded p (ix3 b (⟨0 + q.val, by omega⟩ : Fin 4099) n) * w (ix2 (0 : Fin 4) n) + padded p (ix3 b (⟨1 + q.val, by omega⟩ : Fin 4099) n) * w (ix2 (1 : Fin 4) n)
      + padded p (ix3 b (⟨2 + q.val, by omega⟩ : Fin 4099) n) * w (ix2 (2 : Fin 4) n) + padded p (ix3 b (⟨3 + q.val, by omega⟩ : Fin 4099) n) * w (ix2 (3 : Fin 4) n) := by
    unfold conv
    generalize padded p = y
    pointwise []
    try rfl
  rw [g, h0, h1, h2, h3]
  unfold mix
  generalize tap (fun r k => p (ix2 r k)) (b.val * 4096 + q.val) 0 n.val = a0
  generalize tap (fun r k => p (ix2 r k)) (b.val * 4096 + q.val) 1 n.val = a1
  generalize tap (fun r k => p (ix2 r k)) (b.val * 4096 + q.val) 2 n.val = a2
  generalize tap (fun r k => p (ix2 r k)) (b.val * 4096 + q.val) 3 n.val = a3
  ac_rfl

/-- The silu. -/
def silu (y : FVec Ideal S16x4096x1536 .f32) : FVec Ideal S16x4096x1536 .f32 :=
  mulf y (Host.divf (broadcastInDim S16x4096x1536 ![] bcast_S_S16x4096x1536 (constant S_ .f32 0x3F800000#32)) (addf (broadcastInDim S16x4096x1536 ![] bcast_S_S16x4096x1536 (constant S_ .f32 0x3F800000#32)) (Host.exp (Host.negf y))))

theorem silu_apply (y : FVec Ideal S16x4096x1536 .f32) (i : S16x4096x1536.Idx) : silu y i = act (y i) := by
  pointwise [silu]
  rfl

/-- The columns of one part in heads. -/
def heads (x : FVec Ideal S16x4096x512 .f32) : FVec Ideal S16x4096x4x128 .f32 := shapeCast S16x4096x4x128 x shapeCasts_S16x4096x512_S16x4096x4x128

theorem heads_apply (x : FVec Ideal S16x4096x512 .f32) (b : Fin 16) (q : Fin 4096) (h : Fin 4) (l : Fin 128) :
    heads x (ix4 b q h l) = x (ix3 b q (⟨h.val * 128 + l.val, by omega⟩ : Fin 512)) := by
  refine shapeCast_apply x _ (ix4 b q h l) _ ?_
  rw [Shape.rowMajor_val_three, Shape.rowMajor_val_four]
  show (b.val * 4096 + q.val) * 512 + (h.val * 128 + l.val) = ((b.val * 4096 + q.val) * 4 + h.val) * 128 + l.val
  omega

/-- The heads over their norms. -/
def normed (z : FVec Ideal S16x4096x4x128 .f32) : FVec Ideal S16x4096x4x128 .f32 :=
  mulf z (broadcastInDim S16x4096x4x128 ![0, 1, 2, 3] bcast_S16x4096x4x1_S16x4096x4x128_0_1_2_3 (Host.rsqrt (addf (broadcastInDim S16x4096x4x1 ![0, 1, 2] bcast_S16x4096x4_S16x4096x4x1_0_1_2 (Host.reduceAdd (mulf z z) (constant S_ .f32 0x00000000#32) reducesTo_S16x4096x4x128_S16x4096x4_d3 h_S_)) (broadcastInDim S16x4096x4x1 ![] bcast_S_S16x4096x4x1 (constant S_ .f32 0x358637BD#32)))))

theorem normed_apply (z : FVec Ideal S16x4096x4x128 .f32) (b : Fin 16) (q : Fin 4096) (h : Fin 4) (l : Fin 128) :
    normed z (ix4 b q h l) = z (ix4 b q h l) * overNorm (fun l => z (ix4 b q h l)) := by
  pointwise [normed]
  rfl

/-- The heads over the root of 128. -/
def scaled (z : FVec Ideal S16x4096x4x128 .f32) : FVec Ideal S16x4096x4x128 .f32 :=
  Host.divf z (broadcastInDim S16x4096x4x128 ![] bcast_S_S16x4096x4x128 (Host.sqrt (constant S_ .f32 0x43000000#32)))

theorem word128 : Ideal.ofBits .f32 0x43000000#32 = ((128 : ℝ) : EReal) := by
  simp [Ideal.ofBits, Ideal.ieee, -EReal.coe_mul]; norm_num

theorem over_root (x : EReal) : Ideal.div x (Ideal.sqrt (Ideal.ofBits .f32 0x43000000#32)) = x * (((Real.sqrt 128)⁻¹ : ℝ) : EReal) := by
  have hs : Ideal.sqrt ((128 : ℝ) : EReal) = ((Real.sqrt 128 : ℝ) : EReal) := by
    show (if (128 : ℝ) < 0 then (⊥ : EReal) else (Real.sqrt 128 : EReal)) = _
    rw [if_neg (by norm_num)]
  have hp : Real.sqrt 128 ≠ 0 := (Real.sqrt_pos.mpr (by norm_num)).ne'
  rw [word128, hs, Ideal.div_coe hp, one_div]

theorem scaled_apply (z : FVec Ideal S16x4096x4x128 .f32) (i : S16x4096x4x128.Idx) : scaled z i = z i * (((Real.sqrt 128)⁻¹ : ℝ) : EReal) := by
  rw [← over_root]
  pointwise [scaled]
  try rfl

/-- The heads side by side again. -/
def flat (z : FVec Ideal S16x4096x4x128 .f32) : FVec Ideal S16x4096x512 .f32 := shapeCast S16x4096x512 z shapeCasts_S16x4096x4x128_S16x4096x512

theorem flat_apply (z : FVec Ideal S16x4096x4x128 .f32) (b : Fin 16) (q : Fin 4096) (n : Fin 512) :
    flat z (ix3 b q n) = z (ix4 b q (⟨n.val / 128, by omega⟩ : Fin 4) (⟨n.val % 128, Nat.mod_lt _ (by decide)⟩ : Fin 128)) := by
  refine shapeCast_apply z _ (ix3 b q n) _ ?_
  rw [Shape.rowMajor_val_three, Shape.rowMajor_val_four]
  show ((b.val * 4096 + q.val) * 4 + n.val / 128) * 128 + n.val % 128 = (b.val * 4096 + q.val) * 512 + n.val
  omega

/-- The queries, the keys and the values of the columns. -/
def queries (y : FVec Ideal S16x4096x1536 .f32) : FVec Ideal S16x4096x512 .f32 := flat (scaled (normed (heads (extractStridedSlice S16x4096x512 ![0, 0, 0] y slices_S16x4096x1536_S16x4096x512_0_0_0))))
def keys (y : FVec Ideal S16x4096x1536 .f32) : FVec Ideal S16x4096x512 .f32 := flat (normed (heads (extractStridedSlice S16x4096x512 ![0, 0, 512] y slices_S16x4096x1536_S16x4096x512_0_0_512)))

theorem queries_apply (y : FVec Ideal S16x4096x1536 .f32) (b : Fin 16) (q : Fin 4096) (z : ℕ → EReal) (hz : ∀ n : Fin 1536, y (ix3 b q n) = z n.val) (n : Fin 512) :
    queries y (ix3 b q n) = z n.val * overNorm (fun l => z (128 * (n.val / 128) + l.val)) * (((Real.sqrt 128)⁻¹ : ℝ) : EReal) := by
  have e : ∀ l : Fin 128, heads (extractStridedSlice S16x4096x512 ![0, 0, 0] y slices_S16x4096x1536_S16x4096x512_0_0_0) (ix4 b q (⟨n.val / 128, by omega⟩ : Fin 4) l) = z (128 * (n.val / 128) + l.val) := fun l => by
    rw [heads_apply, show 128 * (n.val / 128) + l.val = (⟨n.val / 128 * 128 + l.val, by omega⟩ : Fin 1536).val by simp only; omega, ← hz]
    pointwise []
    try rfl
  unfold queries
  rw [flat_apply, scaled_apply, normed_apply, e]
  simp only [e]
  rw [show 128 * (n.val / 128) + n.val % 128 = n.val by omega]

theorem keys_apply (y : FVec Ideal S16x4096x1536 .f32) (b : Fin 16) (q : Fin 4096) (z : ℕ → EReal) (hz : ∀ n : Fin 1536, y (ix3 b q n) = z n.val) (n : Fin 512) :
    keys y (ix3 b q n) = z (512 + n.val) * overNorm (fun l => z (512 + (128 * (n.val / 128) + l.val))) := by
  have e : ∀ l : Fin 128, heads (extractStridedSlice S16x4096x512 ![0, 0, 512] y slices_S16x4096x1536_S16x4096x512_0_0_512) (ix4 b q (⟨n.val / 128, by omega⟩ : Fin 4) l) = z (512 + (128 * (n.val / 128) + l.val)) := fun l => by
    rw [heads_apply, show 512 + (128 * (n.val / 128) + l.val) = (⟨512 + (n.val / 128 * 128 + l.val), by omega⟩ : Fin 1536).val by simp only; omega, ← hz]
    pointwise []
    try rfl
  unfold keys
  rw [flat_apply, normed_apply, e]
  simp only [e]
  rw [show 128 * (n.val / 128) + n.val % 128 = n.val by omega]

/-- The three parts side by side. -/
def parts (y : FVec Ideal S16x4096x1536 .f32) : FVec Ideal S16x4096x1536 .f32 :=
  concatenate S16x4096x1536 2 [⟨S16x4096x512, ((queries y) : (⟨S16x4096x512, .f32⟩ : BufTy).Contents (Elt Ideal))⟩, ⟨S16x4096x512, ((keys y) : (⟨S16x4096x512, .f32⟩ : BufTy).Contents (Elt Ideal))⟩, ⟨S16x4096x512, ((extractStridedSlice S16x4096x512 ![0, 0, 1024] y slices_S16x4096x1536_S16x4096x512_0_0_1024) : (⟨S16x4096x512, .f32⟩ : BufTy).Contents (Elt Ideal))⟩] concatenates_S16x4096x512_S16x4096x512_S16x4096x512_S16x4096x1536_d2

theorem parts_apply (y : FVec Ideal S16x4096x1536 .f32) (b : Fin 16) (q : Fin 4096) (z : ℕ → EReal) (hz : ∀ n : Fin 1536, y (ix3 b q n) = z n.val) (n : Fin 1536) :
    parts y (ix3 b q n) = z n.val * factor (n.val / 128) (fun l => z (128 * (n.val / 128) + l.val)) := by
  have hq := queries_apply y b q z hz
  have hk := keys_apply y b q z hz
  unfold parts factor
  generalize queries y = u at hq ⊢
  generalize keys y = v at hk ⊢
  by_cases h0 : n.val < 512
  · rw [if_neg (by omega), if_pos (by omega), ← mul_assoc, ← hq ⟨n.val, h0⟩]
    pointwise []
    split_ifs <;> first | rfl | omega
  by_cases h1 : n.val < 1024
  · have h := hk ⟨n.val - 512, by omega⟩
    have e : ∀ l : Fin 128, 512 + (128 * ((n.val - 512) / 128) + l.val) = 128 * (n.val / 128) + l.val := fun l => by omega
    simp only [show 512 + (n.val - 512) = n.val by omega, e] at h
    rw [if_neg (by omega), if_neg (by omega), mul_one, ← h]
    pointwise []
    split_ifs <;> first | rfl | omega
  · rw [if_pos (by omega), mul_one, ← hz n]
    pointwise []
    split_ifs <;> first | omega | (refine congrArg y (congrArg (ix3 b q) (Fin.ext ?_)); simp only; omega)

/-- The reference's result. -/
def result (p : FVec Ideal S65536x8192 .bf16) (w : FVec Ideal S4x1536 .f32) : FVec Ideal S65536x1536 .f32 :=
  shapeCast S65536x1536 (parts (silu (conv p w))) shapeCasts_S16x4096x1536_S65536x1536

theorem result_apply (p : FVec Ideal S65536x8192 .bf16) (w : FVec Ideal S4x1536 .f32) (r : Fin 65536) (n : Fin 1536) :
    result p w (ix2 r n) = entry (fun r k => p (ix2 r k)) (fun k n => w (ix2 k n)) r.val (n.val / 128) (n.val % 128) := by
  refine (shapeCast_apply (parts (silu (conv p w))) _ (ix2 r n) (ix3 (⟨r.val / 4096, by omega⟩ : Fin 16) (⟨r.val % 4096, Nat.mod_lt _ (by decide)⟩ : Fin 4096) n) ?_).trans ?_
  · rw [Shape.rowMajor_val_two, Shape.rowMajor_val_three]
    show (r.val / 4096 * 4096 + r.val % 4096) * 1536 + n.val = r.val * 1536 + n.val
    omega
  · refine (parts_apply _ _ _ (convAt (fun r k => p (ix2 r k)) (fun k n => w (ix2 k n)) r.val) (fun n => ?_) n).trans ?_
    · rw [silu_apply, conv_apply]
      unfold convAt
      rw [show r.val / 4096 * 4096 + r.val % 4096 = r.val by omega, show Fin.ofNat 1536 n.val = n from Fin.ext (Nat.mod_eq_of_lt n.isLt)]
    · unfold entry
      rw [show 128 * (n.val / 128) + n.val % 128 = n.val by omega]

end Cert.Reference6Ideal.Conv

end
-- ==== Proof.ConvClaim.lean ====
/- The claims about the convolution. -/
module

public import proofs.«01_k».proof.Defs
public import proofs.«01_k».proof.Proof.Gen.Kernel6.Frame
public import proofs.«01_k».proof.Proof.Gen.Kernel6Ideal.Frame
public import proofs.«01_k».proof.Proof.ConvValue
public import proofs.«01_k».proof.Proof.ConvRef

@[expose] public section

noncomputable section

namespace Cert.Conv

open Idealize.ShloMosaic Idealize.ShloMosaic.TcCoe Idealize.SL.Sem

/-- The kernel's frame. -/
theorem frame_kernel : Cert.quiescent_Kernel6 := fun m ρ _ => Cert.Kernel6.Gen.frame (F := Bits) m ρ

/-- The one rounded literal named: one over the root of 128. -/
theorem preserves : Cert.preserves_Kernel6_Kernel6Ideal :=
  IdealRules.named_const.statement Cert.Kernel6Ideal.κ "unit" .f32 0x3DB504F3#32 (((Real.sqrt 128)⁻¹ : ℝ) : EReal) rfl

/-- The ideal kernel's frame. -/
theorem frame_ideal : Cert.quiescent_Kernel6Ideal := fun m ρ _ => Cert.Kernel6Ideal.Gen.frame (F := Ideal) m ρ

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference make the rows' entries. -/
theorem algebraic : Cert.algebraic_Kernel6Ideal_Reference6Ideal := fun m g m' g' _ hargs => by
  refine ⟨fun c => Cert.Kernel6Ideal.Conv.G2 m c, ?_, ?_⟩
  · exact (θ_run _ _ _).mono (fun r h c => ⟨h.1 c, h.2.1 c⟩)
      (θ_run_and (Cert.Kernel6Ideal.Conv.run_value m g) (Cert.Kernel6Ideal.Gen.frame m g))
  · refine (θ_run _ _ _).mono (fun r h c => ⟨?_, (h c).2⟩) (Cert.Reference6Ideal.Value.run m' g')
    refine (h c).1.trans (funext fun i => ?_)
    obtain ⟨h0, h1⟩ := hargs c
    obtain ⟨b, t, rfl⟩ : ∃ (b : Fin 65536) (t : Fin 1536), i = ix2 b t := by
      refine ⟨i 0, i 1, funext fun a => ?_⟩
      match a with
      | ⟨0, _⟩ => rfl
      | ⟨1, _⟩ => rfl
    refine (Cert.Reference6Ideal.Conv.result_apply _ _ b t).trans ?_
    rw [h0, h1]
    rfl

end Cert.Conv

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ScanClaim
public import proofs.«01_k».proof.Proof.ExpertClaim
public import proofs.«01_k».proof.Proof.DenseClaim
public import proofs.«01_k».proof.Proof.MergeClaim
public import proofs.«01_k».proof.Proof.InProjClaim
public import proofs.«01_k».proof.Proof.ConvClaim
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Pre_experts_exist
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem

/-- The claims about the recurrence, the expert layer, the dense layer, the merge, the input projection and the convolution: eighteen frames, the idealizations and the equalities with the references. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_experts_exist.Gen.facts,
    Cert.Scan.frame_kernel, Cert.Scan.frame_ideal, Cert.Scan.frame_reference,
    Cert.Experts.frame_kernel, Cert.Experts.frame_ideal, Cert.Experts.frame_reference,
    Cert.Dense.frame_kernel, Cert.Dense.frame_ideal, Cert.Dense.frame_reference,
    Cert.Merge.frame_kernel, Cert.Merge.frame_ideal, Cert.Merge.frame_reference,
    Cert.InProj.frame_kernel, Cert.InProj.frame_ideal, Cert.InProj.frame_reference,
    Cert.Conv.frame_kernel, Cert.Conv.frame_ideal, Cert.Conv.frame_reference,
    trivial, Cert.Scan.algebraic, trivial, Cert.Experts.algebraic, trivial, Cert.Dense.algebraic, trivial, Cert.Merge.algebraic,
    Cert.InProj.preserves, Cert.InProj.algebraic, Cert.Conv.preserves, Cert.Conv.algebraic⟩

end Cert.Proof

end
